-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_MoeUp (m : (ℓ : Loc Cert.MoeUp.nD Cert.MoeUp.τ Cert.MoeUp.sig) → Buf (Elt Bits) ℓ) : Prop :=
  True

def Pre_MoeUpIdeal (m : (ℓ : Loc Cert.MoeUpIdeal.nD Cert.MoeUpIdeal.τ Cert.MoeUpIdeal.sig) → Buf (Elt Ideal) ℓ) : Prop :=
  True

def Pre_MoeUpRefIdeal (m : (ℓ : Loc Cert.MoeUpRefIdeal.nD Cert.MoeUpRefIdeal.τ Cert.MoeUpRefIdeal.sig) → Buf (Elt Ideal) ℓ) : Prop :=
  True

def Pre_MoeDown (m : (ℓ : Loc Cert.MoeDown.nD Cert.MoeDown.τ Cert.MoeDown.sig) → Buf (Elt Bits) ℓ) : Prop :=
  True

def Pre_MoeDownIdeal (m : (ℓ : Loc Cert.MoeDownIdeal.nD Cert.MoeDownIdeal.τ Cert.MoeDownIdeal.sig) → Buf (Elt Ideal) ℓ) : Prop :=
  True

def Pre_MoeDownRefIdeal (m : (ℓ : Loc Cert.MoeDownRefIdeal.nD Cert.MoeDownRefIdeal.τ Cert.MoeDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_PrepD (m : (ℓ : Loc Cert.PrepD.nD Cert.PrepD.τ Cert.PrepD.sig) → Buf (Elt Bits) ℓ) : Prop :=
  True

def Pre_PrepDIdeal (m : (ℓ : Loc Cert.PrepDIdeal.nD Cert.PrepDIdeal.τ Cert.PrepDIdeal.sig) → Buf (Elt Ideal) ℓ) : Prop :=
  True

def Pre_PrepDIdeal_tables [hPre_tables : Cert.Pre_tables.Facts] (m : (ℓ : Loc Cert.PrepDIdeal.nD Cert.PrepDIdeal.τ Cert.PrepDIdeal.sig) → Buf (Elt Ideal) ℓ) : Prop :=
  ∀ c : Dev Cert.PrepDIdeal.nD,
    (Cert.Pre_tables.fn (F := Ideal) (m ((c.tc : Thread Cert.PrepDIdeal.nD Cert.PrepDIdeal.τ).loc Cert.PrepDIdeal.main_arg0)) (m ((c.tc : Thread Cert.PrepDIdeal.nD Cert.PrepDIdeal.τ).loc Cert.PrepDIdeal.main_arg1)) (m ((c.tc : Thread Cert.PrepDIdeal.nD Cert.PrepDIdeal.τ).loc Cert.PrepDIdeal.main_arg2)) (m ((c.tc : Thread Cert.PrepDIdeal.nD Cert.PrepDIdeal.τ).loc Cert.PrepDIdeal.main_arg3)) (m ((c.tc : Thread Cert.PrepDIdeal.nD Cert.PrepDIdeal.τ).loc Cert.PrepDIdeal.main_arg4)) (m ((c.tc : Thread Cert.PrepDIdeal.nD Cert.PrepDIdeal.τ).loc Cert.PrepDIdeal.main_arg5)) (m ((c.tc : Thread Cert.PrepDIdeal.nD Cert.PrepDIdeal.τ).loc Cert.PrepDIdeal.main_arg6)) (m ((c.tc : Thread Cert.PrepDIdeal.nD Cert.PrepDIdeal.τ).loc Cert.PrepDIdeal.main_arg7)) (m ((c.tc : Thread Cert.PrepDIdeal.nD Cert.PrepDIdeal.τ).loc Cert.PrepDIdeal.main_arg8))) = (fun _ => 1#1)

def Pre_PrepDRefIdeal (m : (ℓ : Loc Cert.PrepDRefIdeal.nD Cert.PrepDRefIdeal.τ Cert.PrepDRefIdeal.sig) → Buf (Elt Ideal) ℓ) : Prop :=
  True

def Pre_PrepDRefIdeal_tables [hPre_tables : Cert.Pre_tables.Facts] (m : (ℓ : Loc Cert.PrepDRefIdeal.nD Cert.PrepDRefIdeal.τ Cert.PrepDRefIdeal.sig) → Buf (Elt Ideal) ℓ) : Prop :=
  ∀ c : Dev Cert.PrepDRefIdeal.nD,
    (Cert.Pre_tables.fn (F := Ideal) (m ((c.tc : Thread Cert.PrepDRefIdeal.nD Cert.PrepDRefIdeal.τ).loc Cert.PrepDRefIdeal.main_arg0)) (m ((c.tc : Thread Cert.PrepDRefIdeal.nD Cert.PrepDRefIdeal.τ).loc Cert.PrepDRefIdeal.main_arg1)) (m ((c.tc : Thread Cert.PrepDRefIdeal.nD Cert.PrepDRefIdeal.τ).loc Cert.PrepDRefIdeal.main_arg2)) (m ((c.tc : Thread Cert.PrepDRefIdeal.nD Cert.PrepDRefIdeal.τ).loc Cert.PrepDRefIdeal.main_arg3)) (m ((c.tc : Thread Cert.PrepDRefIdeal.nD Cert.PrepDRefIdeal.τ).loc Cert.PrepDRefIdeal.main_arg4)) (m ((c.tc : Thread Cert.PrepDRefIdeal.nD Cert.PrepDRefIdeal.τ).loc Cert.PrepDRefIdeal.main_arg5)) (m ((c.tc : Thread Cert.PrepDRefIdeal.nD Cert.PrepDRefIdeal.τ).loc Cert.PrepDRefIdeal.main_arg6)) (m ((c.tc : Thread Cert.PrepDRefIdeal.nD Cert.PrepDRefIdeal.τ).loc Cert.PrepDRefIdeal.main_arg7)) (m ((c.tc : Thread Cert.PrepDRefIdeal.nD Cert.PrepDRefIdeal.τ).loc Cert.PrepDRefIdeal.main_arg8))) = (fun _ => 1#1)

def Pre_FlashD (m : (ℓ : Loc Cert.FlashD.nD Cert.FlashD.τ Cert.FlashD.sig) → Buf (Elt Bits) ℓ) : Prop :=
  True

def Pre_FlashDIdeal (m : (ℓ : Loc Cert.FlashDIdeal.nD Cert.FlashDIdeal.τ Cert.FlashDIdeal.sig) → Buf (Elt Ideal) ℓ) : Prop :=
  True

def Pre_FlashDIdeal_finite [hPre_finite : Cert.Pre_finite.Facts] (m : (ℓ : Loc Cert.FlashDIdeal.nD Cert.FlashDIdeal.τ Cert.FlashDIdeal.sig) → Buf (Elt Ideal) ℓ) : Prop :=
  ∀ c : Dev Cert.FlashDIdeal.nD,
    (Cert.Pre_finite.fn (F := Ideal) (m ((c.tc : Thread Cert.FlashDIdeal.nD Cert.FlashDIdeal.τ).loc Cert.FlashDIdeal.main_arg0)) (m ((c.tc : Thread Cert.FlashDIdeal.nD Cert.FlashDIdeal.τ).loc Cert.FlashDIdeal.main_arg1)) (m ((c.tc : Thread Cert.FlashDIdeal.nD Cert.FlashDIdeal.τ).loc Cert.FlashDIdeal.main_arg2))) = (fun _ => 1#1)

def Pre_FlashDRefIdeal (m : (ℓ : Loc Cert.FlashDRefIdeal.nD Cert.FlashDRefIdeal.τ Cert.FlashDRefIdeal.sig) → Buf (Elt Ideal) ℓ) : Prop :=
  True

def Pre_FlashDRefIdeal_finite [hPre_finite : Cert.Pre_finite.Facts] (m : (ℓ : Loc Cert.FlashDRefIdeal.nD Cert.FlashDRefIdeal.τ Cert.FlashDRefIdeal.sig) → Buf (Elt Ideal) ℓ) : Prop :=
  ∀ c : Dev Cert.FlashDRefIdeal.nD,
    (Cert.Pre_finite.fn (F := Ideal) (m ((c.tc : Thread Cert.FlashDRefIdeal.nD Cert.FlashDRefIdeal.τ).loc Cert.FlashDRefIdeal.main_arg0)) (m ((c.tc : Thread Cert.FlashDRefIdeal.nD Cert.FlashDRefIdeal.τ).loc Cert.FlashDRefIdeal.main_arg1)) (m ((c.tc : Thread Cert.FlashDRefIdeal.nD Cert.FlashDRefIdeal.τ).loc Cert.FlashDRefIdeal.main_arg2))) = (fun _ => 1#1)

def Pre_FlashC (m : (ℓ : Loc Cert.FlashC.nD Cert.FlashC.τ Cert.FlashC.sig) → Buf (Elt Bits) ℓ) : Prop :=
  True

def Pre_FlashCIdeal (m : (ℓ : Loc Cert.FlashCIdeal.nD Cert.FlashCIdeal.τ Cert.FlashCIdeal.sig) → Buf (Elt Ideal) ℓ) : Prop :=
  True

def Pre_FlashCIdeal_finite [hPre_finite : Cert.Pre_finite.Facts] (m : (ℓ : Loc Cert.FlashCIdeal.nD Cert.FlashCIdeal.τ Cert.FlashCIdeal.sig) → Buf (Elt Ideal) ℓ) : Prop :=
  ∀ c : Dev Cert.FlashCIdeal.nD,
    (Cert.Pre_finite.fn (F := Ideal) (m ((c.tc : Thread Cert.FlashCIdeal.nD Cert.FlashCIdeal.τ).loc Cert.FlashCIdeal.main_arg0)) (m ((c.tc : Thread Cert.FlashCIdeal.nD Cert.FlashCIdeal.τ).loc Cert.FlashCIdeal.main_arg1)) (m ((c.tc : Thread Cert.FlashCIdeal.nD Cert.FlashCIdeal.τ).loc Cert.FlashCIdeal.main_arg2))) = (fun _ => 1#1)

def Pre_FlashCRefIdeal (m : (ℓ : Loc Cert.FlashCRefIdeal.nD Cert.FlashCRefIdeal.τ Cert.FlashCRefIdeal.sig) → Buf (Elt Ideal) ℓ) : Prop :=
  True

def Pre_FlashCRefIdeal_finite [hPre_finite : Cert.Pre_finite.Facts] (m : (ℓ : Loc Cert.FlashCRefIdeal.nD Cert.FlashCRefIdeal.τ Cert.FlashCRefIdeal.sig) → Buf (Elt Ideal) ℓ) : Prop :=
  ∀ c : Dev Cert.FlashCRefIdeal.nD,
    (Cert.Pre_finite.fn (F := Ideal) (m ((c.tc : Thread Cert.FlashCRefIdeal.nD Cert.FlashCRefIdeal.τ).loc Cert.FlashCRefIdeal.main_arg0)) (m ((c.tc : Thread Cert.FlashCRefIdeal.nD Cert.FlashCRefIdeal.τ).loc Cert.FlashCRefIdeal.main_arg1)) (m ((c.tc : Thread Cert.FlashCRefIdeal.nD Cert.FlashCRefIdeal.τ).loc Cert.FlashCRefIdeal.main_arg2))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_MoeUp [hMoeUp : Cert.MoeUp.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3))
      ∧ r.2.sem = fun _ => 0)

def quiescent_MoeUpIdeal [hMoeUpIdeal : Cert.MoeUpIdeal.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ r.2.sem = fun _ => 0)

def quiescent_MoeUpRefIdeal [hMoeUpRefIdeal : Cert.MoeUpRefIdeal.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3))
      ∧ r.2.sem = fun _ => 0)

def quiescent_MoeDown [hMoeDown : Cert.MoeDown.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4)
      ∧ r.2.mem ((c.tc : Thread Cert.MoeDown.nD Cert.MoeDown.τ).loc Cert.MoeDown.main_arg5) = m ((c.tc : Thread Cert.MoeDown.nD Cert.MoeDown.τ).loc Cert.MoeDown.main_arg5))
      ∧ r.2.sem = fun _ => 0)

def quiescent_MoeDownIdeal [hMoeDownIdeal : Cert.MoeDownIdeal.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
      ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ r.2.sem = fun _ => 0)

def quiescent_MoeDownRefIdeal [hMoeDownRefIdeal : Cert.MoeDownRefIdeal.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3)
      ∧ r.2.mem ((c.tc : Thread Cert.MoeDownRefIdeal.nD Cert.MoeDownRefIdeal.τ).loc Cert.MoeDownRefIdeal.main_arg4) = m ((c.tc : Thread Cert.MoeDownRefIdeal.nD Cert.MoeDownRefIdeal.τ).loc Cert.MoeDownRefIdeal.main_arg4)
      ∧ r.2.mem ((c.tc : Thread Cert.MoeDownRefIdeal.nD Cert.MoeDownRefIdeal.τ).loc Cert.MoeDownRefIdeal.main_arg5) = m ((c.tc : Thread Cert.MoeDownRefIdeal.nD Cert.MoeDownRefIdeal.τ).loc Cert.MoeDownRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_PrepD [hPrepD : Cert.PrepD.Facts] : Prop :=
  ∀ (m : (ℓ : Loc Cert.PrepD.nD Cert.PrepD.τ Cert.PrepD.sig) → Buf (Elt Bits) ℓ) (g : Dev Cert.PrepD.nD → PrngReg), Pre_PrepD m →
    θ_run (Cert.PrepD.defs (F := Bits)) (onTc (τ := Cert.PrepD.τ) (Cert.PrepD.main (F := Bits))) ⟨m, fun _ => 0, g⟩ (fun r => (∀ c : Dev Cert.PrepD.nD,
      r.2.mem ((c.tc : Thread Cert.PrepD.nD Cert.PrepD.τ).loc Cert.PrepD.main_arg0) = m ((c.tc : Thread Cert.PrepD.nD Cert.PrepD.τ).loc Cert.PrepD.main_arg0)
      ∧ r.2.mem ((c.tc : Thread Cert.PrepD.nD Cert.PrepD.τ).loc Cert.PrepD.main_arg1) = m ((c.tc : Thread Cert.PrepD.nD Cert.PrepD.τ).loc Cert.PrepD.main_arg1)
      ∧ r.2.mem ((c.tc : Thread Cert.PrepD.nD Cert.PrepD.τ).loc Cert.PrepD.main_arg2) = m ((c.tc : Thread Cert.PrepD.nD Cert.PrepD.τ).loc Cert.PrepD.main_arg2)
      ∧ r.2.mem ((c.tc : Thread Cert.PrepD.nD Cert.PrepD.τ).loc Cert.PrepD.main_arg3) = m ((c.tc : Thread Cert.PrepD.nD Cert.PrepD.τ).loc Cert.PrepD.main_arg3)
      ∧ r.2.mem ((c.tc : Thread Cert.PrepD.nD Cert.PrepD.τ).loc Cert.PrepD.main_arg4) = m ((c.tc : Thread Cert.PrepD.nD Cert.PrepD.τ).loc Cert.PrepD.main_arg4)
      ∧ r.2.mem ((c.tc : Thread Cert.PrepD.nD Cert.PrepD.τ).loc Cert.PrepD.main_arg5) = m ((c.tc : Thread Cert.PrepD.nD Cert.PrepD.τ).loc Cert.PrepD.main_arg5)
      ∧ r.2.mem ((c.tc : Thread Cert.PrepD.nD Cert.PrepD.τ).loc Cert.PrepD.main_arg6) = m ((c.tc : Thread Cert.PrepD.nD Cert.PrepD.τ).loc Cert.PrepD.main_arg6)
      ∧ r.2.mem ((c.tc : Thread Cert.PrepD.nD Cert.PrepD.τ).loc Cert.PrepD.main_arg7) = m ((c.tc : Thread Cert.PrepD.nD Cert.PrepD.τ).loc Cert.PrepD.main_arg7)
      ∧ r.2.mem ((c.tc : Thread Cert.PrepD.nD Cert.PrepD.τ).loc Cert.PrepD.main_arg8) = m ((c.tc : Thread Cert.PrepD.nD Cert.PrepD.τ).loc Cert.PrepD.main_arg8))
      ∧ r.2.sem = fun _ => 0)

def quiescent_PrepDIdeal [hPrepDIdeal : Cert.PrepDIdeal.Facts] : Prop :=
  ∀ (m : (ℓ : Loc Cert.PrepDIdeal.nD Cert.PrepDIdeal.τ Cert.PrepDIdeal.sig) → Buf (Elt Ideal) ℓ) (g : Dev Cert.PrepDIdeal.nD → PrngReg), Pre_PrepDIdeal m →
    θ_run (Cert.PrepDIdeal.defs (F := Ideal)) (onTc (τ := Cert.PrepDIdeal.τ) (Cert.PrepDIdeal.main (F := Ideal))) ⟨m, fun _ => 0, g⟩ (fun r => (∀ c : Dev Cert.PrepDIdeal.nD,
      r.2.mem ((c.tc : Thread Cert.PrepDIdeal.nD Cert.PrepDIdeal.τ).loc Cert.PrepDIdeal.main_arg0) = m ((c.tc : Thread Cert.PrepDIdeal.nD Cert.PrepDIdeal.τ).loc Cert.PrepDIdeal.main_arg0)
      ∧ r.2.mem ((c.tc : Thread Cert.PrepDIdeal.nD Cert.PrepDIdeal.τ).loc Cert.PrepDIdeal.main_arg1) = m ((c.tc : Thread Cert.PrepDIdeal.nD Cert.PrepDIdeal.τ).loc Cert.PrepDIdeal.main_arg1)
      ∧ r.2.mem ((c.tc : Thread Cert.PrepDIdeal.nD Cert.PrepDIdeal.τ).loc Cert.PrepDIdeal.main_arg2) = m ((c.tc : Thread Cert.PrepDIdeal.nD Cert.PrepDIdeal.τ).loc Cert.PrepDIdeal.main_arg2)
      ∧ r.2.mem ((c.tc : Thread Cert.PrepDIdeal.nD Cert.PrepDIdeal.τ).loc Cert.PrepDIdeal.main_arg3) = m ((c.tc : Thread Cert.PrepDIdeal.nD Cert.PrepDIdeal.τ).loc Cert.PrepDIdeal.main_arg3)
      ∧ r.2.mem ((c.tc : Thread Cert.PrepDIdeal.nD Cert.PrepDIdeal.τ).loc Cert.PrepDIdeal.main_arg4) = m ((c.tc : Thread Cert.PrepDIdeal.nD Cert.PrepDIdeal.τ).loc Cert.PrepDIdeal.main_arg4)
      ∧ r.2.mem ((c.tc : Thread Cert.PrepDIdeal.nD Cert.PrepDIdeal.τ).loc Cert.PrepDIdeal.main_arg5) = m ((c.tc : Thread Cert.PrepDIdeal.nD Cert.PrepDIdeal.τ).loc Cert.PrepDIdeal.main_arg5)
      ∧ r.2.mem ((c.tc : Thread Cert.PrepDIdeal.nD Cert.PrepDIdeal.τ).loc Cert.PrepDIdeal.main_arg6) = m ((c.tc : Thread Cert.PrepDIdeal.nD Cert.PrepDIdeal.τ).loc Cert.PrepDIdeal.main_arg6)
      ∧ r.2.mem ((c.tc : Thread Cert.PrepDIdeal.nD Cert.PrepDIdeal.τ).loc Cert.PrepDIdeal.main_arg7) = m ((c.tc : Thread Cert.PrepDIdeal.nD Cert.PrepDIdeal.τ).loc Cert.PrepDIdeal.main_arg7)
      ∧ r.2.mem ((c.tc : Thread Cert.PrepDIdeal.nD Cert.PrepDIdeal.τ).loc Cert.PrepDIdeal.main_arg8) = m ((c.tc : Thread Cert.PrepDIdeal.nD Cert.PrepDIdeal.τ).loc Cert.PrepDIdeal.main_arg8))
      ∧ r.2.sem = fun _ => 0)

def quiescent_PrepDIdeal_pre_tables [hPrepDIdeal : Cert.PrepDIdeal.Facts] [hPre_tables : Cert.Pre_tables.Facts] : Prop :=
  ∀ (m : (ℓ : Loc Cert.PrepDIdeal.nD Cert.PrepDIdeal.τ Cert.PrepDIdeal.sig) → Buf (Elt Ideal) ℓ) (g : Dev Cert.PrepDIdeal.nD → PrngReg), Pre_PrepDIdeal_tables m →
    θ_run (Cert.PrepDIdeal.defs (F := Ideal)) (onTc (τ := Cert.PrepDIdeal.τ) (Cert.PrepDIdeal.main (F := Ideal))) ⟨m, fun _ => 0, g⟩ (fun r => (∀ c : Dev Cert.PrepDIdeal.nD,
      r.2.mem ((c.tc : Thread Cert.PrepDIdeal.nD Cert.PrepDIdeal.τ).loc Cert.PrepDIdeal.main_arg0) = m ((c.tc : Thread Cert.PrepDIdeal.nD Cert.PrepDIdeal.τ).loc Cert.PrepDIdeal.main_arg0)
      ∧ r.2.mem ((c.tc : Thread Cert.PrepDIdeal.nD Cert.PrepDIdeal.τ).loc Cert.PrepDIdeal.main_arg1) = m ((c.tc : Thread Cert.PrepDIdeal.nD Cert.PrepDIdeal.τ).loc Cert.PrepDIdeal.main_arg1)
      ∧ r.2.mem ((c.tc : Thread Cert.PrepDIdeal.nD Cert.PrepDIdeal.τ).loc Cert.PrepDIdeal.main_arg2) = m ((c.tc : Thread Cert.PrepDIdeal.nD Cert.PrepDIdeal.τ).loc Cert.PrepDIdeal.main_arg2)
      ∧ r.2.mem ((c.tc : Thread Cert.PrepDIdeal.nD Cert.PrepDIdeal.τ).loc Cert.PrepDIdeal.main_arg3) = m ((c.tc : Thread Cert.PrepDIdeal.nD Cert.PrepDIdeal.τ).loc Cert.PrepDIdeal.main_arg3)
      ∧ r.2.mem ((c.tc : Thread Cert.PrepDIdeal.nD Cert.PrepDIdeal.τ).loc Cert.PrepDIdeal.main_arg4) = m ((c.tc : Thread Cert.PrepDIdeal.nD Cert.PrepDIdeal.τ).loc Cert.PrepDIdeal.main_arg4)
      ∧ r.2.mem ((c.tc : Thread Cert.PrepDIdeal.nD Cert.PrepDIdeal.τ).loc Cert.PrepDIdeal.main_arg5) = m ((c.tc : Thread Cert.PrepDIdeal.nD Cert.PrepDIdeal.τ).loc Cert.PrepDIdeal.main_arg5)
      ∧ r.2.mem ((c.tc : Thread Cert.PrepDIdeal.nD Cert.PrepDIdeal.τ).loc Cert.PrepDIdeal.main_arg6) = m ((c.tc : Thread Cert.PrepDIdeal.nD Cert.PrepDIdeal.τ).loc Cert.PrepDIdeal.main_arg6)
      ∧ r.2.mem ((c.tc : Thread Cert.PrepDIdeal.nD Cert.PrepDIdeal.τ).loc Cert.PrepDIdeal.main_arg7) = m ((c.tc : Thread Cert.PrepDIdeal.nD Cert.PrepDIdeal.τ).loc Cert.PrepDIdeal.main_arg7)
      ∧ r.2.mem ((c.tc : Thread Cert.PrepDIdeal.nD Cert.PrepDIdeal.τ).loc Cert.PrepDIdeal.main_arg8) = m ((c.tc : Thread Cert.PrepDIdeal.nD Cert.PrepDIdeal.τ).loc Cert.PrepDIdeal.main_arg8))
      ∧ r.2.sem = fun _ => 0)

def quiescent_PrepDRefIdeal [hPrepDRefIdeal : Cert.PrepDRefIdeal.Facts] : Prop :=
  ∀ (m : (ℓ : Loc Cert.PrepDRefIdeal.nD Cert.PrepDRefIdeal.τ Cert.PrepDRefIdeal.sig) → Buf (Elt Ideal) ℓ) (g : Dev Cert.PrepDRefIdeal.nD → PrngReg), Pre_PrepDRefIdeal m →
    θ_run (Cert.PrepDRefIdeal.defs (F := Ideal)) (onTc (τ := Cert.PrepDRefIdeal.τ) (Cert.PrepDRefIdeal.main (F := Ideal))) ⟨m, fun _ => 0, g⟩ (fun r => (∀ c : Dev Cert.PrepDRefIdeal.nD,
      r.2.mem ((c.tc : Thread Cert.PrepDRefIdeal.nD Cert.PrepDRefIdeal.τ).loc Cert.PrepDRefIdeal.main_arg0) = m ((c.tc : Thread Cert.PrepDRefIdeal.nD Cert.PrepDRefIdeal.τ).loc Cert.PrepDRefIdeal.main_arg0)
      ∧ r.2.mem ((c.tc : Thread Cert.PrepDRefIdeal.nD Cert.PrepDRefIdeal.τ).loc Cert.PrepDRefIdeal.main_arg1) = m ((c.tc : Thread Cert.PrepDRefIdeal.nD Cert.PrepDRefIdeal.τ).loc Cert.PrepDRefIdeal.main_arg1)
      ∧ r.2.mem ((c.tc : Thread Cert.PrepDRefIdeal.nD Cert.PrepDRefIdeal.τ).loc Cert.PrepDRefIdeal.main_arg2) = m ((c.tc : Thread Cert.PrepDRefIdeal.nD Cert.PrepDRefIdeal.τ).loc Cert.PrepDRefIdeal.main_arg2)
      ∧ r.2.mem ((c.tc : Thread Cert.PrepDRefIdeal.nD Cert.PrepDRefIdeal.τ).loc Cert.PrepDRefIdeal.main_arg3) = m ((c.tc : Thread Cert.PrepDRefIdeal.nD Cert.PrepDRefIdeal.τ).loc Cert.PrepDRefIdeal.main_arg3)
      ∧ r.2.mem ((c.tc : Thread Cert.PrepDRefIdeal.nD Cert.PrepDRefIdeal.τ).loc Cert.PrepDRefIdeal.main_arg4) = m ((c.tc : Thread Cert.PrepDRefIdeal.nD Cert.PrepDRefIdeal.τ).loc Cert.PrepDRefIdeal.main_arg4)
      ∧ r.2.mem ((c.tc : Thread Cert.PrepDRefIdeal.nD Cert.PrepDRefIdeal.τ).loc Cert.PrepDRefIdeal.main_arg5) = m ((c.tc : Thread Cert.PrepDRefIdeal.nD Cert.PrepDRefIdeal.τ).loc Cert.PrepDRefIdeal.main_arg5)
      ∧ r.2.mem ((c.tc : Thread Cert.PrepDRefIdeal.nD Cert.PrepDRefIdeal.τ).loc Cert.PrepDRefIdeal.main_arg6) = m ((c.tc : Thread Cert.PrepDRefIdeal.nD Cert.PrepDRefIdeal.τ).loc Cert.PrepDRefIdeal.main_arg6)
      ∧ r.2.mem ((c.tc : Thread Cert.PrepDRefIdeal.nD Cert.PrepDRefIdeal.τ).loc Cert.PrepDRefIdeal.main_arg7) = m ((c.tc : Thread Cert.PrepDRefIdeal.nD Cert.PrepDRefIdeal.τ).loc Cert.PrepDRefIdeal.main_arg7)
      ∧ r.2.mem ((c.tc : Thread Cert.PrepDRefIdeal.nD Cert.PrepDRefIdeal.τ).loc Cert.PrepDRefIdeal.main_arg8) = m ((c.tc : Thread Cert.PrepDRefIdeal.nD Cert.PrepDRefIdeal.τ).loc Cert.PrepDRefIdeal.main_arg8))
      ∧ r.2.sem = fun _ => 0)

def quiescent_PrepDRefIdeal_pre_tables [hPrepDRefIdeal : Cert.PrepDRefIdeal.Facts] [hPre_tables : Cert.Pre_tables.Facts] : Prop :=
  ∀ (m : (ℓ : Loc Cert.PrepDRefIdeal.nD Cert.PrepDRefIdeal.τ Cert.PrepDRefIdeal.sig) → Buf (Elt Ideal) ℓ) (g : Dev Cert.PrepDRefIdeal.nD → PrngReg), Pre_PrepDRefIdeal_tables m →
    θ_run (Cert.PrepDRefIdeal.defs (F := Ideal)) (onTc (τ := Cert.PrepDRefIdeal.τ) (Cert.PrepDRefIdeal.main (F := Ideal))) ⟨m, fun _ => 0, g⟩ (fun r => (∀ c : Dev Cert.PrepDRefIdeal.nD,
      r.2.mem ((c.tc : Thread Cert.PrepDRefIdeal.nD Cert.PrepDRefIdeal.τ).loc Cert.PrepDRefIdeal.main_arg0) = m ((c.tc : Thread Cert.PrepDRefIdeal.nD Cert.PrepDRefIdeal.τ).loc Cert.PrepDRefIdeal.main_arg0)
      ∧ r.2.mem ((c.tc : Thread Cert.PrepDRefIdeal.nD Cert.PrepDRefIdeal.τ).loc Cert.PrepDRefIdeal.main_arg1) = m ((c.tc : Thread Cert.PrepDRefIdeal.nD Cert.PrepDRefIdeal.τ).loc Cert.PrepDRefIdeal.main_arg1)
      ∧ r.2.mem ((c.tc : Thread Cert.PrepDRefIdeal.nD Cert.PrepDRefIdeal.τ).loc Cert.PrepDRefIdeal.main_arg2) = m ((c.tc : Thread Cert.PrepDRefIdeal.nD Cert.PrepDRefIdeal.τ).loc Cert.PrepDRefIdeal.main_arg2)
      ∧ r.2.mem ((c.tc : Thread Cert.PrepDRefIdeal.nD Cert.PrepDRefIdeal.τ).loc Cert.PrepDRefIdeal.main_arg3) = m ((c.tc : Thread Cert.PrepDRefIdeal.nD Cert.PrepDRefIdeal.τ).loc Cert.PrepDRefIdeal.main_arg3)
      ∧ r.2.mem ((c.tc : Thread Cert.PrepDRefIdeal.nD Cert.PrepDRefIdeal.τ).loc Cert.PrepDRefIdeal.main_arg4) = m ((c.tc : Thread Cert.PrepDRefIdeal.nD Cert.PrepDRefIdeal.τ).loc Cert.PrepDRefIdeal.main_arg4)
      ∧ r.2.mem ((c.tc : Thread Cert.PrepDRefIdeal.nD Cert.PrepDRefIdeal.τ).loc Cert.PrepDRefIdeal.main_arg5) = m ((c.tc : Thread Cert.PrepDRefIdeal.nD Cert.PrepDRefIdeal.τ).loc Cert.PrepDRefIdeal.main_arg5)
      ∧ r.2.mem ((c.tc : Thread Cert.PrepDRefIdeal.nD Cert.PrepDRefIdeal.τ).loc Cert.PrepDRefIdeal.main_arg6) = m ((c.tc : Thread Cert.PrepDRefIdeal.nD Cert.PrepDRefIdeal.τ).loc Cert.PrepDRefIdeal.main_arg6)
      ∧ r.2.mem ((c.tc : Thread Cert.PrepDRefIdeal.nD Cert.PrepDRefIdeal.τ).loc Cert.PrepDRefIdeal.main_arg7) = m ((c.tc : Thread Cert.PrepDRefIdeal.nD Cert.PrepDRefIdeal.τ).loc Cert.PrepDRefIdeal.main_arg7)
      ∧ r.2.mem ((c.tc : Thread Cert.PrepDRefIdeal.nD Cert.PrepDRefIdeal.τ).loc Cert.PrepDRefIdeal.main_arg8) = m ((c.tc : Thread Cert.PrepDRefIdeal.nD Cert.PrepDRefIdeal.τ).loc Cert.PrepDRefIdeal.main_arg8))
      ∧ r.2.sem = fun _ => 0)

def quiescent_FlashD [hFlashD : Cert.FlashD.Facts] : Prop :=
  ∀ (m : (ℓ : Loc Cert.FlashD.nD Cert.FlashD.τ Cert.FlashD.sig) → Buf (Elt Bits) ℓ) (g : Dev Cert.FlashD.nD → PrngReg), Pre_FlashD m →
    θ_run (Cert.FlashD.defs (F := Bits)) (onTc (τ := Cert.FlashD.τ) (Cert.FlashD.main (F := Bits))) ⟨m, fun _ => 0, g⟩ (fun r => (∀ c : Dev Cert.FlashD.nD,
      r.2.mem ((c.tc : Thread Cert.FlashD.nD Cert.FlashD.τ).loc Cert.FlashD.main_arg0) = m ((c.tc : Thread Cert.FlashD.nD Cert.FlashD.τ).loc Cert.FlashD.main_arg0)
      ∧ r.2.mem ((c.tc : Thread Cert.FlashD.nD Cert.FlashD.τ).loc Cert.FlashD.main_arg1) = m ((c.tc : Thread Cert.FlashD.nD Cert.FlashD.τ).loc Cert.FlashD.main_arg1)
      ∧ r.2.mem ((c.tc : Thread Cert.FlashD.nD Cert.FlashD.τ).loc Cert.FlashD.main_arg2) = m ((c.tc : Thread Cert.FlashD.nD Cert.FlashD.τ).loc Cert.FlashD.main_arg2))
      ∧ r.2.sem = fun _ => 0)

def quiescent_FlashDIdeal [hFlashDIdeal : Cert.FlashDIdeal.Facts] : Prop :=
  ∀ (m : (ℓ : Loc Cert.FlashDIdeal.nD Cert.FlashDIdeal.τ Cert.FlashDIdeal.sig) → Buf (Elt Ideal) ℓ) (g : Dev Cert.FlashDIdeal.nD → PrngReg), Pre_FlashDIdeal m →
    θ_run (Cert.FlashDIdeal.defs (F := Ideal)) (onTc (τ := Cert.FlashDIdeal.τ) (Cert.FlashDIdeal.main (F := Ideal))) ⟨m, fun _ => 0, g⟩ (fun r => (∀ c : Dev Cert.FlashDIdeal.nD,
      r.2.mem ((c.tc : Thread Cert.FlashDIdeal.nD Cert.FlashDIdeal.τ).loc Cert.FlashDIdeal.main_arg0) = m ((c.tc : Thread Cert.FlashDIdeal.nD Cert.FlashDIdeal.τ).loc Cert.FlashDIdeal.main_arg0)
      ∧ r.2.mem ((c.tc : Thread Cert.FlashDIdeal.nD Cert.FlashDIdeal.τ).loc Cert.FlashDIdeal.main_arg1) = m ((c.tc : Thread Cert.FlashDIdeal.nD Cert.FlashDIdeal.τ).loc Cert.FlashDIdeal.main_arg1)
      ∧ r.2.mem ((c.tc : Thread Cert.FlashDIdeal.nD Cert.FlashDIdeal.τ).loc Cert.FlashDIdeal.main_arg2) = m ((c.tc : Thread Cert.FlashDIdeal.nD Cert.FlashDIdeal.τ).loc Cert.FlashDIdeal.main_arg2))
      ∧ r.2.sem = fun _ => 0)

def quiescent_FlashDIdeal_pre_finite [hFlashDIdeal : Cert.FlashDIdeal.Facts] [hPre_finite : Cert.Pre_finite.Facts] : Prop :=
  ∀ (m : (ℓ : Loc Cert.FlashDIdeal.nD Cert.FlashDIdeal.τ Cert.FlashDIdeal.sig) → Buf (Elt Ideal) ℓ) (g : Dev Cert.FlashDIdeal.nD → PrngReg), Pre_FlashDIdeal_finite m →
    θ_run (Cert.FlashDIdeal.defs (F := Ideal)) (onTc (τ := Cert.FlashDIdeal.τ) (Cert.FlashDIdeal.main (F := Ideal))) ⟨m, fun _ => 0, g⟩ (fun r => (∀ c : Dev Cert.FlashDIdeal.nD,
      r.2.mem ((c.tc : Thread Cert.FlashDIdeal.nD Cert.FlashDIdeal.τ).loc Cert.FlashDIdeal.main_arg0) = m ((c.tc : Thread Cert.FlashDIdeal.nD Cert.FlashDIdeal.τ).loc Cert.FlashDIdeal.main_arg0)
      ∧ r.2.mem ((c.tc : Thread Cert.FlashDIdeal.nD Cert.FlashDIdeal.τ).loc Cert.FlashDIdeal.main_arg1) = m ((c.tc : Thread Cert.FlashDIdeal.nD Cert.FlashDIdeal.τ).loc Cert.FlashDIdeal.main_arg1)
      ∧ r.2.mem ((c.tc : Thread Cert.FlashDIdeal.nD Cert.FlashDIdeal.τ).loc Cert.FlashDIdeal.main_arg2) = m ((c.tc : Thread Cert.FlashDIdeal.nD Cert.FlashDIdeal.τ).loc Cert.FlashDIdeal.main_arg2))
      ∧ r.2.sem = fun _ => 0)

def quiescent_FlashDRefIdeal [hFlashDRefIdeal : Cert.FlashDRefIdeal.Facts] : Prop :=
  ∀ (m : (ℓ : Loc Cert.FlashDRefIdeal.nD Cert.FlashDRefIdeal.τ Cert.FlashDRefIdeal.sig) → Buf (Elt Ideal) ℓ) (g : Dev Cert.FlashDRefIdeal.nD → PrngReg), Pre_FlashDRefIdeal m →
    θ_run (Cert.FlashDRefIdeal.defs (F := Ideal)) (onTc (τ := Cert.FlashDRefIdeal.τ) (Cert.FlashDRefIdeal.main (F := Ideal))) ⟨m, fun _ => 0, g⟩ (fun r => (∀ c : Dev Cert.FlashDRefIdeal.nD,
      r.2.mem ((c.tc : Thread Cert.FlashDRefIdeal.nD Cert.FlashDRefIdeal.τ).loc Cert.FlashDRefIdeal.main_arg0) = m ((c.tc : Thread Cert.FlashDRefIdeal.nD Cert.FlashDRefIdeal.τ).loc Cert.FlashDRefIdeal.main_arg0)
      ∧ r.2.mem ((c.tc : Thread Cert.FlashDRefIdeal.nD Cert.FlashDRefIdeal.τ).loc Cert.FlashDRefIdeal.main_arg1) = m ((c.tc : Thread Cert.FlashDRefIdeal.nD Cert.FlashDRefIdeal.τ).loc Cert.FlashDRefIdeal.main_arg1)
      ∧ r.2.mem ((c.tc : Thread Cert.FlashDRefIdeal.nD Cert.FlashDRefIdeal.τ).loc Cert.FlashDRefIdeal.main_arg2) = m ((c.tc : Thread Cert.FlashDRefIdeal.nD Cert.FlashDRefIdeal.τ).loc Cert.FlashDRefIdeal.main_arg2))
      ∧ r.2.sem = fun _ => 0)

def quiescent_FlashDRefIdeal_pre_finite [hFlashDRefIdeal : Cert.FlashDRefIdeal.Facts] [hPre_finite : Cert.Pre_finite.Facts] : Prop :=
  ∀ (m : (ℓ : Loc Cert.FlashDRefIdeal.nD Cert.FlashDRefIdeal.τ Cert.FlashDRefIdeal.sig) → Buf (Elt Ideal) ℓ) (g : Dev Cert.FlashDRefIdeal.nD → PrngReg), Pre_FlashDRefIdeal_finite m →
    θ_run (Cert.FlashDRefIdeal.defs (F := Ideal)) (onTc (τ := Cert.FlashDRefIdeal.τ) (Cert.FlashDRefIdeal.main (F := Ideal))) ⟨m, fun _ => 0, g⟩ (fun r => (∀ c : Dev Cert.FlashDRefIdeal.nD,
      r.2.mem ((c.tc : Thread Cert.FlashDRefIdeal.nD Cert.FlashDRefIdeal.τ).loc Cert.FlashDRefIdeal.main_arg0) = m ((c.tc : Thread Cert.FlashDRefIdeal.nD Cert.FlashDRefIdeal.τ).loc Cert.FlashDRefIdeal.main_arg0)
      ∧ r.2.mem ((c.tc : Thread Cert.FlashDRefIdeal.nD Cert.FlashDRefIdeal.τ).loc Cert.FlashDRefIdeal.main_arg1) = m ((c.tc : Thread Cert.FlashDRefIdeal.nD Cert.FlashDRefIdeal.τ).loc Cert.FlashDRefIdeal.main_arg1)
      ∧ r.2.mem ((c.tc : Thread Cert.FlashDRefIdeal.nD Cert.FlashDRefIdeal.τ).loc Cert.FlashDRefIdeal.main_arg2) = m ((c.tc : Thread Cert.FlashDRefIdeal.nD Cert.FlashDRefIdeal.τ).loc Cert.FlashDRefIdeal.main_arg2))
      ∧ r.2.sem = fun _ => 0)

def quiescent_FlashC [hFlashC : Cert.FlashC.Facts] : Prop :=
  ∀ (m : (ℓ : Loc Cert.FlashC.nD Cert.FlashC.τ Cert.FlashC.sig) → Buf (Elt Bits) ℓ) (g : Dev Cert.FlashC.nD → PrngReg), Pre_FlashC m →
    θ_run (Cert.FlashC.defs (F := Bits)) (onTc (τ := Cert.FlashC.τ) (Cert.FlashC.main (F := Bits))) ⟨m, fun _ => 0, g⟩ (fun r => (∀ c : Dev Cert.FlashC.nD,
      r.2.mem ((c.tc : Thread Cert.FlashC.nD Cert.FlashC.τ).loc Cert.FlashC.main_arg0) = m ((c.tc : Thread Cert.FlashC.nD Cert.FlashC.τ).loc Cert.FlashC.main_arg0)
      ∧ r.2.mem ((c.tc : Thread Cert.FlashC.nD Cert.FlashC.τ).loc Cert.FlashC.main_arg1) = m ((c.tc : Thread Cert.FlashC.nD Cert.FlashC.τ).loc Cert.FlashC.main_arg1)
      ∧ r.2.mem ((c.tc : Thread Cert.FlashC.nD Cert.FlashC.τ).loc Cert.FlashC.main_arg2) = m ((c.tc : Thread Cert.FlashC.nD Cert.FlashC.τ).loc Cert.FlashC.main_arg2))
      ∧ r.2.sem = fun _ => 0)

def quiescent_FlashCIdeal [hFlashCIdeal : Cert.FlashCIdeal.Facts] : Prop :=
  ∀ (m : (ℓ : Loc Cert.FlashCIdeal.nD Cert.FlashCIdeal.τ Cert.FlashCIdeal.sig) → Buf (Elt Ideal) ℓ) (g : Dev Cert.FlashCIdeal.nD → PrngReg), Pre_FlashCIdeal m →
    θ_run (Cert.FlashCIdeal.defs (F := Ideal)) (onTc (τ := Cert.FlashCIdeal.τ) (Cert.FlashCIdeal.main (F := Ideal))) ⟨m, fun _ => 0, g⟩ (fun r => (∀ c : Dev Cert.FlashCIdeal.nD,
      r.2.mem ((c.tc : Thread Cert.FlashCIdeal.nD Cert.FlashCIdeal.τ).loc Cert.FlashCIdeal.main_arg0) = m ((c.tc : Thread Cert.FlashCIdeal.nD Cert.FlashCIdeal.τ).loc Cert.FlashCIdeal.main_arg0)
      ∧ r.2.mem ((c.tc : Thread Cert.FlashCIdeal.nD Cert.FlashCIdeal.τ).loc Cert.FlashCIdeal.main_arg1) = m ((c.tc : Thread Cert.FlashCIdeal.nD Cert.FlashCIdeal.τ).loc Cert.FlashCIdeal.main_arg1)
      ∧ r.2.mem ((c.tc : Thread Cert.FlashCIdeal.nD Cert.FlashCIdeal.τ).loc Cert.FlashCIdeal.main_arg2) = m ((c.tc : Thread Cert.FlashCIdeal.nD Cert.FlashCIdeal.τ).loc Cert.FlashCIdeal.main_arg2))
      ∧ r.2.sem = fun _ => 0)

def quiescent_FlashCIdeal_pre_finite [hFlashCIdeal : Cert.FlashCIdeal.Facts] [hPre_finite : Cert.Pre_finite.Facts] : Prop :=
  ∀ (m : (ℓ : Loc Cert.FlashCIdeal.nD Cert.FlashCIdeal.τ Cert.FlashCIdeal.sig) → Buf (Elt Ideal) ℓ) (g : Dev Cert.FlashCIdeal.nD → PrngReg), Pre_FlashCIdeal_finite m →
    θ_run (Cert.FlashCIdeal.defs (F := Ideal)) (onTc (τ := Cert.FlashCIdeal.τ) (Cert.FlashCIdeal.main (F := Ideal))) ⟨m, fun _ => 0, g⟩ (fun r => (∀ c : Dev Cert.FlashCIdeal.nD,
      r.2.mem ((c.tc : Thread Cert.FlashCIdeal.nD Cert.FlashCIdeal.τ).loc Cert.FlashCIdeal.main_arg0) = m ((c.tc : Thread Cert.FlashCIdeal.nD Cert.FlashCIdeal.τ).loc Cert.FlashCIdeal.main_arg0)
      ∧ r.2.mem ((c.tc : Thread Cert.FlashCIdeal.nD Cert.FlashCIdeal.τ).loc Cert.FlashCIdeal.main_arg1) = m ((c.tc : Thread Cert.FlashCIdeal.nD Cert.FlashCIdeal.τ).loc Cert.FlashCIdeal.main_arg1)
      ∧ r.2.mem ((c.tc : Thread Cert.FlashCIdeal.nD Cert.FlashCIdeal.τ).loc Cert.FlashCIdeal.main_arg2) = m ((c.tc : Thread Cert.FlashCIdeal.nD Cert.FlashCIdeal.τ).loc Cert.FlashCIdeal.main_arg2))
      ∧ r.2.sem = fun _ => 0)

def quiescent_FlashCRefIdeal [hFlashCRefIdeal : Cert.FlashCRefIdeal.Facts] : Prop :=
  ∀ (m : (ℓ : Loc Cert.FlashCRefIdeal.nD Cert.FlashCRefIdeal.τ Cert.FlashCRefIdeal.sig) → Buf (Elt Ideal) ℓ) (g : Dev Cert.FlashCRefIdeal.nD → PrngReg), Pre_FlashCRefIdeal m →
    θ_run (Cert.FlashCRefIdeal.defs (F := Ideal)) (onTc (τ := Cert.FlashCRefIdeal.τ) (Cert.FlashCRefIdeal.main (F := Ideal))) ⟨m, fun _ => 0, g⟩ (fun r => (∀ c : Dev Cert.FlashCRefIdeal.nD,
      r.2.mem ((c.tc : Thread Cert.FlashCRefIdeal.nD Cert.FlashCRefIdeal.τ).loc Cert.FlashCRefIdeal.main_arg0) = m ((c.tc : Thread Cert.FlashCRefIdeal.nD Cert.FlashCRefIdeal.τ).loc Cert.FlashCRefIdeal.main_arg0)
      ∧ r.2.mem ((c.tc : Thread Cert.FlashCRefIdeal.nD Cert.FlashCRefIdeal.τ).loc Cert.FlashCRefIdeal.main_arg1) = m ((c.tc : Thread Cert.FlashCRefIdeal.nD Cert.FlashCRefIdeal.τ).loc Cert.FlashCRefIdeal.main_arg1)
      ∧ r.2.mem ((c.tc : Thread Cert.FlashCRefIdeal.nD Cert.FlashCRefIdeal.τ).loc Cert.FlashCRefIdeal.main_arg2) = m ((c.tc : Thread Cert.FlashCRefIdeal.nD Cert.FlashCRefIdeal.τ).loc Cert.FlashCRefIdeal.main_arg2))
      ∧ r.2.sem = fun _ => 0)

def quiescent_FlashCRefIdeal_pre_finite [hFlashCRefIdeal : Cert.FlashCRefIdeal.Facts] [hPre_finite : Cert.Pre_finite.Facts] : Prop :=
  ∀ (m : (ℓ : Loc Cert.FlashCRefIdeal.nD Cert.FlashCRefIdeal.τ Cert.FlashCRefIdeal.sig) → Buf (Elt Ideal) ℓ) (g : Dev Cert.FlashCRefIdeal.nD → PrngReg), Pre_FlashCRefIdeal_finite m →
    θ_run (Cert.FlashCRefIdeal.defs (F := Ideal)) (onTc (τ := Cert.FlashCRefIdeal.τ) (Cert.FlashCRefIdeal.main (F := Ideal))) ⟨m, fun _ => 0, g⟩ (fun r => (∀ c : Dev Cert.FlashCRefIdeal.nD,
      r.2.mem ((c.tc : Thread Cert.FlashCRefIdeal.nD Cert.FlashCRefIdeal.τ).loc Cert.FlashCRefIdeal.main_arg0) = m ((c.tc : Thread Cert.FlashCRefIdeal.nD Cert.FlashCRefIdeal.τ).loc Cert.FlashCRefIdeal.main_arg0)
      ∧ r.2.mem ((c.tc : Thread Cert.FlashCRefIdeal.nD Cert.FlashCRefIdeal.τ).loc Cert.FlashCRefIdeal.main_arg1) = m ((c.tc : Thread Cert.FlashCRefIdeal.nD Cert.FlashCRefIdeal.τ).loc Cert.FlashCRefIdeal.main_arg1)
      ∧ r.2.mem ((c.tc : Thread Cert.FlashCRefIdeal.nD Cert.FlashCRefIdeal.τ).loc Cert.FlashCRefIdeal.main_arg2) = m ((c.tc : Thread Cert.FlashCRefIdeal.nD Cert.FlashCRefIdeal.τ).loc Cert.FlashCRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v82) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v0)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v6) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_MoeUp_MoeUpIdeal : Prop :=
  True

def algebraic_MoeUpIdeal_MoeUpRefIdeal [hMoeUpIdeal : Cert.MoeUpIdeal.Facts] [hMoeUpRefIdeal : Cert.MoeUpRefIdeal.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)) →
    ∃ (v0 : (c : Dev Cert.MoeUpIdeal.nD) → Buf (Elt Ideal) ((c.tc : Thread Cert.MoeUpIdeal.nD Cert.MoeUpIdeal.τ).loc Cert.MoeUpIdeal.main_v3)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v3) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v31) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3))

def preserves_MoeDown_MoeDownIdeal : Prop :=
  True

def algebraic_MoeDownIdeal_MoeDownRefIdeal [hMoeDownIdeal : Cert.MoeDownIdeal.Facts] [hMoeDownRefIdeal : Cert.MoeDownRefIdeal.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)
      ∧ m' ((c.tc : Thread Cert.MoeDownRefIdeal.nD Cert.MoeDownRefIdeal.τ).loc Cert.MoeDownRefIdeal.main_arg4) = m ((c.tc : Thread Cert.MoeDownIdeal.nD Cert.MoeDownIdeal.τ).loc Cert.MoeDownIdeal.main_arg4)
      ∧ m' ((c.tc : Thread Cert.MoeDownRefIdeal.nD Cert.MoeDownRefIdeal.τ).loc Cert.MoeDownRefIdeal.main_arg5) = m ((c.tc : Thread Cert.MoeDownIdeal.nD Cert.MoeDownIdeal.τ).loc Cert.MoeDownIdeal.main_arg5)) →
    ∃ (v0 : (c : Dev Cert.MoeDownIdeal.nD) → Buf (Elt Ideal) ((c.tc : Thread Cert.MoeDownIdeal.nD Cert.MoeDownIdeal.τ).loc Cert.MoeDownIdeal.main_v5)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v5) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
          ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v12) = v0 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3)
          ∧ r.2.mem ((c.tc : Thread Cert.MoeDownRefIdeal.nD Cert.MoeDownRefIdeal.τ).loc Cert.MoeDownRefIdeal.main_arg4) = m' ((c.tc : Thread Cert.MoeDownRefIdeal.nD Cert.MoeDownRefIdeal.τ).loc Cert.MoeDownRefIdeal.main_arg4)
          ∧ r.2.mem ((c.tc : Thread Cert.MoeDownRefIdeal.nD Cert.MoeDownRefIdeal.τ).loc Cert.MoeDownRefIdeal.main_arg5) = m' ((c.tc : Thread Cert.MoeDownRefIdeal.nD Cert.MoeDownRefIdeal.τ).loc Cert.MoeDownRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v10) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v3) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_PrepD_PrepDIdeal : Prop :=
  IdealRules.named_const.Statement Cert.PrepDIdeal.κ "part" .f32 0x3BAAAAAB#32 ((1 / 192 : ℝ) : EReal)

def algebraic_PrepDIdeal_PrepDRefIdeal_pre_tables [hPrepDIdeal : Cert.PrepDIdeal.Facts] [hPrepDRefIdeal : Cert.PrepDRefIdeal.Facts] [hPre_tables : Cert.Pre_tables.Facts] : Prop :=
  ∀ (m : (ℓ : Loc Cert.PrepDIdeal.nD Cert.PrepDIdeal.τ Cert.PrepDIdeal.sig) → Buf (Elt Ideal) ℓ) (g : Dev Cert.PrepDIdeal.nD → PrngReg)
    (m' : (ℓ : Loc Cert.PrepDRefIdeal.nD Cert.PrepDRefIdeal.τ Cert.PrepDRefIdeal.sig) → Buf (Elt Ideal) ℓ) (g' : Dev Cert.PrepDRefIdeal.nD → PrngReg), Pre_PrepDIdeal_tables m →
    (∀ c : Dev Cert.PrepDIdeal.nD,
      m' ((c.tc : Thread Cert.PrepDRefIdeal.nD Cert.PrepDRefIdeal.τ).loc Cert.PrepDRefIdeal.main_arg0) = m ((c.tc : Thread Cert.PrepDIdeal.nD Cert.PrepDIdeal.τ).loc Cert.PrepDIdeal.main_arg0)
      ∧ m' ((c.tc : Thread Cert.PrepDRefIdeal.nD Cert.PrepDRefIdeal.τ).loc Cert.PrepDRefIdeal.main_arg1) = m ((c.tc : Thread Cert.PrepDIdeal.nD Cert.PrepDIdeal.τ).loc Cert.PrepDIdeal.main_arg1)
      ∧ m' ((c.tc : Thread Cert.PrepDRefIdeal.nD Cert.PrepDRefIdeal.τ).loc Cert.PrepDRefIdeal.main_arg2) = m ((c.tc : Thread Cert.PrepDIdeal.nD Cert.PrepDIdeal.τ).loc Cert.PrepDIdeal.main_arg2)
      ∧ m' ((c.tc : Thread Cert.PrepDRefIdeal.nD Cert.PrepDRefIdeal.τ).loc Cert.PrepDRefIdeal.main_arg3) = m ((c.tc : Thread Cert.PrepDIdeal.nD Cert.PrepDIdeal.τ).loc Cert.PrepDIdeal.main_arg3)
      ∧ m' ((c.tc : Thread Cert.PrepDRefIdeal.nD Cert.PrepDRefIdeal.τ).loc Cert.PrepDRefIdeal.main_arg4) = m ((c.tc : Thread Cert.PrepDIdeal.nD Cert.PrepDIdeal.τ).loc Cert.PrepDIdeal.main_arg4)
      ∧ m' ((c.tc : Thread Cert.PrepDRefIdeal.nD Cert.PrepDRefIdeal.τ).loc Cert.PrepDRefIdeal.main_arg5) = m ((c.tc : Thread Cert.PrepDIdeal.nD Cert.PrepDIdeal.τ).loc Cert.PrepDIdeal.main_arg5)
      ∧ m' ((c.tc : Thread Cert.PrepDRefIdeal.nD Cert.PrepDRefIdeal.τ).loc Cert.PrepDRefIdeal.main_arg6) = m ((c.tc : Thread Cert.PrepDIdeal.nD Cert.PrepDIdeal.τ).loc Cert.PrepDIdeal.main_arg6)
      ∧ m' ((c.tc : Thread Cert.PrepDRefIdeal.nD Cert.PrepDRefIdeal.τ).loc Cert.PrepDRefIdeal.main_arg7) = m ((c.tc : Thread Cert.PrepDIdeal.nD Cert.PrepDIdeal.τ).loc Cert.PrepDIdeal.main_arg7)
      ∧ m' ((c.tc : Thread Cert.PrepDRefIdeal.nD Cert.PrepDRefIdeal.τ).loc Cert.PrepDRefIdeal.main_arg8) = m ((c.tc : Thread Cert.PrepDIdeal.nD Cert.PrepDIdeal.τ).loc Cert.PrepDIdeal.main_arg8)) →
    ∃ (v0 : (c : Dev Cert.PrepDIdeal.nD) → Buf (Elt Ideal) ((c.tc : Thread Cert.PrepDIdeal.nD Cert.PrepDIdeal.τ).loc Cert.PrepDIdeal.main_v23_0)) (v1 : (c : Dev Cert.PrepDIdeal.nD) → Buf (Elt Ideal) ((c.tc : Thread Cert.PrepDIdeal.nD Cert.PrepDIdeal.τ).loc Cert.PrepDIdeal.main_v23_1)) (v2 : (c : Dev Cert.PrepDIdeal.nD) → Buf (Elt Ideal) ((c.tc : Thread Cert.PrepDIdeal.nD Cert.PrepDIdeal.τ).loc Cert.PrepDIdeal.main_v23_2)),
      θ_run (Cert.PrepDIdeal.defs (F := Ideal)) (onTc (τ := Cert.PrepDIdeal.τ) (Cert.PrepDIdeal.main (F := Ideal))) ⟨m, fun _ => 0, g⟩ (fun r => ∀ c : Dev Cert.PrepDIdeal.nD,
          r.2.mem ((c.tc : Thread Cert.PrepDIdeal.nD Cert.PrepDIdeal.τ).loc Cert.PrepDIdeal.main_v23_0) = v0 c
          ∧ r.2.mem ((c.tc : Thread Cert.PrepDIdeal.nD Cert.PrepDIdeal.τ).loc Cert.PrepDIdeal.main_v23_1) = v1 c
          ∧ r.2.mem ((c.tc : Thread Cert.PrepDIdeal.nD Cert.PrepDIdeal.τ).loc Cert.PrepDIdeal.main_v23_2) = v2 c
          ∧ r.2.mem ((c.tc : Thread Cert.PrepDIdeal.nD Cert.PrepDIdeal.τ).loc Cert.PrepDIdeal.main_arg0) = m ((c.tc : Thread Cert.PrepDIdeal.nD Cert.PrepDIdeal.τ).loc Cert.PrepDIdeal.main_arg0)
          ∧ r.2.mem ((c.tc : Thread Cert.PrepDIdeal.nD Cert.PrepDIdeal.τ).loc Cert.PrepDIdeal.main_arg1) = m ((c.tc : Thread Cert.PrepDIdeal.nD Cert.PrepDIdeal.τ).loc Cert.PrepDIdeal.main_arg1)
          ∧ r.2.mem ((c.tc : Thread Cert.PrepDIdeal.nD Cert.PrepDIdeal.τ).loc Cert.PrepDIdeal.main_arg2) = m ((c.tc : Thread Cert.PrepDIdeal.nD Cert.PrepDIdeal.τ).loc Cert.PrepDIdeal.main_arg2)
          ∧ r.2.mem ((c.tc : Thread Cert.PrepDIdeal.nD Cert.PrepDIdeal.τ).loc Cert.PrepDIdeal.main_arg3) = m ((c.tc : Thread Cert.PrepDIdeal.nD Cert.PrepDIdeal.τ).loc Cert.PrepDIdeal.main_arg3)
          ∧ r.2.mem ((c.tc : Thread Cert.PrepDIdeal.nD Cert.PrepDIdeal.τ).loc Cert.PrepDIdeal.main_arg4) = m ((c.tc : Thread Cert.PrepDIdeal.nD Cert.PrepDIdeal.τ).loc Cert.PrepDIdeal.main_arg4)
          ∧ r.2.mem ((c.tc : Thread Cert.PrepDIdeal.nD Cert.PrepDIdeal.τ).loc Cert.PrepDIdeal.main_arg5) = m ((c.tc : Thread Cert.PrepDIdeal.nD Cert.PrepDIdeal.τ).loc Cert.PrepDIdeal.main_arg5)
          ∧ r.2.mem ((c.tc : Thread Cert.PrepDIdeal.nD Cert.PrepDIdeal.τ).loc Cert.PrepDIdeal.main_arg6) = m ((c.tc : Thread Cert.PrepDIdeal.nD Cert.PrepDIdeal.τ).loc Cert.PrepDIdeal.main_arg6)
          ∧ r.2.mem ((c.tc : Thread Cert.PrepDIdeal.nD Cert.PrepDIdeal.τ).loc Cert.PrepDIdeal.main_arg7) = m ((c.tc : Thread Cert.PrepDIdeal.nD Cert.PrepDIdeal.τ).loc Cert.PrepDIdeal.main_arg7)
          ∧ r.2.mem ((c.tc : Thread Cert.PrepDIdeal.nD Cert.PrepDIdeal.τ).loc Cert.PrepDIdeal.main_arg8) = m ((c.tc : Thread Cert.PrepDIdeal.nD Cert.PrepDIdeal.τ).loc Cert.PrepDIdeal.main_arg8))
      ∧ θ_run (Cert.PrepDRefIdeal.defs (F := Ideal)) (onTc (τ := Cert.PrepDRefIdeal.τ) (Cert.PrepDRefIdeal.main (F := Ideal))) ⟨m', fun _ => 0, g'⟩ (fun r => ∀ c : Dev Cert.PrepDRefIdeal.nD,
          r.2.mem ((c.tc : Thread Cert.PrepDRefIdeal.nD Cert.PrepDRefIdeal.τ).loc Cert.PrepDRefIdeal.main_v88) = v0 c
          ∧ r.2.mem ((c.tc : Thread Cert.PrepDRefIdeal.nD Cert.PrepDRefIdeal.τ).loc Cert.PrepDRefIdeal.main_v89) = v1 c
          ∧ r.2.mem ((c.tc : Thread Cert.PrepDRefIdeal.nD Cert.PrepDRefIdeal.τ).loc Cert.PrepDRefIdeal.main_v91) = v2 c
          ∧ r.2.mem ((c.tc : Thread Cert.PrepDRefIdeal.nD Cert.PrepDRefIdeal.τ).loc Cert.PrepDRefIdeal.main_arg0) = m' ((c.tc : Thread Cert.PrepDRefIdeal.nD Cert.PrepDRefIdeal.τ).loc Cert.PrepDRefIdeal.main_arg0)
          ∧ r.2.mem ((c.tc : Thread Cert.PrepDRefIdeal.nD Cert.PrepDRefIdeal.τ).loc Cert.PrepDRefIdeal.main_arg1) = m' ((c.tc : Thread Cert.PrepDRefIdeal.nD Cert.PrepDRefIdeal.τ).loc Cert.PrepDRefIdeal.main_arg1)
          ∧ r.2.mem ((c.tc : Thread Cert.PrepDRefIdeal.nD Cert.PrepDRefIdeal.τ).loc Cert.PrepDRefIdeal.main_arg2) = m' ((c.tc : Thread Cert.PrepDRefIdeal.nD Cert.PrepDRefIdeal.τ).loc Cert.PrepDRefIdeal.main_arg2)
          ∧ r.2.mem ((c.tc : Thread Cert.PrepDRefIdeal.nD Cert.PrepDRefIdeal.τ).loc Cert.PrepDRefIdeal.main_arg3) = m' ((c.tc : Thread Cert.PrepDRefIdeal.nD Cert.PrepDRefIdeal.τ).loc Cert.PrepDRefIdeal.main_arg3)
          ∧ r.2.mem ((c.tc : Thread Cert.PrepDRefIdeal.nD Cert.PrepDRefIdeal.τ).loc Cert.PrepDRefIdeal.main_arg4) = m' ((c.tc : Thread Cert.PrepDRefIdeal.nD Cert.PrepDRefIdeal.τ).loc Cert.PrepDRefIdeal.main_arg4)
          ∧ r.2.mem ((c.tc : Thread Cert.PrepDRefIdeal.nD Cert.PrepDRefIdeal.τ).loc Cert.PrepDRefIdeal.main_arg5) = m' ((c.tc : Thread Cert.PrepDRefIdeal.nD Cert.PrepDRefIdeal.τ).loc Cert.PrepDRefIdeal.main_arg5)
          ∧ r.2.mem ((c.tc : Thread Cert.PrepDRefIdeal.nD Cert.PrepDRefIdeal.τ).loc Cert.PrepDRefIdeal.main_arg6) = m' ((c.tc : Thread Cert.PrepDRefIdeal.nD Cert.PrepDRefIdeal.τ).loc Cert.PrepDRefIdeal.main_arg6)
          ∧ r.2.mem ((c.tc : Thread Cert.PrepDRefIdeal.nD Cert.PrepDRefIdeal.τ).loc Cert.PrepDRefIdeal.main_arg7) = m' ((c.tc : Thread Cert.PrepDRefIdeal.nD Cert.PrepDRefIdeal.τ).loc Cert.PrepDRefIdeal.main_arg7)
          ∧ r.2.mem ((c.tc : Thread Cert.PrepDRefIdeal.nD Cert.PrepDRefIdeal.τ).loc Cert.PrepDRefIdeal.main_arg8) = m' ((c.tc : Thread Cert.PrepDRefIdeal.nD Cert.PrepDRefIdeal.τ).loc Cert.PrepDRefIdeal.main_arg8))

def preserves_FlashD_FlashDIdeal : Prop :=
  IdealRules.named_const.Statement Cert.FlashDIdeal.κ "mask" .f32 0xF149F2CA#32 ⊥

def algebraic_FlashDIdeal_FlashDRefIdeal_pre_finite [hFlashDIdeal : Cert.FlashDIdeal.Facts] [hFlashDRefIdeal : Cert.FlashDRefIdeal.Facts] [hPre_finite : Cert.Pre_finite.Facts] : Prop :=
  ∀ (m : (ℓ : Loc Cert.FlashDIdeal.nD Cert.FlashDIdeal.τ Cert.FlashDIdeal.sig) → Buf (Elt Ideal) ℓ) (g : Dev Cert.FlashDIdeal.nD → PrngReg)
    (m' : (ℓ : Loc Cert.FlashDRefIdeal.nD Cert.FlashDRefIdeal.τ Cert.FlashDRefIdeal.sig) → Buf (Elt Ideal) ℓ) (g' : Dev Cert.FlashDRefIdeal.nD → PrngReg), Pre_FlashDIdeal_finite m →
    (∀ c : Dev Cert.FlashDIdeal.nD,
      m' ((c.tc : Thread Cert.FlashDRefIdeal.nD Cert.FlashDRefIdeal.τ).loc Cert.FlashDRefIdeal.main_arg0) = m ((c.tc : Thread Cert.FlashDIdeal.nD Cert.FlashDIdeal.τ).loc Cert.FlashDIdeal.main_arg0)
      ∧ m' ((c.tc : Thread Cert.FlashDRefIdeal.nD Cert.FlashDRefIdeal.τ).loc Cert.FlashDRefIdeal.main_arg1) = m ((c.tc : Thread Cert.FlashDIdeal.nD Cert.FlashDIdeal.τ).loc Cert.FlashDIdeal.main_arg1)
      ∧ m' ((c.tc : Thread Cert.FlashDRefIdeal.nD Cert.FlashDRefIdeal.τ).loc Cert.FlashDRefIdeal.main_arg2) = m ((c.tc : Thread Cert.FlashDIdeal.nD Cert.FlashDIdeal.τ).loc Cert.FlashDIdeal.main_arg2)) →
    ∃ (v0 : (c : Dev Cert.FlashDIdeal.nD) → Buf (Elt Ideal) ((c.tc : Thread Cert.FlashDIdeal.nD Cert.FlashDIdeal.τ).loc Cert.FlashDIdeal.main_v0)),
      θ_run (Cert.FlashDIdeal.defs (F := Ideal)) (onTc (τ := Cert.FlashDIdeal.τ) (Cert.FlashDIdeal.main (F := Ideal))) ⟨m, fun _ => 0, g⟩ (fun r => ∀ c : Dev Cert.FlashDIdeal.nD,
          r.2.mem ((c.tc : Thread Cert.FlashDIdeal.nD Cert.FlashDIdeal.τ).loc Cert.FlashDIdeal.main_v0) = v0 c
          ∧ r.2.mem ((c.tc : Thread Cert.FlashDIdeal.nD Cert.FlashDIdeal.τ).loc Cert.FlashDIdeal.main_arg0) = m ((c.tc : Thread Cert.FlashDIdeal.nD Cert.FlashDIdeal.τ).loc Cert.FlashDIdeal.main_arg0)
          ∧ r.2.mem ((c.tc : Thread Cert.FlashDIdeal.nD Cert.FlashDIdeal.τ).loc Cert.FlashDIdeal.main_arg1) = m ((c.tc : Thread Cert.FlashDIdeal.nD Cert.FlashDIdeal.τ).loc Cert.FlashDIdeal.main_arg1)
          ∧ r.2.mem ((c.tc : Thread Cert.FlashDIdeal.nD Cert.FlashDIdeal.τ).loc Cert.FlashDIdeal.main_arg2) = m ((c.tc : Thread Cert.FlashDIdeal.nD Cert.FlashDIdeal.τ).loc Cert.FlashDIdeal.main_arg2))
      ∧ θ_run (Cert.FlashDRefIdeal.defs (F := Ideal)) (onTc (τ := Cert.FlashDRefIdeal.τ) (Cert.FlashDRefIdeal.main (F := Ideal))) ⟨m', fun _ => 0, g'⟩ (fun r => ∀ c : Dev Cert.FlashDRefIdeal.nD,
          r.2.mem ((c.tc : Thread Cert.FlashDRefIdeal.nD Cert.FlashDRefIdeal.τ).loc Cert.FlashDRefIdeal.main_v34) = v0 c
          ∧ r.2.mem ((c.tc : Thread Cert.FlashDRefIdeal.nD Cert.FlashDRefIdeal.τ).loc Cert.FlashDRefIdeal.main_arg0) = m' ((c.tc : Thread Cert.FlashDRefIdeal.nD Cert.FlashDRefIdeal.τ).loc Cert.FlashDRefIdeal.main_arg0)
          ∧ r.2.mem ((c.tc : Thread Cert.FlashDRefIdeal.nD Cert.FlashDRefIdeal.τ).loc Cert.FlashDRefIdeal.main_arg1) = m' ((c.tc : Thread Cert.FlashDRefIdeal.nD Cert.FlashDRefIdeal.τ).loc Cert.FlashDRefIdeal.main_arg1)
          ∧ r.2.mem ((c.tc : Thread Cert.FlashDRefIdeal.nD Cert.FlashDRefIdeal.τ).loc Cert.FlashDRefIdeal.main_arg2) = m' ((c.tc : Thread Cert.FlashDRefIdeal.nD Cert.FlashDRefIdeal.τ).loc Cert.FlashDRefIdeal.main_arg2))

def preserves_FlashC_FlashCIdeal : Prop :=
  IdealRules.named_const.Statement Cert.FlashCIdeal.κ "mask" .f32 0xF149F2CA#32 ⊥

def algebraic_FlashCIdeal_FlashCRefIdeal_pre_finite [hFlashCIdeal : Cert.FlashCIdeal.Facts] [hFlashCRefIdeal : Cert.FlashCRefIdeal.Facts] [hPre_finite : Cert.Pre_finite.Facts] : Prop :=
  ∀ (m : (ℓ : Loc Cert.FlashCIdeal.nD Cert.FlashCIdeal.τ Cert.FlashCIdeal.sig) → Buf (Elt Ideal) ℓ) (g : Dev Cert.FlashCIdeal.nD → PrngReg)
    (m' : (ℓ : Loc Cert.FlashCRefIdeal.nD Cert.FlashCRefIdeal.τ Cert.FlashCRefIdeal.sig) → Buf (Elt Ideal) ℓ) (g' : Dev Cert.FlashCRefIdeal.nD → PrngReg), Pre_FlashCIdeal_finite m →
    (∀ c : Dev Cert.FlashCIdeal.nD,
      m' ((c.tc : Thread Cert.FlashCRefIdeal.nD Cert.FlashCRefIdeal.τ).loc Cert.FlashCRefIdeal.main_arg0) = m ((c.tc : Thread Cert.FlashCIdeal.nD Cert.FlashCIdeal.τ).loc Cert.FlashCIdeal.main_arg0)
      ∧ m' ((c.tc : Thread Cert.FlashCRefIdeal.nD Cert.FlashCRefIdeal.τ).loc Cert.FlashCRefIdeal.main_arg1) = m ((c.tc : Thread Cert.FlashCIdeal.nD Cert.FlashCIdeal.τ).loc Cert.FlashCIdeal.main_arg1)
      ∧ m' ((c.tc : Thread Cert.FlashCRefIdeal.nD Cert.FlashCRefIdeal.τ).loc Cert.FlashCRefIdeal.main_arg2) = m ((c.tc : Thread Cert.FlashCIdeal.nD Cert.FlashCIdeal.τ).loc Cert.FlashCIdeal.main_arg2)) →
    ∃ (v0 : (c : Dev Cert.FlashCIdeal.nD) → Buf (Elt Ideal) ((c.tc : Thread Cert.FlashCIdeal.nD Cert.FlashCIdeal.τ).loc Cert.FlashCIdeal.main_v0)),
      θ_run (Cert.FlashCIdeal.defs (F := Ideal)) (onTc (τ := Cert.FlashCIdeal.τ) (Cert.FlashCIdeal.main (F := Ideal))) ⟨m, fun _ => 0, g⟩ (fun r => ∀ c : Dev Cert.FlashCIdeal.nD,
          r.2.mem ((c.tc : Thread Cert.FlashCIdeal.nD Cert.FlashCIdeal.τ).loc Cert.FlashCIdeal.main_v0) = v0 c
          ∧ r.2.mem ((c.tc : Thread Cert.FlashCIdeal.nD Cert.FlashCIdeal.τ).loc Cert.FlashCIdeal.main_arg0) = m ((c.tc : Thread Cert.FlashCIdeal.nD Cert.FlashCIdeal.τ).loc Cert.FlashCIdeal.main_arg0)
          ∧ r.2.mem ((c.tc : Thread Cert.FlashCIdeal.nD Cert.FlashCIdeal.τ).loc Cert.FlashCIdeal.main_arg1) = m ((c.tc : Thread Cert.FlashCIdeal.nD Cert.FlashCIdeal.τ).loc Cert.FlashCIdeal.main_arg1)
          ∧ r.2.mem ((c.tc : Thread Cert.FlashCIdeal.nD Cert.FlashCIdeal.τ).loc Cert.FlashCIdeal.main_arg2) = m ((c.tc : Thread Cert.FlashCIdeal.nD Cert.FlashCIdeal.τ).loc Cert.FlashCIdeal.main_arg2))
      ∧ θ_run (Cert.FlashCRefIdeal.defs (F := Ideal)) (onTc (τ := Cert.FlashCRefIdeal.τ) (Cert.FlashCRefIdeal.main (F := Ideal))) ⟨m', fun _ => 0, g'⟩ (fun r => ∀ c : Dev Cert.FlashCRefIdeal.nD,
          r.2.mem ((c.tc : Thread Cert.FlashCRefIdeal.nD Cert.FlashCRefIdeal.τ).loc Cert.FlashCRefIdeal.main_v34) = v0 c
          ∧ r.2.mem ((c.tc : Thread Cert.FlashCRefIdeal.nD Cert.FlashCRefIdeal.τ).loc Cert.FlashCRefIdeal.main_arg0) = m' ((c.tc : Thread Cert.FlashCRefIdeal.nD Cert.FlashCRefIdeal.τ).loc Cert.FlashCRefIdeal.main_arg0)
          ∧ r.2.mem ((c.tc : Thread Cert.FlashCRefIdeal.nD Cert.FlashCRefIdeal.τ).loc Cert.FlashCRefIdeal.main_arg1) = m' ((c.tc : Thread Cert.FlashCRefIdeal.nD Cert.FlashCRefIdeal.τ).loc Cert.FlashCRefIdeal.main_arg1)
          ∧ r.2.mem ((c.tc : Thread Cert.FlashCRefIdeal.nD Cert.FlashCRefIdeal.τ).loc Cert.FlashCRefIdeal.main_arg2) = m' ((c.tc : Thread Cert.FlashCRefIdeal.nD Cert.FlashCRefIdeal.τ).loc Cert.FlashCRefIdeal.main_arg2))

def Claim : Prop :=
  ∃ (hMerge : Cert.Merge.Facts) (hMergeIdeal : Cert.MergeIdeal.Facts) (hMergeRefIdeal : Cert.MergeRefIdeal.Facts) (hResid : Cert.Resid.Facts) (hResidIdeal : Cert.ResidIdeal.Facts) (hResidRefIdeal : Cert.ResidRefIdeal.Facts) (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hInProj : Cert.InProj.Facts) (hInProjIdeal : Cert.InProjIdeal.Facts) (hInProjRefIdeal : Cert.InProjRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hPrepD : Cert.PrepD.Facts) (hPrepDIdeal : Cert.PrepDIdeal.Facts) (hPrepDRefIdeal : Cert.PrepDRefIdeal.Facts) (hFlashD : Cert.FlashD.Facts) (hFlashDIdeal : Cert.FlashDIdeal.Facts) (hFlashDRefIdeal : Cert.FlashDRefIdeal.Facts) (hFlashC : Cert.FlashC.Facts) (hFlashCIdeal : Cert.FlashCIdeal.Facts) (hFlashCRefIdeal : Cert.FlashCRefIdeal.Facts) (hPre_tables : Cert.Pre_tables.Facts) (hPre_finite : Cert.Pre_finite.Facts),
    quiescent_Merge (hMerge := hMerge)
    ∧ quiescent_MergeIdeal (hMergeIdeal := hMergeIdeal)
    ∧ quiescent_MergeRefIdeal (hMergeRefIdeal := hMergeRefIdeal)
    ∧ quiescent_Resid (hResid := hResid)
    ∧ quiescent_ResidIdeal (hResidIdeal := hResidIdeal)
    ∧ quiescent_ResidRefIdeal (hResidRefIdeal := hResidRefIdeal)
    ∧ quiescent_MoeUp (hMoeUp := hMoeUp)
    ∧ quiescent_MoeUpIdeal (hMoeUpIdeal := hMoeUpIdeal)
    ∧ quiescent_MoeUpRefIdeal (hMoeUpRefIdeal := hMoeUpRefIdeal)
    ∧ quiescent_MoeDown (hMoeDown := hMoeDown)
    ∧ quiescent_MoeDownIdeal (hMoeDownIdeal := hMoeDownIdeal)
    ∧ quiescent_MoeDownRefIdeal (hMoeDownRefIdeal := hMoeDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormRefIdeal (hNormRefIdeal := hNormRefIdeal)
    ∧ quiescent_PrepD (hPrepD := hPrepD)
    ∧ quiescent_PrepDIdeal (hPrepDIdeal := hPrepDIdeal)
    ∧ quiescent_PrepDIdeal_pre_tables (hPrepDIdeal := hPrepDIdeal) (hPre_tables := hPre_tables)
    ∧ quiescent_PrepDRefIdeal (hPrepDRefIdeal := hPrepDRefIdeal)
    ∧ quiescent_PrepDRefIdeal_pre_tables (hPrepDRefIdeal := hPrepDRefIdeal) (hPre_tables := hPre_tables)
    ∧ quiescent_FlashD (hFlashD := hFlashD)
    ∧ quiescent_FlashDIdeal (hFlashDIdeal := hFlashDIdeal)
    ∧ quiescent_FlashDIdeal_pre_finite (hFlashDIdeal := hFlashDIdeal) (hPre_finite := hPre_finite)
    ∧ quiescent_FlashDRefIdeal (hFlashDRefIdeal := hFlashDRefIdeal)
    ∧ quiescent_FlashDRefIdeal_pre_finite (hFlashDRefIdeal := hFlashDRefIdeal) (hPre_finite := hPre_finite)
    ∧ quiescent_FlashC (hFlashC := hFlashC)
    ∧ quiescent_FlashCIdeal (hFlashCIdeal := hFlashCIdeal)
    ∧ quiescent_FlashCIdeal_pre_finite (hFlashCIdeal := hFlashCIdeal) (hPre_finite := hPre_finite)
    ∧ quiescent_FlashCRefIdeal (hFlashCRefIdeal := hFlashCRefIdeal)
    ∧ quiescent_FlashCRefIdeal_pre_finite (hFlashCRefIdeal := hFlashCRefIdeal) (hPre_finite := hPre_finite)
    ∧ preserves_Merge_MergeIdeal
    ∧ algebraic_MergeIdeal_MergeRefIdeal (hMergeIdeal := hMergeIdeal) (hMergeRefIdeal := hMergeRefIdeal)
    ∧ preserves_Resid_ResidIdeal
    ∧ algebraic_ResidIdeal_ResidRefIdeal (hResidIdeal := hResidIdeal) (hResidRefIdeal := hResidRefIdeal)
    ∧ preserves_MoeUp_MoeUpIdeal
    ∧ algebraic_MoeUpIdeal_MoeUpRefIdeal (hMoeUpIdeal := hMoeUpIdeal) (hMoeUpRefIdeal := hMoeUpRefIdeal)
    ∧ preserves_MoeDown_MoeDownIdeal
    ∧ algebraic_MoeDownIdeal_MoeDownRefIdeal (hMoeDownIdeal := hMoeDownIdeal) (hMoeDownRefIdeal := hMoeDownRefIdeal)
    ∧ preserves_InProj_InProjIdeal
    ∧ algebraic_InProjIdeal_InProjRefIdeal (hInProjIdeal := hInProjIdeal) (hInProjRefIdeal := hInProjRefIdeal)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal (hNormIdeal := hNormIdeal) (hNormRefIdeal := hNormRefIdeal)
    ∧ preserves_PrepD_PrepDIdeal
    ∧ algebraic_PrepDIdeal_PrepDRefIdeal_pre_tables (hPrepDIdeal := hPrepDIdeal) (hPrepDRefIdeal := hPrepDRefIdeal) (hPre_tables := hPre_tables)
    ∧ preserves_FlashD_FlashDIdeal
    ∧ algebraic_FlashDIdeal_FlashDRefIdeal_pre_finite (hFlashDIdeal := hFlashDIdeal) (hFlashDRefIdeal := hFlashDRefIdeal) (hPre_finite := hPre_finite)
    ∧ preserves_FlashC_FlashCIdeal
    ∧ algebraic_FlashCIdeal_FlashCRefIdeal_pre_finite (hFlashCIdeal := hFlashCIdeal) (hFlashCRefIdeal := hFlashCRefIdeal) (hPre_finite := hPre_finite)
-- ==== Pre_finite.lean ====
abbrev S16384x2048 : Shape := ⟨2, ![16384, 2048]⟩
abbrev S8x16x256x1024 : Shape := ⟨4, ![8, 16, 256, 1024]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x16x256x1024 : S_.BroadcastsInDim S8x16x256x1024 (![] : Fin 0 → Fin S8x16x256x1024.rank)
  reducesTo_S8x16x256x1024_S_d0_1_2_3 : S8x16x256x1024.ReducesTo [0, 1, 2, 3] S_
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x2048 .bf16) (main_arg1 : FVec F S8x16x256x1024 .bf16) (main_arg2 : FVec F S16384x1024 .bf16) : IVec S_ 1 :=
  let main_v0 : FVec F S16384x2048 .f32 := (extf .f32 · bitsLt_bf16_f32) main_arg0
  let main_v1 : FVec F S8x16x256x1024 .f32 := (extf .f32 · bitsLt_bf16_f32) main_arg1
  let main_v2 : FVec F S16384x1024 .f32 := (extf .f32 · bitsLt_bf16_f32) main_arg2
  let main_v3 : FVec F S16384x2048 .f32 := Host.absf main_v0
  let main_cst : FVec F S_ .f32 := constant S_ .f32 0x7F800000#32
  let main_v4 : FVec F S16384x2048 .f32 := broadcastInDim S16384x2048 ![] bcast_S_S16384x2048 main_cst
  let main_v5 : IVec S16384x2048 1 := cmpf .olt main_v3 main_v4
  let main_c : IVec S_ 1 := constantI S_ 1 1#1
  let main_v6 : IVec S_ 1 := (fun x v => Host.reduce IntOp.andi x v reducesTo_S16384x2048_S_d0_1 h_S_) main_v5 main_c
  let main_v7 : FVec F S8x16x256x1024 .f32 := Host.absf main_v1
  let main_cst_0 : FVec F S_ .f32 := constant S_ .f32 0x7F800000#32
  let main_v8 : FVec F S8x16x256x1024 .f32 := broadcastInDim S8x16x256x1024 ![] bcast_S_S8x16x256x1024 main_cst_0
  let main_v9 : IVec S8x16x256x1024 1 := cmpf .olt main_v7 main_v8
  let main_c_1 : IVec S_ 1 := constantI S_ 1 1#1
  let main_v10 : IVec S_ 1 := (fun x v => Host.reduce IntOp.andi x v reducesTo_S8x16x256x1024_S_d0_1_2_3 h_S_) main_v9 main_c_1
  let main_v11 : IVec S_ 1 := andi main_v6 main_v10
  let main_v12 : FVec F S16384x1024 .f32 := Host.absf main_v2
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_c_3 : IVec S_ 1 := constantI S_ 1 1#1
  let main_v15 : IVec S_ 1 := (fun x v => Host.reduce IntOp.andi x v reducesTo_S16384x1024_S_d0_1 h_S_) main_v14 main_c_3
  let main_v16 : IVec S_ 1 := andi main_v11 main_v15
  main_v16
-- ==== Pre_tables.lean ====
abbrev S16384x896 : Shape := ⟨2, ![16384, 896]⟩
abbrev S16384x256 : Shape := ⟨2, ![16384, 256]⟩
abbrev S16384x128 : Shape := ⟨2, ![16384, 128]⟩
abbrev S4x896x1536 : Shape := ⟨3, ![4, 896, 1536]⟩
abbrev S4x256x2048 : Shape := ⟨3, ![4, 256, 2048]⟩
abbrev S4x192 : Shape := ⟨2, ![4, 192]⟩
abbrev S16384x64 : Shape := ⟨2, ![16384, 64]⟩
abbrev S_ : Shape := ⟨0, ![]⟩
abbrev S16384x32 : Shape := ⟨2, ![16384, 32]⟩

class Facts : Prop where
  slices_S16384x128_S16384x64_0_64 : S16384x128.Slices ![0, 64] S16384x64
  bcast_S_S16384x64 : S_.BroadcastsInDim S16384x64 (![] : Fin 0 → Fin S16384x64.rank)
  reducesTo_S16384x64_S_d0_1 : S16384x64.ReducesTo [0, 1] S_
  h_S_ : 0 < S_.numel
  slices_S16384x128_S16384x32_0_0 : S16384x128.Slices ![0, 0] S16384x32
  slices_S16384x128_S16384x32_0_32 : S16384x128.Slices ![0, 32] S16384x32
  reducesTo_S16384x32_S_d0_1 : S16384x32.ReducesTo [0, 1] S_

variable [Facts]

def fn_part1 {F : FTy → Type} [FloatOps F] (main_v13 : IVec S_ 1) (main_v17 : IVec S16384x32 1) (main_c_3 : IVec S_ 1) : IVec S_ 1 :=
  let main_v18 : IVec S_ 1 := (fun x v => Host.reduce IntOp.andi x v reducesTo_S16384x32_S_d0_1 h_S_) main_v17 main_c_3
  let main_v19 : IVec S_ 1 := andi main_v13 main_v18
  main_v19

def fn {F : FTy → Type} [FloatOps F] (main_arg0 : FVec F S16384x896 .bf16) (main_arg1 : FVec F S16384x256 .bf16) (main_arg2 : FVec F S16384x128 .f32) (main_arg3 : FVec F S4x896x1536 .f32) (main_arg4 : FVec F S4x256x2048 .f32) (main_arg5 : FVec F S4x192 .f32) (main_arg6 : FVec F S4x192 .f32) (main_arg7 : FVec F S16384x128 .f32) (main_arg8 : FVec F S16384x128 .f32) : IVec S_ 1 :=
  let main_v0 : FVec F S16384x64 .f32 := (extractStridedSlice S16384x64 ![0, 64] · slices_S16384x128_S16384x64_0_64) main_arg2
  let main_cst : FVec F S_ .f32 := constant S_ .f32 0x00000000#32
  let main_v1 : FVec F S16384x64 .f32 := broadcastInDim S16384x64 ![] bcast_S_S16384x64 main_cst
  let main_v2 : IVec S16384x64 1 := cmpf .oeq main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := (extractStridedSlice S16384x64 ![0, 64] · slices_S16384x128_S16384x64_0_64) main_arg8
  let main_cst_0 : FVec F S_ .f32 := constant S_ .f32 0x00000000#32
  let main_v5 : FVec F S16384x64 .f32 := broadcastInDim S16384x64 ![] bcast_S_S16384x64 main_cst_0
  let main_v6 : IVec S16384x64 1 := cmpf .oeq main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x32 .f32 := (extractStridedSlice S16384x32 ![0, 0] · slices_S16384x128_S16384x32_0_0) main_arg7
  let main_v10 : FVec F S16384x32 .f32 := (extractStridedSlice S16384x32 ![0, 32] · slices_S16384x128_S16384x32_0_32) main_arg7
  let main_v11 : IVec S16384x32 1 := cmpf .oeq main_v9 main_v10
  let main_c_2 : IVec S_ 1 := constantI S_ 1 1#1
  let main_v12 : IVec S_ 1 := (fun x v => Host.reduce IntOp.andi x v reducesTo_S16384x32_S_d0_1 h_S_) main_v11 main_c_2
  let main_v13 : IVec S_ 1 := andi main_v8 main_v12
  let main_v14 : FVec F S16384x32 .f32 := (extractStridedSlice S16384x32 ![0, 0] · slices_S16384x128_S16384x32_0_0) main_arg8
  let main_v15 : FVec F S16384x32 .f32 := (extractStridedSlice S16384x32 ![0, 32] · slices_S16384x128_S16384x32_0_32) main_arg8
  let main_v16 : FVec F S16384x32 .f32 := Host.negf main_v15
  let main_v17 : IVec S16384x32 1 := cmpf .oeq main_v14 main_v16
  let main_c_3 : IVec S_ 1 := constantI S_ 1 1#1
  fn_part1 (F := F) main_v13 main_v17 main_c_3
-- ==== Merge.lean ====
abbrev S16384x4096 : Shape := ⟨2, ![16384, 4096]⟩
abbrev S16384x1024 : Shape := ⟨2, ![16384, 1024]⟩
abbrev S4x4x4096x4096 : Shape := ⟨4, ![4, 4, 4096, 4096]⟩
abbrev S4x4x4096 : Shape := ⟨3, ![4, 4, 4096]⟩
abbrev S4x4x1024x4096 : Shape := ⟨4, ![4, 4, 1024, 4096]⟩
abbrev S1x4x4096 : Shape := ⟨3, ![1, 4, 4096]⟩
abbrev S4x4096 : Shape := ⟨2, ![4, 4096]⟩
abbrev S4x1x4096 : Shape := ⟨3, ![4, 1, 4096]⟩
abbrev S1024x4096 : Shape := ⟨2, ![1024, 4096]⟩
abbrev S1024x1024 : Shape := ⟨2, ![1024, 1024]⟩
abbrev S1x4x4096x256 : Shape := ⟨4, ![1, 4, 4096, 256]⟩
abbrev S4x1x256 : Shape := ⟨3, ![4, 1, 256]⟩
abbrev S1x4x1024x256 : Shape := ⟨4, ![1, 4, 1024, 256]⟩
abbrev S1024x256 : Shape := ⟨2, ![1024, 256]⟩
abbrev S1x1x4096x256 : Shape := ⟨4, ![1, 1, 4096, 256]⟩
abbrev S4096x256 : Shape := ⟨2, ![4096, 256]⟩
abbrev S1x1x256 : Shape := ⟨3, ![1, 1, 256]⟩
abbrev S1x256 : Shape := ⟨2, ![1, 256]⟩
abbrev S1x1x1024x256 : Shape := ⟨4, ![1, 1, 1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S4x4x4096x4096, .f32⟩
  | .hbm, ⟨6, _⟩ => ⟨S4x4x4096, .f32⟩
  | .hbm, ⟨7, _⟩ => ⟨S4x4x1024x4096, .f32⟩
  | .hbm, ⟨8, _⟩ => ⟨S4x4x4096x4096, .bf16⟩
  | .hbm, ⟨9, _⟩ => ⟨S1x4x4096, .f32⟩
  | .hbm, ⟨10, _⟩ => ⟨S4x4096, .f32⟩
  | .hbm, ⟨11, _⟩ => ⟨S4x1x4096, .f32⟩
  | .hbm, ⟨12, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x4x4096x256, .bf16⟩
  | .local _ .vmem, ⟨7, _⟩ => ⟨S1x4x4096x256, .bf16⟩
  | .local _ .vmem, ⟨8, _⟩ => ⟨S4x1x256, .f32⟩
  | .local _ .vmem, ⟨9, _⟩ => ⟨S4x1x256, .f32⟩
  | .local _ .vmem, ⟨10, _⟩ => ⟨S1x4x1024x256, .f32⟩
  | .local _ .vmem, ⟨11, _⟩ => ⟨S1x4x1024x256, .f32⟩
  | .local _ .vmem, ⟨12, _⟩ => ⟨S1024x256, .bf16⟩
  | .local _ .vmem, ⟨13, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x4x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S16384x4096 : Shape := ⟨2, ![16384, 4096]⟩
abbrev S16384x1024 : Shape := ⟨2, ![16384, 1024]⟩
abbrev S4x4x4096x4096 : Shape := ⟨4, ![4, 4, 4096, 4096]⟩
abbrev S4x4x4096 : Shape := ⟨3, ![4, 4, 4096]⟩
abbrev S4x4x1024x4096 : Shape := ⟨4, ![4, 4, 1024, 4096]⟩
abbrev S_ : Shape := ⟨0, ![]⟩
abbrev S1x1x4096x4096 : Shape := ⟨4, ![1, 1, 4096, 4096]⟩
abbrev S4096x4096 : Shape := ⟨2, ![4096, 4096]⟩
abbrev S1x1x4096 : Shape := ⟨3, ![1, 1, 4096]⟩
abbrev S4096 : Shape := ⟨1, ![4096]⟩
abbrev S1x4096 : Shape := ⟨2, ![1, 4096]⟩
abbrev S1x1x1024x4096 : Shape := ⟨4, ![1, 1, 1024, 4096]⟩
abbrev S1024x4096 : Shape := ⟨2, ![1024, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S4x4x4096x4096, .f32⟩
  | .hbm, ⟨6, _⟩ => ⟨S4x4x4096, .f32⟩
  | .hbm, ⟨7, _⟩ => ⟨S4x4x1024x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S1x1x4096x4096, .f32⟩
  | .hbm, ⟨12, _⟩ => ⟨S4096x4096, .f32⟩
  | .hbm, ⟨13, _⟩ => ⟨S16384x4096, .f32⟩
  | .hbm, ⟨14, _⟩ => ⟨S1x1x4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S1x1x1024x4096, .f32⟩
  | .hbm, ⟨29, _⟩ => ⟨S1024x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S1x1x4096x4096, .f32⟩
  | .hbm, ⟨34, _⟩ => ⟨S4096x4096, .f32⟩
  | .hbm, ⟨35, _⟩ => ⟨S16384x4096, .f32⟩
  | .hbm, ⟨36, _⟩ => ⟨S1x1x4096, .f32⟩
  | .hbm, ⟨37, _⟩ => ⟨S4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x1024, .f32⟩
  | .hbm, ⟨50, _⟩ => ⟨S1x1x1024x4096, .f32⟩
  | .hbm, ⟨51, _⟩ => ⟨S1024x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S1x1x4096x4096, .f32⟩
  | .hbm, ⟨56, _⟩ => ⟨S4096x4096, .f32⟩
  | .hbm, ⟨57, _⟩ => ⟨S16384x4096, .f32⟩
  | .hbm, ⟨58, _⟩ => ⟨S1x1x4096, .f32⟩
  | .hbm, ⟨59, _⟩ => ⟨S4096, .f32⟩
  | .hbm, ⟨60, _⟩ => ⟨S1x4096, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S16384x4096, .f32⟩
  | .hbm, ⟨65, _⟩ => ⟨S_, .f32⟩
  | .hbm, ⟨66, _⟩ => ⟨S16384x4096, .f32⟩
  | .hbm, ⟨67, _⟩ => ⟨S16384x4096, .f32⟩
  | .hbm, ⟨68, _⟩ => ⟨S_, .f32⟩
  | .hbm, ⟨69, _⟩ => ⟨S16384x4096, .f32⟩
  | .hbm, ⟨70, _⟩ => ⟨S16384x4096, .f32⟩
  | .hbm, ⟨71, _⟩ => ⟨S16384x1024, .f32⟩
  | .hbm, ⟨72, _⟩ => ⟨S1x1x1024x4096, .f32⟩
  | .hbm, ⟨73, _⟩ => ⟨S1024x4096, .f32⟩
  | .hbm, ⟨74, _⟩ => ⟨S16384x4096, .f32⟩
  | .hbm, ⟨75, _⟩ => ⟨S16384x4096, .f32⟩
  | .hbm, ⟨76, _⟩ => ⟨S16384x4096, .f32⟩
  | .hbm, ⟨77, _⟩ => ⟨S1x1x4096x4096, .f32⟩
  | .hbm, ⟨78, _⟩ => ⟨S4096x4096, .f32⟩
  | .hbm, ⟨79, _⟩ => ⟨S16384x4096, .f32⟩
  | .hbm, ⟨80, _⟩ => ⟨S1x1x4096, .f32⟩
  | .hbm, ⟨81, _⟩ => ⟨S4096, .f32⟩
  | .hbm, ⟨82, _⟩ => ⟨S1x4096, .f32⟩
  | .hbm, ⟨83, _⟩ => ⟨S16384x4096, .f32⟩
  | .hbm, ⟨84, _⟩ => ⟨S16384x4096, .f32⟩
  | .hbm, ⟨85, _⟩ => ⟨S16384x4096, .f32⟩
  | .hbm, ⟨86, _⟩ => ⟨S16384x4096, .f32⟩
  | .hbm, ⟨87, _⟩ => ⟨S_, .f32⟩
  | .hbm, ⟨88, _⟩ => ⟨S16384x4096, .f32⟩
  | .hbm, ⟨89, _⟩ => ⟨S16384x4096, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S16384x1024, .f32⟩
  | .hbm, ⟨94, _⟩ => ⟨S1x1x1024x4096, .f32⟩
  | .hbm, ⟨95, _⟩ => ⟨S1024x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_6 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Resid.lean ====
abbrev S16384x4096 : Shape := ⟨2, ![16384, 4096]⟩
abbrev S4x4096x4096 : Shape := ⟨3, ![4, 4096, 4096]⟩
abbrev S1x4096 : Shape := ⟨2, ![1, 4096]⟩
abbrev S1024x4096 : Shape := ⟨2, ![1024, 4096]⟩
abbrev S1x4096x512 : Shape := ⟨3, ![1, 4096, 512]⟩
abbrev S1024x512 : Shape := ⟨2, ![1024, 512]⟩
abbrev S1x512 : Shape := ⟨2, ![1, 512]⟩
abbrev S4096x512 : Shape := ⟨2, ![4096, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ResidRefIdeal.lean ====
abbrev S16384x4096 : Shape := ⟨2, ![16384, 4096]⟩
abbrev S4x4096x4096 : Shape := ⟨3, ![4, 4096, 4096]⟩
abbrev S1x4096 : Shape := ⟨2, ![1, 4096]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S1x4096, .f32⟩
  | .hbm, ⟨4, _⟩ => ⟨S16384x4096, .f32⟩
  | .hbm, ⟨5, _⟩ => ⟨S1x4096x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MoeUp.lean ====
abbrev S16384x4096 : Shape := ⟨2, ![16384, 4096]⟩
abbrev S4x32x4096x256 : Shape := ⟨4, ![4, 32, 4096, 256]⟩
abbrev S4x32x256 : Shape := ⟨3, ![4, 32, 256]⟩
abbrev S16384x128 : Shape := ⟨2, ![16384, 128]⟩
abbrev S1x32x256 : Shape := ⟨3, ![1, 32, 256]⟩
abbrev S32x256 : Shape := ⟨2, ![32, 256]⟩
abbrev S32x1x256 : Shape := ⟨3, ![32, 1, 256]⟩
abbrev S1024x4096 : Shape := ⟨2, ![1024, 4096]⟩
abbrev S1x2x4096x256 : Shape := ⟨4, ![1, 2, 4096, 256]⟩
abbrev S2x1x256 : Shape := ⟨3, ![2, 1, 256]⟩
abbrev S1024x128 : Shape := ⟨2, ![1024, 128]⟩
abbrev S1024x256 : Shape := ⟨2, ![1024, 256]⟩
abbrev S1x1x4096x256 : Shape := ⟨4, ![1, 1, 4096, 256]⟩
abbrev S4096x256 : Shape := ⟨2, ![4096, 256]⟩
abbrev S1x1x256 : Shape := ⟨3, ![1, 1, 256]⟩
abbrev S1x256 : Shape := ⟨2, ![1, 256]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4x32x4096x256, .f32⟩
  | .hbm, ⟨2, _⟩ => ⟨S4x32x256, .f32⟩
  | .hbm, ⟨3, _⟩ => ⟨S16384x128, .f32⟩
  | .hbm, ⟨4, _⟩ => ⟨S1x32x256, .f32⟩
  | .hbm, ⟨5, _⟩ => ⟨S32x256, .f32⟩
  | .hbm, ⟨6, _⟩ => ⟨S32x1x256, .f32⟩
  | .hbm, ⟨7, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x2x4096x256, .f32⟩
  | .local _ .vmem, ⟨3, _⟩ => ⟨S1x2x4096x256, .f32⟩
  | .local _ .vmem, ⟨4, _⟩ => ⟨S2x1x256, .f32⟩
  | .local _ .vmem, ⟨5, _⟩ => ⟨S2x1x256, .f32⟩
  | .local _ .vmem, ⟨6, _⟩ => ⟨S1024x128, .f32⟩
  | .local _ .vmem, ⟨7, _⟩ => ⟨S1024x128, .f32⟩
  | .local _ .vmem, ⟨8, _⟩ => ⟨S1024x256, .bf16⟩
  | .local _ .vmem, ⟨9, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MoeUpRefIdeal.lean ====
abbrev S16384x4096 : Shape := ⟨2, ![16384, 4096]⟩
abbrev S4x32x4096x256 : Shape := ⟨4, ![4, 32, 4096, 256]⟩
abbrev S4x32x256 : Shape := ⟨3, ![4, 32, 256]⟩
abbrev S16384x128 : Shape := ⟨2, ![16384, 128]⟩
abbrev S16384x32 : Shape := ⟨2, ![16384, 32]⟩
abbrev S1x32x4096x256 : Shape := ⟨4, ![1, 32, 4096, 256]⟩
abbrev S32x4096x256 : Shape := ⟨3, ![32, 4096, 256]⟩
abbrev S16384x32x256 : Shape := ⟨3, ![16384, 32, 256]⟩
abbrev S1x32x256 : Shape := ⟨3, ![1, 32, 256]⟩
abbrev S32x256 : Shape := ⟨2, ![32, 256]⟩
abbrev S16384x32x128 : Shape := ⟨3, ![16384, 32, 128]⟩
abbrev S_ : Shape := ⟨0, ![]⟩
abbrev S16384x32x1 : Shape := ⟨3, ![16384, 32, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x32x4096x256, .f32⟩
  | .hbm, ⟨2, _⟩ => ⟨S4x32x256, .f32⟩
  | .hbm, ⟨3, _⟩ => ⟨S16384x128, .f32⟩
  | .hbm, ⟨4, _⟩ => ⟨S16384x32, .f32⟩
  | .hbm, ⟨5, _⟩ => ⟨S16384x4096, .f32⟩
  | .hbm, ⟨6, _⟩ => ⟨S1x32x4096x256, .f32⟩
  | .hbm, ⟨7, _⟩ => ⟨S32x4096x256, .f32⟩
  | .hbm, ⟨8, _⟩ => ⟨S16384x32x256, .f32⟩
  | .hbm, ⟨9, _⟩ => ⟨S1x32x256, .f32⟩
  | .hbm, ⟨10, _⟩ => ⟨S32x256, .f32⟩
  | .hbm, ⟨11, _⟩ => ⟨S1x32x256, .f32⟩
  | .hbm, ⟨12, _⟩ => ⟨S16384x32x256, .f32⟩
  | .hbm, ⟨13, _⟩ => ⟨S16384x32x256, .f32⟩
  | .hbm, ⟨14, _⟩ => ⟨S16384x32x128, .f32⟩
  | .hbm, ⟨15, _⟩ => ⟨S_, .f32⟩
  | .hbm, ⟨16, _⟩ => ⟨S16384x32x128, .f32⟩
  | .hbm, ⟨17, _⟩ => ⟨S16384x32x128, .f32⟩
  | .hbm, ⟨18, _⟩ => ⟨S16384x32x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16384x32x128, .f32⟩
  | .hbm, ⟨23, _⟩ => ⟨S16384x32x128, .f32⟩
  | .hbm, ⟨24, _⟩ => ⟨S_, .f32⟩
  | .hbm, ⟨25, _⟩ => ⟨S16384x32x128, .f32⟩
  | .hbm, ⟨26, _⟩ => ⟨S16384x32x128, .f32⟩
  | .hbm, ⟨27, _⟩ => ⟨S_, .f32⟩
  | .hbm, ⟨28, _⟩ => ⟨S16384x32x128, .f32⟩
  | .hbm, ⟨29, _⟩ => ⟨S16384x32x128, .f32⟩
  | .hbm, ⟨30, _⟩ => ⟨S16384x32x128, .f32⟩
  | .hbm, ⟨31, _⟩ => ⟨S16384x32x128, .f32⟩
  | .hbm, ⟨32, _⟩ => ⟨S_, .f32⟩
  | .hbm, ⟨33, _⟩ => ⟨S16384x32x128, .f32⟩
  | .hbm, ⟨34, _⟩ => ⟨S16384x32x128, .f32⟩
  | .hbm, ⟨35, _⟩ => ⟨S_, .f32⟩
  | .hbm, ⟨36, _⟩ => ⟨S16384x32x128, .f32⟩
  | .hbm, ⟨37, _⟩ => ⟨S16384x32x128, .f32⟩
  | .hbm, ⟨38, _⟩ => ⟨S16384x32x128, .f32⟩
  | .hbm, ⟨39, _⟩ => ⟨S_, .f32⟩
  | .hbm, ⟨40, _⟩ => ⟨S16384x32x128, .f32⟩
  | .hbm, ⟨41, _⟩ => ⟨S16384x32x128, .f32⟩
  | .hbm, ⟨42, _⟩ => ⟨S16384x32x128, .f32⟩
  | .hbm, ⟨43, _⟩ => ⟨S16384x32x1, .f32⟩
  | .hbm, ⟨44, _⟩ => ⟨S16384x32x128, .f32⟩
  | .hbm, ⟨45, _⟩ => ⟨S16384x32x128, .f32⟩
  | .hbm, ⟨46, _⟩ => ⟨S16384x4096, .f32⟩
  | .hbm, ⟨47, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== MoeDown.lean ====
abbrev S16384x4096 : Shape := ⟨2, ![16384, 4096]⟩
abbrev S4x32x128x4096 : Shape := ⟨4, ![4, 32, 128, 4096]⟩
abbrev S16384x128 : Shape := ⟨2, ![16384, 128]⟩
abbrev S4x32x4096 : Shape := ⟨3, ![4, 32, 4096]⟩
abbrev S1x4096 : Shape := ⟨2, ![1, 4096]⟩
abbrev S1x32x4096 : Shape := ⟨3, ![1, 32, 4096]⟩
abbrev S32x4096 : Shape := ⟨2, ![32, 4096]⟩
abbrev S_ : Shape := ⟨0, ![]⟩
abbrev S128x4096 : Shape := ⟨2, ![128, 4096]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x128 : Shape := ⟨2, ![1024, 128]⟩
abbrev S128x512 : Shape := ⟨2, ![128, 512]⟩
abbrev S1024x512 : Shape := ⟨2, ![1024, 512]⟩
abbrev S1x512 : Shape := ⟨2, ![1, 512]⟩
abbrev S4096x512 : Shape := ⟨2, ![4096, 512]⟩

abbrev nBuf : Space → Nat
  | .hbm => 14
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4x32x128x4096, .f32⟩
  | .hbm, ⟨2, _⟩ => ⟨S16384x128, .f32⟩
  | .hbm, ⟨3, _⟩ => ⟨S4x32x4096, .f32⟩
  | .hbm, ⟨4, _⟩ => ⟨S16384x4096, .f32⟩
  | .hbm, ⟨5, _⟩ => ⟨S1x4096, .f32⟩
  | .hbm, ⟨6, _⟩ => ⟨S1x32x4096, .f32⟩
  | .hbm, ⟨7, _⟩ => ⟨S32x4096, .f32⟩
  | .hbm, ⟨8, _⟩ => ⟨S_, .i32⟩
  | .hbm, ⟨9, _⟩ => ⟨S_, .f32⟩
  | .hbm, ⟨10, _⟩ => ⟨S128x4096, .f32⟩
  | .hbm, ⟨11, _⟩ => ⟨S128x4096, .bf16⟩
  | .hbm, ⟨12, _⟩ => ⟨S4x4096x4096, .f32⟩
  | .hbm, ⟨13, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x128, .f32⟩
  | .local _ .vmem, ⟨5, _⟩ => ⟨S1024x128, .f32⟩
  | .local _ .vmem, ⟨6, _⟩ => ⟨S128x512, .bf16⟩
  | .local _ .vmem, ⟨7, _⟩ => ⟨S128x512, .bf16⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MoeDownRefIdeal.lean ====
abbrev S16384x4096 : Shape := ⟨2, ![16384, 4096]⟩
abbrev S4x32x128x4096 : Shape := ⟨4, ![4, 32, 128, 4096]⟩
abbrev S16384x128 : Shape := ⟨2, ![16384, 128]⟩
abbrev S4x32x4096 : Shape := ⟨3, ![4, 32, 4096]⟩
abbrev S1x4096 : Shape := ⟨2, ![1, 4096]⟩
abbrev S16384x32 : Shape := ⟨2, ![16384, 32]⟩
abbrev S16384x32x128 : Shape := ⟨3, ![16384, 32, 128]⟩
abbrev S1x32x128x4096 : Shape := ⟨4, ![1, 32, 128, 4096]⟩
abbrev S32x128x4096 : Shape := ⟨3, ![32, 128, 4096]⟩
abbrev S1x32x4096 : Shape := ⟨3, ![1, 32, 4096]⟩
abbrev S32x4096 : Shape := ⟨2, ![32, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x32x128x4096, .f32⟩
  | .hbm, ⟨2, _⟩ => ⟨S16384x128, .f32⟩
  | .hbm, ⟨3, _⟩ => ⟨S4x32x4096, .f32⟩
  | .hbm, ⟨4, _⟩ => ⟨S16384x4096, .f32⟩
  | .hbm, ⟨5, _⟩ => ⟨S1x4096, .f32⟩
  | .hbm, ⟨6, _⟩ => ⟨S16384x32, .f32⟩
  | .hbm, ⟨7, _⟩ => ⟨S16384x4096, .f32⟩
  | .hbm, ⟨8, _⟩ => ⟨S16384x32x128, .f32⟩
  | .hbm, ⟨9, _⟩ => ⟨S1x32x128x4096, .f32⟩
  | .hbm, ⟨10, _⟩ => ⟨S32x128x4096, .f32⟩
  | .hbm, ⟨11, _⟩ => ⟨S16384x4096, .f32⟩
  | .hbm, ⟨12, _⟩ => ⟨S1x32x4096, .f32⟩
  | .hbm, ⟨13, _⟩ => ⟨S32x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== InProj.lean ====
abbrev S16384x4096 : Shape := ⟨2, ![16384, 4096]⟩
abbrev S4x4096x8904 : Shape := ⟨3, ![4, 4096, 8904]⟩
abbrev S4x8904x4096 : Shape := ⟨3, ![4, 8904, 4096]⟩
abbrev S1x4096x1224 : Shape := ⟨3, ![1, 4096, 1224]⟩
abbrev S4096x1224 : Shape := ⟨2, ![4096, 1224]⟩
abbrev S4096x1216 : Shape := ⟨2, ![4096, 1216]⟩
abbrev S_ : Shape := ⟨0, ![]⟩
abbrev S4096x64 : Shape := ⟨2, ![4096, 64]⟩
abbrev S4096x8 : Shape := ⟨2, ![4096, 8]⟩
abbrev S4096x248 : Shape := ⟨2, ![4096, 248]⟩
abbrev S4096x1536 : Shape := ⟨2, ![4096, 1536]⟩
abbrev S16384x9216 : Shape := ⟨2, ![16384, 9216]⟩
abbrev S1024x4096 : Shape := ⟨2, ![1024, 4096]⟩
abbrev S1x768x4096 : Shape := ⟨3, ![1, 768, 4096]⟩
abbrev S4096x768 : Shape := ⟨2, ![4096, 768]⟩
abbrev S1024x768 : Shape := ⟨2, ![1024, 768]⟩
abbrev S768x4096 : Shape := ⟨2, ![768, 4096]⟩

abbrev nBuf : Space → Nat
  | .hbm => 16
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4x4096x8904, .f32⟩
  | .hbm, ⟨2, _⟩ => ⟨S4x8904x4096, .f32⟩
  | .hbm, ⟨3, _⟩ => ⟨S4x8904x4096, .bf16⟩
  | .hbm, ⟨4, _⟩ => ⟨S1x4096x1224, .f32⟩
  | .hbm, ⟨5, _⟩ => ⟨S4096x1224, .f32⟩
  | .hbm, ⟨6, _⟩ => ⟨S4096x1216, .f32⟩
  | .hbm, ⟨7, _⟩ => ⟨S4096x1216, .bf16⟩
  | .hbm, ⟨8, _⟩ => ⟨S_, .bf16⟩
  | .hbm, ⟨9, _⟩ => ⟨S4096x64, .bf16⟩
  | .hbm, ⟨10, _⟩ => ⟨S4096x8, .f32⟩
  | .hbm, ⟨11, _⟩ => ⟨S4096x8, .bf16⟩
  | .hbm, ⟨12, _⟩ => ⟨S_, .bf16⟩
  | .hbm, ⟨13, _⟩ => ⟨S4096x248, .bf16⟩
  | .hbm, ⟨14, _⟩ => ⟨S4096x1536, .bf16⟩
  | .hbm, ⟨15, _⟩ => ⟨S16384x9216, .bf16⟩
  | .local _ .vmem, ⟨0, _⟩ => ⟨S1024x4096, .bf16⟩
  | .local _ .vmem, ⟨1, _⟩ => ⟨S1024x4096, .bf16⟩
  | .local _ .vmem, ⟨2, _⟩ => ⟨S1x768x4096, .bf16⟩
  | .local _ .vmem, ⟨3, _⟩ => ⟨S1x768x4096, .bf16⟩
  | .local _ .vmem, ⟨4, _⟩ => ⟨S4096x768, .bf16⟩
  | .local _ .vmem, ⟨5, _⟩ => ⟨S4096x768, .bf16⟩
  | .local _ .vmem, ⟨6, _⟩ => ⟨S1024x768, .bf16⟩
  | .local _ .vmem, ⟨7, _⟩ => ⟨S1024x768, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c10_i32_0 : BitVec 32 := 10#32
  let v3 : BitVec 1 := Scalar.cmpi .sge arg1 c10_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x4096 : Shape := ⟨2, ![16384, 4096]⟩
abbrev S4x4096x8904 : Shape := ⟨3, ![4, 4096, 8904]⟩
abbrev S1x4096x8904 : Shape := ⟨3, ![1, 4096, 8904]⟩
abbrev S4096x8904 : Shape := ⟨2, ![4096, 8904]⟩
abbrev S16384x8904 : Shape := ⟨2, ![16384, 8904]⟩
abbrev S16384x7680 : Shape := ⟨2, ![16384, 7680]⟩
abbrev S16384x1216 : Shape := ⟨2, ![16384, 1216]⟩
abbrev S_ : Shape := ⟨0, ![]⟩
abbrev S16384x64 : Shape := ⟨2, ![16384, 64]⟩
abbrev S16384x8 : Shape := ⟨2, ![16384, 8]⟩
abbrev S16384x248 : Shape := ⟨2, ![16384, 248]⟩
abbrev S16384x9216 : Shape := ⟨2, ![16384, 9216]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x8904, .f32⟩
  | .hbm, ⟨2, _⟩ => ⟨S16384x4096, .f32⟩
  | .hbm, ⟨3, _⟩ => ⟨S1x4096x8904, .f32⟩
  | .hbm, ⟨4, _⟩ => ⟨S4096x8904, .f32⟩
  | .hbm, ⟨5, _⟩ => ⟨S16384x8904, .f32⟩
  | .hbm, ⟨6, _⟩ => ⟨S16384x7680, .f32⟩
  | .hbm, ⟨7, _⟩ => ⟨S16384x1216, .f32⟩
  | .hbm, ⟨8, _⟩ => ⟨S_, .f32⟩
  | .hbm, ⟨9, _⟩ => ⟨S16384x64, .f32⟩
  | .hbm, ⟨10, _⟩ => ⟨S16384x8, .f32⟩
  | .hbm, ⟨11, _⟩ => ⟨S_, .f32⟩
  | .hbm, ⟨12, _⟩ => ⟨S16384x248, .f32⟩
  | .hbm, ⟨13, _⟩ => ⟨S16384x9216, .f32⟩
  | .hbm, ⟨14, _⟩ => ⟨S16384x9216, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Ada.lean ====
abbrev S1x4096 : Shape := ⟨2, ![1, 4096]⟩
abbrev S4096x24576 : Shape := ⟨2, ![4096, 24576]⟩
abbrev S24576 : Shape := ⟨1, ![24576]⟩
abbrev S4096x1 : Shape := ⟨2, ![4096, 1]⟩
abbrev S1x24576 : Shape := ⟨2, ![1, 24576]⟩
abbrev S4096x512 : Shape := ⟨2, ![4096, 512]⟩
abbrev S1x512 : Shape := ⟨2, ![1, 512]⟩
abbrev S512 : Shape := ⟨1, ![512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S4096x24576, .f32⟩
  | .hbm, ⟨2, _⟩ => ⟨S24576, .f32⟩
  | .hbm, ⟨3, _⟩ => ⟨S4096x1, .f32⟩
  | .hbm, ⟨4, _⟩ => ⟨S1x24576, .f32⟩
  | .hbm, ⟨5, _⟩ => ⟨S1x24576, .f32⟩
  | .local _ .vmem, ⟨0, _⟩ => ⟨S4096x1, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S1x4096 : Shape := ⟨2, ![1, 4096]⟩
abbrev S4096x24576 : Shape := ⟨2, ![4096, 24576]⟩
abbrev S24576 : Shape := ⟨1, ![24576]⟩
abbrev S_ : Shape := ⟨0, ![]⟩
abbrev S1x24576 : Shape := ⟨2, ![1, 24576]⟩

abbrev nBuf : Space → Nat
  | .hbm => 15
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x24576, .f32⟩
  | .hbm, ⟨2, _⟩ => ⟨S24576, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x24576, .f32⟩
  | .hbm, ⟨13, _⟩ => ⟨S1x24576, .f32⟩
  | .hbm, ⟨14, _⟩ => ⟨S1x24576, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Norm.lean ====
abbrev S16384x4096 : Shape := ⟨2, ![16384, 4096]⟩
abbrev S4x4096 : Shape := ⟨2, ![4, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x4096 : Shape := ⟨2, ![16384, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== PrepD.lean ====
abbrev S16384x896 : Shape := ⟨2, ![16384, 896]⟩
abbrev S16384x256 : Shape := ⟨2, ![16384, 256]⟩
abbrev S16384x128 : Shape := ⟨2, ![16384, 128]⟩
abbrev S4x896x1536 : Shape := ⟨3, ![4, 896, 1536]⟩
abbrev S4x256x2048 : Shape := ⟨3, ![4, 256, 2048]⟩
abbrev S4x192 : Shape := ⟨2, ![4, 192]⟩
abbrev S1x896x1536 : Shape := ⟨3, ![1, 896, 1536]⟩
abbrev S896x1536 : Shape := ⟨2, ![896, 1536]⟩
abbrev S896x8x192 : Shape := ⟨3, ![896, 8, 192]⟩
abbrev S_ : Shape := ⟨0, ![]⟩
abbrev S896x8x256 : Shape := ⟨3, ![896, 8, 256]⟩
abbrev S896x2048 : Shape := ⟨2, ![896, 2048]⟩
abbrev S1x256x2048 : Shape := ⟨3, ![1, 256, 2048]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S1x192 : Shape := ⟨2, ![1, 192]⟩
abbrev S192 : Shape := ⟨1, ![192]⟩
abbrev S256 : Shape := ⟨1, ![256]⟩
abbrev S1x256 : Shape := ⟨2, ![1, 256]⟩
abbrev S16384x2048 : Shape := ⟨2, ![16384, 2048]⟩
abbrev S8x16x256x1024 : Shape := ⟨4, ![8, 16, 256, 1024]⟩
abbrev S16384x1024 : Shape := ⟨2, ![16384, 1024]⟩
abbrev S256x896 : Shape := ⟨2, ![256, 896]⟩
abbrev S256x256 : Shape := ⟨2, ![256, 256]⟩
abbrev S256x128 : Shape := ⟨2, ![256, 128]⟩
abbrev S8x1x256x256 : Shape := ⟨4, ![8, 1, 256, 256]⟩
abbrev S256x1 : Shape := ⟨2, ![256, 1]⟩
abbrev S1x128 : Shape := ⟨2, ![1, 128]⟩
abbrev S128x256 : Shape := ⟨2, ![128, 256]⟩
abbrev S1x1x128x256 : Shape := ⟨4, ![1, 1, 128, 256]⟩

abbrev nBuf : Space → Nat
  | .hbm => 41
  | .vmem => 20
  | .smem => 0
  | _ => 0

abbrev bufTy : (tb : Table) → Fin (tcTables nBuf tb) → BufTy
  | .hbm, ⟨0, _⟩ => ⟨S16384x896, .bf16⟩
  | .hbm, ⟨1, _⟩ => ⟨S16384x256, .bf16⟩
  | .hbm, ⟨2, _⟩ => ⟨S16384x128, .f32⟩
  | .hbm, ⟨3, _⟩ => ⟨S4x896x1536, .f32⟩
  | .hbm, ⟨4, _⟩ => ⟨S4x256x2048, .f32⟩
  | .hbm, ⟨5, _⟩ => ⟨S4x192, .f32⟩
  | .hbm, ⟨6, _⟩ => ⟨S4x192, .f32⟩
  | .hbm, ⟨7, _⟩ => ⟨S16384x128, .f32⟩
  | .hbm, ⟨8, _⟩ => ⟨S16384x128, .f32⟩
  | .hbm, ⟨9, _⟩ => ⟨S1x896x1536, .f32⟩
  | .hbm, ⟨10, _⟩ => ⟨S896x1536, .f32⟩
  | .hbm, ⟨11, _⟩ => ⟨S896x8x192, .f32⟩
  | .hbm, ⟨12, _⟩ => ⟨S_, .i32⟩
  | .hbm, ⟨13, _⟩ => ⟨S_, .f32⟩
  | .hbm, ⟨14, _⟩ => ⟨S896x8x256, .f32⟩
  | .hbm, ⟨15, _⟩ => ⟨S896x2048, .f32⟩
  | .hbm, ⟨16, _⟩ => ⟨S896x2048, .bf16⟩
  | .hbm, ⟨17, _⟩ => ⟨S1x256x2048, .f32⟩
  | .hbm, ⟨18, _⟩ => ⟨S256x2048, .f32⟩
  | .hbm, ⟨19, _⟩ => ⟨S256x8x256, .f32⟩
  | .hbm, ⟨20, _⟩ => ⟨S256x8x128, .f32⟩
  | .hbm, ⟨21, _⟩ => ⟨S256x1024, .f32⟩
  | .hbm, ⟨22, _⟩ => ⟨S256x8x128, .f32⟩
  | .hbm, ⟨23, _⟩ => ⟨S256x1024, .f32⟩
  | .hbm, ⟨24, _⟩ => ⟨S256x2048, .f32⟩
  | .hbm, ⟨25, _⟩ => ⟨S256x2048, .bf16⟩
  | .hbm, ⟨26, _⟩ => ⟨S1x192, .f32⟩
  | .hbm, ⟨27, _⟩ => ⟨S192, .f32⟩
  | .hbm, ⟨28, _⟩ => ⟨S_, .f32⟩
  | .hbm, ⟨29, _⟩ => ⟨S_, .f32⟩
  | .hbm, ⟨30, _⟩ => ⟨S256, .f32⟩
  | .hbm, ⟨31, _⟩ => ⟨S1x256, .f32⟩
  | .hbm, ⟨32, _⟩ => ⟨S1x192, .f32⟩
  | .hbm, ⟨33, _⟩ => ⟨S192, .f32⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S16384x2048, .bf16⟩
  | .hbm, ⟨39, _⟩ => ⟨S8x16x256x1024, .bf16⟩
  | .hbm, ⟨40, _⟩ => ⟨S16384x1024, .bf16⟩
  | .local _ .vmem, ⟨0, _⟩ => ⟨S256x896, .bf16⟩
  | .local _ .vmem, ⟨1, _⟩ => ⟨S256x896, .bf16⟩
  | .local _ .vmem, ⟨2, _⟩ => ⟨S256x256, .bf16⟩
  | .local _ .vmem, ⟨3, _⟩ => ⟨S256x256, .bf16⟩
  | .local _ .vmem, ⟨4, _⟩ => ⟨S256x128, .f32⟩
  | .local _ .vmem, ⟨5, _⟩ => ⟨S256x128, .f32⟩
  | .local _ .vmem, ⟨6, _⟩ => ⟨S896x2048, .bf16⟩
  | .local _ .vmem, ⟨7, _⟩ => ⟨S256x2048, .bf16⟩
  | .local _ .vmem, ⟨8, _⟩ => ⟨S1x256, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x2048, .bf16⟩
  | .local _ .vmem, ⟨15, _⟩ => ⟨S256x2048, .bf16⟩
  | .local _ .vmem, ⟨16, _⟩ => ⟨S8x1x256x256, .bf16⟩
  | .local _ .vmem, ⟨17, _⟩ => ⟨S8x1x256x256, .bf16⟩
  | .local _ .vmem, ⟨18, _⟩ => ⟨S256x1024, .bf16⟩
  | .local _ .vmem, ⟨19, _⟩ => ⟨S256x1024, .bf16⟩
  | _, _ => ⟨S16384x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_call2_v0 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepDIdeal.lean ====
variable {F : FTy → Type} [FloatOps F] [Named F]
def κ : String → Option EReal := fun
  | "part" => some ((1 / 192 : ℝ) : EReal)
  | _ => none
-- ==== PrepDRefIdeal.lean ====
abbrev S16384x896 : Shape := ⟨2, ![16384, 896]⟩
abbrev S16384x256 : Shape := ⟨2, ![16384, 256]⟩
abbrev S16384x128 : Shape := ⟨2, ![16384, 128]⟩
abbrev S4x896x1536 : Shape := ⟨3, ![4, 896, 1536]⟩
abbrev S4x256x2048 : Shape := ⟨3, ![4, 256, 2048]⟩
abbrev S4x192 : Shape := ⟨2, ![4, 192]⟩
abbrev S16384x32 : Shape := ⟨2, ![16384, 32]⟩
abbrev S16384x1x32 : Shape := ⟨3, ![16384, 1, 32]⟩
abbrev S1x896x1536 : Shape := ⟨3, ![1, 896, 1536]⟩
abbrev S896x1536 : Shape := ⟨2, ![896, 1536]⟩
abbrev S16384x1536 : Shape := ⟨2, ![16384, 1536]⟩
abbrev S16384x8x192 : Shape := ⟨3, ![16384, 8, 192]⟩
abbrev S1x256x2048 : Shape := ⟨3, ![1, 256, 2048]⟩
abbrev S256x2048 : Shape := ⟨2, ![256, 2048]⟩
abbrev S16384x2048 : Shape := ⟨2, ![16384, 2048]⟩
abbrev S16384x8x256 : Shape := ⟨3, ![16384, 8, 256]⟩
abbrev S16384x8x128 : Shape := ⟨3, ![16384, 8, 128]⟩
abbrev S16384x64 : Shape := ⟨2, ![16384, 64]⟩
abbrev S16384x1x64 : Shape := ⟨3, ![16384, 1, 64]⟩
abbrev S16384x8x64 : Shape := ⟨3, ![16384, 8, 64]⟩
abbrev S1x192 : Shape := ⟨2, ![1, 192]⟩
abbrev S192 : Shape := ⟨1, ![192]⟩
abbrev S_ : Shape := ⟨0, ![]⟩
abbrev S16384x8 : Shape := ⟨2, ![16384, 8]⟩
abbrev S16384x8x1 : Shape := ⟨3, ![16384, 8, 1]⟩
abbrev S1x1x192 : Shape := ⟨3, ![1, 1, 192]⟩
abbrev S16384x8x32 : Shape := ⟨3, ![16384, 8, 32]⟩
abbrev S16x1024x8x256 : Shape := ⟨4, ![16, 1024, 8, 256]⟩
abbrev S8x16x256x1024 : Shape := ⟨4, ![8, 16, 256, 1024]⟩
abbrev S16384x1024 : Shape := ⟨2, ![16384, 1024]⟩

abbrev nBuf : Space → Nat
  | .hbm => 109
  | .vmem => 0
  | .smem => 0
  | _ => 0

abbrev bufTy : (tb : Table) → Fin (tcTables nBuf tb) → BufTy
  | .hbm, ⟨0, _⟩ => ⟨S16384x896, .bf16⟩
  | .hbm, ⟨1, _⟩ => ⟨S16384x256, .bf16⟩
  | .hbm, ⟨2, _⟩ => ⟨S16384x128, .f32⟩
  | .hbm, ⟨3, _⟩ => ⟨S4x896x1536, .f32⟩
  | .hbm, ⟨4, _⟩ => ⟨S4x256x2048, .f32⟩
  | .hbm, ⟨5, _⟩ => ⟨S4x192, .f32⟩
  | .hbm, ⟨6, _⟩ => ⟨S4x192, .f32⟩
  | .hbm, ⟨7, _⟩ => ⟨S16384x128, .f32⟩
  | .hbm, ⟨8, _⟩ => ⟨S16384x128, .f32⟩
  | .hbm, ⟨9, _⟩ => ⟨S16384x32, .f32⟩
  | .hbm, ⟨10, _⟩ => ⟨S16384x1x32, .f32⟩
  | .hbm, ⟨11, _⟩ => ⟨S16384x32, .f32⟩
  | .hbm, ⟨12, _⟩ => ⟨S16384x1x32, .f32⟩
  | .hbm, ⟨13, _⟩ => ⟨S16384x896, .f32⟩
  | .hbm, ⟨14, _⟩ => ⟨S1x896x1536, .f32⟩
  | .hbm, ⟨15, _⟩ => ⟨S896x1536, .f32⟩
  | .hbm, ⟨16, _⟩ => ⟨S16384x1536, .f32⟩
  | .hbm, ⟨17, _⟩ => ⟨S16384x8x192, .f32⟩
  | .hbm, ⟨18, _⟩ => ⟨S16384x256, .f32⟩
  | .hbm, ⟨19, _⟩ => ⟨S1x256x2048, .f32⟩
  | .hbm, ⟨20, _⟩ => ⟨S256x2048, .f32⟩
  | .hbm, ⟨21, _⟩ => ⟨S16384x2048, .f32⟩
  | .hbm, ⟨22, _⟩ => ⟨S16384x8x256, .f32⟩
  | .hbm, ⟨23, _⟩ => ⟨S16384x8x128, .f32⟩
  | .hbm, ⟨24, _⟩ => ⟨S16384x8x128, .f32⟩
  | .hbm, ⟨25, _⟩ => ⟨S16384x64, .f32⟩
  | .hbm, ⟨26, _⟩ => ⟨S16384x1x64, .f32⟩
  | .hbm, ⟨27, _⟩ => ⟨S16384x8x64, .f32⟩
  | .hbm, ⟨28, _⟩ => ⟨S16384x8x192, .f32⟩
  | .hbm, ⟨29, _⟩ => ⟨S1x192, .f32⟩
  | .hbm, ⟨30, _⟩ => ⟨S192, .f32⟩
  | .hbm, ⟨31, _⟩ => ⟨S16384x8x192, .f32⟩
  | .hbm, ⟨32, _⟩ => ⟨S_, .f32⟩
  | .hbm, ⟨33, _⟩ => ⟨S16384x8, .f32⟩
  | .hbm, ⟨34, _⟩ => ⟨S16384x8x1, .f32⟩
  | .hbm, ⟨35, _⟩ => ⟨S_, .f32⟩
  | .hbm, ⟨36, _⟩ => ⟨S16384x8x1, .f32⟩
  | .hbm, ⟨37, _⟩ => ⟨S16384x8x1, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S16384x8x1, .f32⟩
  | .hbm, ⟨42, _⟩ => ⟨S16384x8x192, .f32⟩
  | .hbm, ⟨43, _⟩ => ⟨S16384x8x192, .f32⟩
  | .hbm, ⟨44, _⟩ => ⟨S1x1x192, .f32⟩
  | .hbm, ⟨45, _⟩ => ⟨S16384x8x192, .f32⟩
  | .hbm, ⟨46, _⟩ => ⟨S16384x8x192, .f32⟩
  | .hbm, ⟨47, _⟩ => ⟨S_, .f32⟩
  | .hbm, ⟨48, _⟩ => ⟨S16384x8x192, .f32⟩
  | .hbm, ⟨49, _⟩ => ⟨S16384x8x192, .f32⟩
  | .hbm, ⟨50, _⟩ => ⟨S1x192, .f32⟩
  | .hbm, ⟨51, _⟩ => ⟨S192, .f32⟩
  | .hbm, ⟨52, _⟩ => ⟨S16384x8x192, .f32⟩
  | .hbm, ⟨53, _⟩ => ⟨S_, .f32⟩
  | .hbm, ⟨54, _⟩ => ⟨S16384x8, .f32⟩
  | .hbm, ⟨55, _⟩ => ⟨S16384x8x1, .f32⟩
  | .hbm, ⟨56, _⟩ => ⟨S_, .f32⟩
  | .hbm, ⟨57, _⟩ => ⟨S16384x8x1, .f32⟩
  | .hbm, ⟨58, _⟩ => ⟨S16384x8x1, .f32⟩
  | .hbm, ⟨59, _⟩ => ⟨S_, .f32⟩
  | .hbm, ⟨60, _⟩ => ⟨S16384x8x1, .f32⟩
  | .hbm, ⟨61, _⟩ => ⟨S16384x8x1, .f32⟩
  | .hbm, ⟨62, _⟩ => ⟨S16384x8x1, .f32⟩
  | .hbm, ⟨63, _⟩ => ⟨S16384x8x192, .f32⟩
  | .hbm, ⟨64, _⟩ => ⟨S16384x8x192, .f32⟩
  | .hbm, ⟨65, _⟩ => ⟨S1x1x192, .f32⟩
  | .hbm, ⟨66, _⟩ => ⟨S16384x8x192, .f32⟩
  | .hbm, ⟨67, _⟩ => ⟨S16384x8x192, .f32⟩
  | .hbm, ⟨68, _⟩ => ⟨S_, .f32⟩
  | .hbm, ⟨69, _⟩ => ⟨S16384x8x64, .f32⟩
  | .hbm, ⟨70, _⟩ => ⟨S16384x8x128, .f32⟩
  | .hbm, ⟨71, _⟩ => ⟨S16384x8x64, .f32⟩
  | .hbm, ⟨72, _⟩ => ⟨S16384x8x32, .f32⟩
  | .hbm, ⟨73, _⟩ => ⟨S16384x8x32, .f32⟩
  | .hbm, ⟨74, _⟩ => ⟨S16384x8x32, .f32⟩
  | .hbm, ⟨75, _⟩ => ⟨S16384x8x32, .f32⟩
  | .hbm, ⟨76, _⟩ => ⟨S16384x8x32, .f32⟩
  | .hbm, ⟨77, _⟩ => ⟨S16384x8x32, .f32⟩
  | .hbm, ⟨78, _⟩ => ⟨S16384x8x32, .f32⟩
  | .hbm, ⟨79, _⟩ => ⟨S16384x8x32, .f32⟩
  | .hbm, ⟨80, _⟩ => ⟨S16384x8x32, .f32⟩
  | .hbm, ⟨81, _⟩ => ⟨S16384x8x32, .f32⟩
  | .hbm, ⟨82, _⟩ => ⟨S16384x8x32, .f32⟩
  | .hbm, ⟨83, _⟩ => ⟨S16384x8x32, .f32⟩
  | .hbm, ⟨84, _⟩ => ⟨S16384x8x64, .f32⟩
  | .hbm, ⟨85, _⟩ => ⟨S16384x8x256, .f32⟩
  | .hbm, ⟨86, _⟩ => ⟨S16384x8x128, .f32⟩
  | .hbm, ⟨87, _⟩ => ⟨S16384x8x64, .f32⟩
  | .hbm, ⟨88, _⟩ => ⟨S16384x8x32, .f32⟩
  | .hbm, ⟨89, _⟩ => ⟨S16384x8x32, .f32⟩
  | .hbm, ⟨90, _⟩ => ⟨S16384x8x32, .f32⟩
  | .hbm, ⟨91, _⟩ => ⟨S16384x8x32, .f32⟩
  | .hbm, ⟨92, _⟩ => ⟨S16384x8x32, .f32⟩
  | .hbm, ⟨93, _⟩ => ⟨S16384x8x32, .f32⟩
  | .hbm, ⟨94, _⟩ => ⟨S16384x8x32, .f32⟩
  | .hbm, ⟨95, _⟩ => ⟨S16384x8x32, .f32⟩
  | .hbm, ⟨96, _⟩ => ⟨S16384x8x32, .f32⟩
  | .hbm, ⟨97, _⟩ => ⟨S16384x8x32, .f32⟩
  | .hbm, ⟨98, _⟩ => ⟨S16384x8x32, .f32⟩
  | .hbm, ⟨99, _⟩ => ⟨S16384x8x32, .f32⟩
  | .hbm, ⟨100, _⟩ => ⟨S16384x8x64, .f32⟩
  | .hbm, ⟨101, _⟩ => ⟨S16384x8x256, .f32⟩
  | .hbm, ⟨102, _⟩ => ⟨S16x1024x8x256, .f32⟩
  | .hbm, ⟨103, _⟩ => ⟨S8x16x256x1024, .f32⟩
  | .hbm, ⟨104, _⟩ => ⟨S16384x2048, .f32⟩
  | .hbm, ⟨105, _⟩ => ⟨S16384x2048, .bf16⟩
  | .hbm, ⟨106, _⟩ => ⟨S8x16x256x1024, .bf16⟩
  | .hbm, ⟨107, _⟩ => ⟨S16384x1024, .f32⟩
  | .hbm, ⟨108, _⟩ => ⟨S16384x1024, .bf16⟩
  | _, _ => ⟨S16384x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== FlashD.lean ====
abbrev S16384x2048 : Shape := ⟨2, ![16384, 2048]⟩
abbrev S8x16x256x1024 : Shape := ⟨4, ![8, 16, 256, 1024]⟩
abbrev S16384x1024 : Shape := ⟨2, ![16384, 1024]⟩
abbrev S1024x512 : Shape := ⟨2, ![1024, 512]⟩
abbrev S2x16x256x1024 : Shape := ⟨4, ![2, 16, 256, 1024]⟩
abbrev S16384x256 : Shape := ⟨2, ![16384, 256]⟩
abbrev S1024x256 : Shape := ⟨2, ![1024, 256]⟩
abbrev S2x1024x128 : Shape := ⟨3, ![2, 1024, 128]⟩
abbrev S1x1x256x1024 : Shape := ⟨4, ![1, 1, 256, 1024]⟩
abbrev S256x1024 : Shape := ⟨2, ![256, 1024]⟩
abbrev S1024x1024 : Shape := ⟨2, ![1024, 1024]⟩
abbrev S1024x128 : Shape := ⟨2, ![1024, 128]⟩
abbrev S32x1024 : Shape := ⟨2, ![32, 1024]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S1x1024x128 : Shape := ⟨3, ![1, 1024, 128]⟩
abbrev S512x256 : Shape := ⟨2, ![512, 256]⟩
abbrev S1x1x256x512 : Shape := ⟨4, ![1, 1, 256, 512]⟩
abbrev S256x512 : Shape := ⟨2, ![256, 512]⟩
abbrev S512x512 : Shape := ⟨2, ![512, 512]⟩
abbrev S512x128 : Shape := ⟨2, ![512, 128]⟩
abbrev S32x512 : Shape := ⟨2, ![32, 512]⟩
abbrev S1x512x128 : Shape := ⟨3, ![1, 512, 128]⟩
abbrev S512x1024 : Shape := ⟨2, ![512, 1024]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S8x16x256x1024, .bf16⟩
  | .hbm, ⟨2, _⟩ => ⟨S16384x1024, .bf16⟩
  | .hbm, ⟨3, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S2x16x256x1024, .bf16⟩
  | .local _ .vmem, ⟨3, _⟩ => ⟨S16384x256, .bf16⟩
  | .local _ .vmem, ⟨4, _⟩ => ⟨S1024x256, .bf16⟩
  | .local _ .vmem, ⟨5, _⟩ => ⟨S1024x256, .bf16⟩
  | .local _ .vmem, ⟨6, _⟩ => ⟨S2x1024x128, .f32⟩
  | .local _ .vmem, ⟨7, _⟩ => ⟨S2x1024x128, .f32⟩
  | .local _ .vmem, ⟨8, _⟩ => ⟨S2x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c1024_i32_1112 : BitVec 32 := 1024#32
  let v3629 : BitVec 32 := Scalar.muli arg9 c1024_i32_1112
  v3629
def k0_off1 (i : grid0.Coords) (k0_t1 : Fin (k0_t1_loop i).trips) : Fin 4 → Nat :=
  let c0_1115 : Index := 0#32
  let c0_i32_10 : BitVec 32 := 0#32
  let c1_i32_11 : BitVec 32 := 1#32
  let arg9 : BitVec 32 := Scf.iv c0_i32_10 c1_i32_11 k0_t1
  let v3632 : Index := Scalar.indexCast arg9
  let c0_1116 : Index := 0#32
  let c0_1117 : Index := 0#32
  ![0, v3632.toNat, 0, 0]
def k0_off2 (i : grid0.Coords) (k0_t1 : Fin (k0_t1_loop i).trips) : Fin 2 → Nat :=
  let c0_i32_10 : BitVec 32 := 0#32
  let c1_i32_11 : BitVec 32 := 1#32
  let arg9 : BitVec 32 := Scf.iv c0_i32_10 c1_i32_11 k0_t1
  let c1024_i32_1112 : BitVec 32 := 1024#32
  let v3629 : BitVec 32 := Scalar.muli arg9 c1024_i32_1112
  let v3630 : BitVec 32 := v3629
  let v3636 : Index := Scalar.indexCast v3630
  let c0_1119 : Index := 0#32
  ![v3636.toNat, 0]
def k0_off3 (i : grid0.Coords) (k0_t1 : Fin (k0_t1_loop i).trips) : Fin 4 → Nat :=
  let c1_1545 : Index := 1#32
  let c0_i32_10 : BitVec 32 := 0#32
  let c1_i32_11 : BitVec 32 := 1#32
  let arg9 : BitVec 32 := Scf.iv c0_i32_10 c1_i32_11 k0_t1
  let v5313 : Index := Scalar.indexCast arg9
  let c0_1546 : Index := 0#32
  let c0_1547 : Index := 0#32
  ![1, v5313.toNat, 0, 0]
def k0_off4 (i : grid0.Coords) (k0_t1 : Fin (k0_t1_loop i).trips) : Fin 2 → Nat :=
  let c0_i32_10 : BitVec 32 := 0#32
  let c1_i32_11 : BitVec 32 := 1#32
  let arg9 : BitVec 32 := Scf.iv c0_i32_10 c1_i32_11 k0_t1
  let c1024_i32_1112 : BitVec 32 := 1024#32
  let v3629 : BitVec 32 := Scalar.muli arg9 c1024_i32_1112
  let v3630 : BitVec 32 := v3629
  let v5317 : Index := Scalar.indexCast v3630
  let c128_1549 : Index := 128#32
  ![v5317.toNat, 128]
@[reducible] def k0_t2_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_1112 : BitVec 32 := 1024#32
  let v3629 : BitVec 32 := Scalar.muli arg9 c1024_i32_1112
  v3629
def k0_off5 (i : grid0.Coords) (k0_t2 : Fin (k0_t2_loop i).trips) : Fin 4 → Nat :=
  let c0_1115 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let v3632 : Index := Scalar.indexCast arg9
  let c0_1116 : Index := 0#32
  let c0_1117 : Index := 0#32
  ![0, v3632.toNat, 0, 0]
def k0_off6 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_1112 : BitVec 32 := 1024#32
  let v3629 : BitVec 32 := Scalar.muli arg9 c1024_i32_1112
  let v3630 : BitVec 32 := v3629
  let v3636 : Index := Scalar.indexCast v3630
  let c0_1119 : Index := 0#32
  ![v3636.toNat, 0]
def k0_off7 (i : grid0.Coords) (k0_t2 : Fin (k0_t2_loop i).trips) : Fin 4 → Nat :=
  let c1_1545 : Index := 1#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let v5313 : Index := Scalar.indexCast arg9
  let c0_1546 : Index := 0#32
  let c0_1547 : Index := 0#32
  ![1, v5313.toNat, 0, 0]
def k0_off8 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_1112 : BitVec 32 := 1024#32
  let v3629 : BitVec 32 := Scalar.muli arg9 c1024_i32_1112
  let v3630 : BitVec 32 := v3629
  let v5317 : Index := Scalar.indexCast v3630
  let c128_1549 : Index := 128#32
  ![v5317.toNat, 128]
def k0_mult3 (i : grid0.Coords) : BitVec 32 :=
  let arg1 : BitVec 32 := BitVec.ofNat 32 (i 1).val
  let c1024_i32 : BitVec 32 := 1024#32
  let v17 : BitVec 32 := Scalar.muli arg1 c1024_i32
  v17
def k0_off9 (i : grid0.Coords) : Fin 4 → Nat :=
  let c0_15 : Index := 0#32
  let arg1 : BitVec 32 := BitVec.ofNat 32 (i 1).val
  let v20 : Index := Scalar.indexCast arg1
  let c0_16 : Index := 0#32
  let c0_17 : Index := 0#32
  ![0, v20.toNat, 0, 0]
def k0_off10 (i : grid0.Coords) : Fin 2 → Nat :=
  let arg1 : BitVec 32 := BitVec.ofNat 32 (i 1).val
  let c1024_i32 : BitVec 32 := 1024#32
  let v17 : BitVec 32 := Scalar.muli arg1 c1024_i32
  let v18 : BitVec 32 := v17
  let v24 : Index := Scalar.indexCast v18
  let c0_19 : Index := 0#32
  ![v24.toNat, 0]
def k0_off11 (i : grid0.Coords) : Fin 4 → Nat :=
  let c1 : Index := 1#32
  let arg1 : BitVec 32 := BitVec.ofNat 32 (i 1).val
  let v789 : Index := Scalar.indexCast arg1
  let c0_270 : Index := 0#32
  let c0_271 : Index := 0#32
  ![1, v789.toNat, 0, 0]
def k0_off12 (i : grid0.Coords) : Fin 2 → Nat :=
  let arg1 : BitVec 32 := BitVec.ofNat 32 (i 1).val
  let c1024_i32 : BitVec 32 := 1024#32
  let v17 : BitVec 32 := Scalar.muli arg1 c1024_i32
  let v18 : BitVec 32 := v17
  let v793 : Index := Scalar.indexCast v18
  let c128_273 : Index := 128#32
  ![v793.toNat, 128]
def k0_mult4 (i : grid0.Coords) : BitVec 32 :=
  let arg1 : BitVec 32 := BitVec.ofNat 32 (i 1).val
  let c1024_i32_553 : BitVec 32 := 1024#32
  let v1557 : BitVec 32 := Scalar.muli arg1 c1024_i32_553
  v1557
def k0_off13 (i : grid0.Coords) : Fin 4 → Nat :=
  let c0_555 : Index := 0#32
  let arg1 : BitVec 32 := BitVec.ofNat 32 (i 1).val
  let v1560 : Index := Scalar.indexCast arg1
  let c0_556 : Index := 0#32
  let c0_557 : Index := 0#32
  ![0, v1560.toNat, 0, 0]
def k0_off14 (i : grid0.Coords) : Fin 2 → Nat :=
  let arg1 : BitVec 32 := BitVec.ofNat 32 (i 1).val
  let c1024_i32_553 : BitVec 32 := 1024#32
  let v1557 : BitVec 32 := Scalar.muli arg1 c1024_i32_553
  let v1558 : BitVec 32 := v1557
  let v1564 : Index := Scalar.indexCast v1558
  let c0_559 : Index := 0#32
  ![v1564.toNat, 0]
def k0_off15 (i : grid0.Coords) : Fin 4 → Nat :=
  let c1_810 : Index := 1#32
  let arg1 : BitVec 32 := BitVec.ofNat 32 (i 1).val
  let v2585 : Index := Scalar.indexCast arg1
  let c0_811 : Index := 0#32
  let c0_812 : Index := 0#32
  ![1, v2585.toNat, 0, 0]
def k0_off16 (i : grid0.Coords) : Fin 2 → Nat :=
  let arg1 : BitVec 32 := BitVec.ofNat 32 (i 1).val
  let c1024_i32_553 : BitVec 32 := 1024#32
  let v1557 : BitVec 32 := Scalar.muli arg1 c1024_i32_553
  let v1558 : BitVec 32 := v1557
  let v2589 : Index := Scalar.indexCast v1558
  let c128_814 : Index := 128#32
  ![v2589.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x16x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FlashDIdeal.lean ====
variable {F : FTy → Type} [FloatOps F] [Named F]
def κ : String → Option EReal := fun
  | "mask" => some ⊥
  | _ => none
-- ==== FlashDRefIdeal.lean ====
abbrev S16384x2048 : Shape := ⟨2, ![16384, 2048]⟩
abbrev S8x16x256x1024 : Shape := ⟨4, ![8, 16, 256, 1024]⟩
abbrev S16384x1024 : Shape := ⟨2, ![16384, 1024]⟩
abbrev S8x16x1024x256 : Shape := ⟨4, ![8, 16, 1024, 256]⟩
abbrev S8x16384x256 : Shape := ⟨3, ![8, 16384, 256]⟩
abbrev S16384x8x256 : Shape := ⟨3, ![16384, 8, 256]⟩
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x16x256x1024, .bf16⟩
  | .hbm, ⟨2, _⟩ => ⟨S16384x1024, .bf16⟩
  | .hbm, ⟨3, _⟩ => ⟨S8x16x256x1024, .f32⟩
  | .hbm, ⟨4, _⟩ => ⟨S8x16x1024x256, .f32⟩
  | .hbm, ⟨5, _⟩ => ⟨S8x16384x256, .f32⟩
  | .hbm, ⟨6, _⟩ => ⟨S16384x2048, .f32⟩
  | .hbm, ⟨7, _⟩ => ⟨S16384x8x256, .f32⟩
  | .hbm, ⟨8, _⟩ => ⟨S16384x1024, .f32⟩
  | .hbm, ⟨9, _⟩ => ⟨S16384x8x128, .f32⟩
  | .hbm, ⟨10, _⟩ => ⟨S8x16384x16384, .f32⟩
  | .hbm, ⟨11, _⟩ => ⟨S_, .f32⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S1x16384, .i32⟩
  | .hbm, ⟨35, _⟩ => ⟨S16384x1, .i32⟩
  | .hbm, ⟨36, _⟩ => ⟨S16384x16384, .i32⟩
  | .hbm, ⟨37, _⟩ => ⟨S16384x16384, .i32⟩
  | .hbm, ⟨38, _⟩ => ⟨S16384x16384, .i1⟩
  | .hbm, ⟨39, _⟩ => ⟨S1x16384x16384, .i1⟩
  | .hbm, ⟨40, _⟩ => ⟨S_, .f32⟩
  | .hbm, ⟨41, _⟩ => ⟨S_, .f32⟩
  | .hbm, ⟨42, _⟩ => ⟨S8x16384x16384, .i1⟩
  | .hbm, ⟨43, _⟩ => ⟨S8x16384x16384, .f32⟩
  | .hbm, ⟨44, _⟩ => ⟨S8x16384x16384, .f32⟩
  | .hbm, ⟨45, _⟩ => ⟨S_, .f32⟩
  | .hbm, ⟨46, _⟩ => ⟨S8x16384, .f32⟩
  | .hbm, ⟨47, _⟩ => ⟨S_, .f32⟩
  | .hbm, ⟨48, _⟩ => ⟨S8x16384, .f32⟩
  | .hbm, ⟨49, _⟩ => ⟨S8x16384, .f32⟩
  | .hbm, ⟨50, _⟩ => ⟨S8x16384x1, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S_, .f32⟩
  | .hbm, ⟨55, _⟩ => ⟨S8x16384, .f32⟩
  | .hbm, ⟨56, _⟩ => ⟨S8x16384x1, .f32⟩
  | .hbm, ⟨57, _⟩ => ⟨S8x16384x16384, .f32⟩
  | .hbm, ⟨58, _⟩ => ⟨S8x16384x16384, .f32⟩
  | .hbm, ⟨59, _⟩ => ⟨S8x128x16384, .f32⟩
  | .hbm, ⟨60, _⟩ => ⟨S16384x8x128, .f32⟩
  | .hbm, ⟨61, _⟩ => ⟨S16384x1024, .f32⟩
  | .hbm, ⟨62, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]
-- ==== FlashC.lean ====
abbrev S16384x2048 : Shape := ⟨2, ![16384, 2048]⟩
abbrev S8x16x256x1024 : Shape := ⟨4, ![8, 16, 256, 1024]⟩
abbrev S16384x1024 : Shape := ⟨2, ![16384, 1024]⟩
abbrev S1024x512 : Shape := ⟨2, ![1024, 512]⟩
abbrev S2x16x256x1024 : Shape := ⟨4, ![2, 16, 256, 1024]⟩
abbrev S16384x256 : Shape := ⟨2, ![16384, 256]⟩
abbrev S1024x256 : Shape := ⟨2, ![1024, 256]⟩
abbrev S2x1024x128 : Shape := ⟨3, ![2, 1024, 128]⟩
abbrev S1x1x256x1024 : Shape := ⟨4, ![1, 1, 256, 1024]⟩
abbrev S256x1024 : Shape := ⟨2, ![256, 1024]⟩
abbrev S1024x1024 : Shape := ⟨2, ![1024, 1024]⟩
abbrev S1024x128 : Shape := ⟨2, ![1024, 128]⟩
abbrev S32x1024 : Shape := ⟨2, ![32, 1024]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S1x1024x128 : Shape := ⟨3, ![1, 1024, 128]⟩
abbrev S512x256 : Shape := ⟨2, ![512, 256]⟩
abbrev S1x1x256x512 : Shape := ⟨4, ![1, 1, 256, 512]⟩
abbrev S256x512 : Shape := ⟨2, ![256, 512]⟩
abbrev S512x512 : Shape := ⟨2, ![512, 512]⟩
abbrev S512x128 : Shape := ⟨2, ![512, 128]⟩
abbrev S32x512 : Shape := ⟨2, ![32, 512]⟩
abbrev S1x512x128 : Shape := ⟨3, ![1, 512, 128]⟩
abbrev S512x1024 : Shape := ⟨2, ![512, 1024]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S8x16x256x1024, .bf16⟩
  | .hbm, ⟨2, _⟩ => ⟨S16384x1024, .bf16⟩
  | .hbm, ⟨3, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S2x16x256x1024, .bf16⟩
  | .local _ .vmem, ⟨3, _⟩ => ⟨S16384x256, .bf16⟩
  | .local _ .vmem, ⟨4, _⟩ => ⟨S1024x256, .bf16⟩
  | .local _ .vmem, ⟨5, _⟩ => ⟨S1024x256, .bf16⟩
  | .local _ .vmem, ⟨6, _⟩ => ⟨S2x1024x128, .f32⟩
  | .local _ .vmem, ⟨7, _⟩ => ⟨S2x1024x128, .f32⟩
  | .local _ .vmem, ⟨8, _⟩ => ⟨S2x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg9 : BitVec 32 := Scf.iv c0_i32_10 c1_i32_11 k0_t1
  let c1024_i32_985 : BitVec 32 := 1024#32
  let v3373 : BitVec 32 := Scalar.muli arg9 c1024_i32_985
  v3373
def k0_off1 (i : grid0.Coords) (k0_t1 : Fin (k0_t1_loop i).trips) : Fin 4 → Nat :=
  let c0_988 : Index := 0#32
  let c0_i32_10 : BitVec 32 := 0#32
  let c1_i32_11 : BitVec 32 := 1#32
  let arg9 : BitVec 32 := Scf.iv c0_i32_10 c1_i32_11 k0_t1
  let v3376 : Index := Scalar.indexCast arg9
  let c0_989 : Index := 0#32
  let c0_990 : Index := 0#32
  ![0, v3376.toNat, 0, 0]
def k0_off2 (i : grid0.Coords) (k0_t1 : Fin (k0_t1_loop i).trips) : Fin 2 → Nat :=
  let c0_i32_10 : BitVec 32 := 0#32
  let c1_i32_11 : BitVec 32 := 1#32
  let arg9 : BitVec 32 := Scf.iv c0_i32_10 c1_i32_11 k0_t1
  let c1024_i32_985 : BitVec 32 := 1024#32
  let v3373 : BitVec 32 := Scalar.muli arg9 c1024_i32_985
  let v3374 : BitVec 32 := v3373
  let v3380 : Index := Scalar.indexCast v3374
  let c0_992 : Index := 0#32
  ![v3380.toNat, 0]
def k0_off3 (i : grid0.Coords) (k0_t1 : Fin (k0_t1_loop i).trips) : Fin 4 → Nat :=
  let c1_1418 : Index := 1#32
  let c0_i32_10 : BitVec 32 := 0#32
  let c1_i32_11 : BitVec 32 := 1#32
  let arg9 : BitVec 32 := Scf.iv c0_i32_10 c1_i32_11 k0_t1
  let v5057 : Index := Scalar.indexCast arg9
  let c0_1419 : Index := 0#32
  let c0_1420 : Index := 0#32
  ![1, v5057.toNat, 0, 0]
def k0_off4 (i : grid0.Coords) (k0_t1 : Fin (k0_t1_loop i).trips) : Fin 2 → Nat :=
  let c0_i32_10 : BitVec 32 := 0#32
  let c1_i32_11 : BitVec 32 := 1#32
  let arg9 : BitVec 32 := Scf.iv c0_i32_10 c1_i32_11 k0_t1
  let c1024_i32_985 : BitVec 32 := 1024#32
  let v3373 : BitVec 32 := Scalar.muli arg9 c1024_i32_985
  let v3374 : BitVec 32 := v3373
  let v5061 : Index := Scalar.indexCast v3374
  let c128_1422 : Index := 128#32
  ![v5061.toNat, 128]
@[reducible] def k0_t2_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_985 : BitVec 32 := 1024#32
  let v3373 : BitVec 32 := Scalar.muli arg9 c1024_i32_985
  v3373
def k0_off5 (i : grid0.Coords) (k0_t2 : Fin (k0_t2_loop i).trips) : Fin 4 → Nat :=
  let c0_988 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let v3376 : Index := Scalar.indexCast arg9
  let c0_989 : Index := 0#32
  let c0_990 : Index := 0#32
  ![0, v3376.toNat, 0, 0]
def k0_off6 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_985 : BitVec 32 := 1024#32
  let v3373 : BitVec 32 := Scalar.muli arg9 c1024_i32_985
  let v3374 : BitVec 32 := v3373
  let v3380 : Index := Scalar.indexCast v3374
  let c0_992 : Index := 0#32
  ![v3380.toNat, 0]
def k0_off7 (i : grid0.Coords) (k0_t2 : Fin (k0_t2_loop i).trips) : Fin 4 → Nat :=
  let c1_1418 : Index := 1#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let v5057 : Index := Scalar.indexCast arg9
  let c0_1419 : Index := 0#32
  let c0_1420 : Index := 0#32
  ![1, v5057.toNat, 0, 0]
def k0_off8 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg9 : BitVec 32 := Scf.iv v16 c1_i32_12 k0_t2
  let c1024_i32_985 : BitVec 32 := 1024#32
  let v3373 : BitVec 32 := Scalar.muli arg9 c1024_i32_985
  let v3374 : BitVec 32 := v3373
  let v5061 : Index := Scalar.indexCast v3374
  let c128_1422 : Index := 128#32
  ![v5061.toNat, 128]
def k0_mult3 (i : grid0.Coords) : BitVec 32 :=
  let arg1 : BitVec 32 := BitVec.ofNat 32 (i 1).val
  let c1024_i32 : BitVec 32 := 1024#32
  let v17 : BitVec 32 := Scalar.muli arg1 c1024_i32
  v17
def k0_off9 (i : grid0.Coords) : Fin 4 → Nat :=
  let c0_15 : Index := 0#32
  let arg1 : BitVec 32 := BitVec.ofNat 32 (i 1).val
  let v20 : Index := Scalar.indexCast arg1
  let c0_16 : Index := 0#32
  let c0_17 : Index := 0#32
  ![0, v20.toNat, 0, 0]
def k0_off10 (i : grid0.Coords) : Fin 2 → Nat :=
  let arg1 : BitVec 32 := BitVec.ofNat 32 (i 1).val
  let c1024_i32 : BitVec 32 := 1024#32
  let v17 : BitVec 32 := Scalar.muli arg1 c1024_i32
  let v18 : BitVec 32 := v17
  let v24 : Index := Scalar.indexCast v18
  let c0_19 : Index := 0#32
  ![v24.toNat, 0]
def k0_off11 (i : grid0.Coords) : Fin 4 → Nat :=
  let c1 : Index := 1#32
  let arg1 : BitVec 32 := BitVec.ofNat 32 (i 1).val
  let v725 : Index := Scalar.indexCast arg1
  let c0_239 : Index := 0#32
  let c0_240 : Index := 0#32
  ![1, v725.toNat, 0, 0]
def k0_off12 (i : grid0.Coords) : Fin 2 → Nat :=
  let arg1 : BitVec 32 := BitVec.ofNat 32 (i 1).val
  let c1024_i32 : BitVec 32 := 1024#32
  let v17 : BitVec 32 := Scalar.muli arg1 c1024_i32
  let v18 : BitVec 32 := v17
  let v729 : Index := Scalar.indexCast v18
  let c128_242 : Index := 128#32
  ![v729.toNat, 128]
def k0_mult4 (i : grid0.Coords) : BitVec 32 :=
  let arg1 : BitVec 32 := BitVec.ofNat 32 (i 1).val
  let c1024_i32_490 : BitVec 32 := 1024#32
  let v1429 : BitVec 32 := Scalar.muli arg1 c1024_i32_490
  v1429
def k0_off13 (i : grid0.Coords) : Fin 4 → Nat :=
  let c0_492 : Index := 0#32
  let arg1 : BitVec 32 := BitVec.ofNat 32 (i 1).val
  let v1432 : Index := Scalar.indexCast arg1
  let c0_493 : Index := 0#32
  let c0_494 : Index := 0#32
  ![0, v1432.toNat, 0, 0]
def k0_off14 (i : grid0.Coords) : Fin 2 → Nat :=
  let arg1 : BitVec 32 := BitVec.ofNat 32 (i 1).val
  let c1024_i32_490 : BitVec 32 := 1024#32
  let v1429 : BitVec 32 := Scalar.muli arg1 c1024_i32_490
  let v1430 : BitVec 32 := v1429
  let v1436 : Index := Scalar.indexCast v1430
  let c0_496 : Index := 0#32
  ![v1436.toNat, 0]
def k0_off15 (i : grid0.Coords) : Fin 4 → Nat :=
  let c1_715 : Index := 1#32
  let arg1 : BitVec 32 := BitVec.ofNat 32 (i 1).val
  let v2393 : Index := Scalar.indexCast arg1
  let c0_716 : Index := 0#32
  let c0_717 : Index := 0#32
  ![1, v2393.toNat, 0, 0]
def k0_off16 (i : grid0.Coords) : Fin 2 → Nat :=
  let arg1 : BitVec 32 := BitVec.ofNat 32 (i 1).val
  let c1024_i32_490 : BitVec 32 := 1024#32
  let v1429 : BitVec 32 := Scalar.muli arg1 c1024_i32_490
  let v1430 : BitVec 32 := v1429
  let v2397 : Index := Scalar.indexCast v1430
  let c128_719 : Index := 128#32
  ![v2397.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x16x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FlashCIdeal.lean ====
variable {F : FTy → Type} [FloatOps F] [Named F]
def κ : String → Option EReal := fun
  | "mask" => some ⊥
  | _ => none
-- ==== FlashCRefIdeal.lean ====
abbrev S16384x2048 : Shape := ⟨2, ![16384, 2048]⟩
abbrev S8x16x256x1024 : Shape := ⟨4, ![8, 16, 256, 1024]⟩
abbrev S16384x1024 : Shape := ⟨2, ![16384, 1024]⟩
abbrev S8x16x1024x256 : Shape := ⟨4, ![8, 16, 1024, 256]⟩
abbrev S8x16384x256 : Shape := ⟨3, ![8, 16384, 256]⟩
abbrev S16384x8x256 : Shape := ⟨3, ![16384, 8, 256]⟩
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x16x256x1024, .bf16⟩
  | .hbm, ⟨2, _⟩ => ⟨S16384x1024, .bf16⟩
  | .hbm, ⟨3, _⟩ => ⟨S8x16x256x1024, .f32⟩
  | .hbm, ⟨4, _⟩ => ⟨S8x16x1024x256, .f32⟩
  | .hbm, ⟨5, _⟩ => ⟨S8x16384x256, .f32⟩
  | .hbm, ⟨6, _⟩ => ⟨S16384x2048, .f32⟩
  | .hbm, ⟨7, _⟩ => ⟨S16384x8x256, .f32⟩
  | .hbm, ⟨8, _⟩ => ⟨S16384x1024, .f32⟩
  | .hbm, ⟨9, _⟩ => ⟨S16384x8x128, .f32⟩
  | .hbm, ⟨10, _⟩ => ⟨S8x16384x16384, .f32⟩
  | .hbm, ⟨11, _⟩ => ⟨S_, .f32⟩
  | .hbm, ⟨12, _⟩ => ⟨S_, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S1x16384, .i32⟩
  | .hbm, ⟨35, _⟩ => ⟨S16384x1, .i32⟩
  | .hbm, ⟨36, _⟩ => ⟨S16384x16384, .i32⟩
  | .hbm, ⟨37, _⟩ => ⟨S16384x16384, .i32⟩
  | .hbm, ⟨38, _⟩ => ⟨S16384x16384, .i1⟩
  | .hbm, ⟨39, _⟩ => ⟨S1x16384x16384, .i1⟩
  | .hbm, ⟨40, _⟩ => ⟨S_, .f32⟩
  | .hbm, ⟨41, _⟩ => ⟨S_, .f32⟩
  | .hbm, ⟨42, _⟩ => ⟨S8x16384x16384, .i1⟩
  | .hbm, ⟨43, _⟩ => ⟨S8x16384x16384, .f32⟩
  | .hbm, ⟨44, _⟩ => ⟨S8x16384x16384, .f32⟩
  | .hbm, ⟨45, _⟩ => ⟨S_, .f32⟩
  | .hbm, ⟨46, _⟩ => ⟨S8x16384, .f32⟩
  | .hbm, ⟨47, _⟩ => ⟨S_, .f32⟩
  | .hbm, ⟨48, _⟩ => ⟨S8x16384, .f32⟩
  | .hbm, ⟨49, _⟩ => ⟨S8x16384, .f32⟩
  | .hbm, ⟨50, _⟩ => ⟨S8x16384x1, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S_, .f32⟩
  | .hbm, ⟨55, _⟩ => ⟨S8x16384, .f32⟩
  | .hbm, ⟨56, _⟩ => ⟨S8x16384x1, .f32⟩
  | .hbm, ⟨57, _⟩ => ⟨S8x16384x16384, .f32⟩
  | .hbm, ⟨58, _⟩ => ⟨S8x16384x16384, .f32⟩
  | .hbm, ⟨59, _⟩ => ⟨S8x128x16384, .f32⟩
  | .hbm, ⟨60, _⟩ => ⟨S16384x8x128, .f32⟩
  | .hbm, ⟨61, _⟩ => ⟨S16384x1024, .f32⟩
  | .hbm, ⟨62, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]
-- ==== Proof.MergeValue.lean ====
/- Values of the gated merge of the four mixers' outputs: what each grid point stores, and the array after the run. -/
module

public import proofs.«01_k».proof.Proof.Gen.MergeIdeal.Frame
public import proofs.«01_k».proof.Proof.Gen.MergeRefIdeal.Run
public import Idealize.ShloMosaic.Lib.Pipeline.ValueKit
public import Idealize.ShloMosaic.Lib.Pointwise

@[expose] public section

set_option maxRecDepth 16384

noncomputable section

namespace Cert.MergeRefIdeal.Sum

open Cert.MergeRefIdeal Cert.MergeRefIdeal.Gen Idealize.ShloMosaic

/-- The constant one everywhere. -/
abbrev ones : FVec Ideal S16384x4096 .f32 :=
  broadcastInDim S16384x4096 ![] bcast_S_S16384x4096 (constant S_ .f32 0x3F800000#32)

/-- One mixer's part of the merge: the logistic gate of the layer's input times the mixer's projected output. -/
abbrev part (h : FVec Ideal S16384x4096 .bf16) (o : FVec Ideal S16384x1024 .bf16) (w : FVec Ideal S1x1x4096x4096 .f32)
    (b : FVec Ideal S1x1x4096 .f32) (p : FVec Ideal S1x1x1024x4096 .f32) : FVec Ideal S16384x4096 .f32 :=
  mulf (Host.divf ones (addf ones (Host.exp (Host.negf (addf
      (Host.dotGeneral dot_S16384x4096_S4096x4096_S16384x4096_1_0_0_1_n_n none (extf .f32 h bitsLt_bf16_f32)
        (shapeCast _ w shapeCasts_S1x1x4096x4096_S4096x4096))
      (broadcastInDim S16384x4096 ![0, 1] bcast_S1x4096_S16384x4096_0_1
        (broadcastInDim S1x4096 ![1] bcast_S4096_S1x4096_1 (shapeCast _ b shapeCasts_S1x1x4096_S4096))))))))
    (Host.dotGeneral dot_S16384x1024_S1024x4096_S16384x4096_1_0_0_1_n_n none (extf .f32 o bitsLt_bf16_f32)
      (shapeCast _ p shapeCasts_S1x1x1024x4096_S1024x4096))

/-- The merge: the four parts added up from zero, with the first layer's weights. -/
abbrev plain (h : FVec Ideal S16384x4096 .bf16) (oa ob oc od : FVec Ideal S16384x1024 .bf16)
    (w : FVec Ideal S4x4x4096x4096 .f32) (b : FVec Ideal S4x4x4096 .f32) (p : FVec Ideal S4x4x1024x4096 .f32) :
    FVec Ideal S16384x4096 .bf16 :=
  truncf .bf16 (addf (addf (addf (addf
    (broadcastInDim S16384x4096 ![] bcast_S_S16384x4096 (constant S_ .f32 0x00000000#32))
    (part h oa (extractStridedSlice S1x1x4096x4096 ![0, 0, 0, 0] w slices_S4x4x4096x4096_S1x1x4096x4096_0_0_0_0)
      (extractStridedSlice S1x1x4096 ![0, 0, 0] b slices_S4x4x4096_S1x1x4096_0_0_0)
      (extractStridedSlice S1x1x1024x4096 ![0, 0, 0, 0] p slices_S4x4x1024x4096_S1x1x1024x4096_0_0_0_0)))
    (part h ob (extractStridedSlice S1x1x4096x4096 ![0, 1, 0, 0] w slices_S4x4x4096x4096_S1x1x4096x4096_0_1_0_0)
      (extractStridedSlice S1x1x4096 ![0, 1, 0] b slices_S4x4x4096_S1x1x4096_0_1_0)
      (extractStridedSlice S1x1x1024x4096 ![0, 1, 0, 0] p slices_S4x4x1024x4096_S1x1x1024x4096_0_1_0_0)))
    (part h oc (extractStridedSlice S1x1x4096x4096 ![0, 2, 0, 0] w slices_S4x4x4096x4096_S1x1x4096x4096_0_2_0_0)
      (extractStridedSlice S1x1x4096 ![0, 2, 0] b slices_S4x4x4096_S1x1x4096_0_2_0)
      (extractStridedSlice S1x1x1024x4096 ![0, 2, 0, 0] p slices_S4x4x1024x4096_S1x1x1024x4096_0_2_0_0)))
    (part h od (extractStridedSlice S1x1x4096x4096 ![0, 3, 0, 0] w slices_S4x4x4096x4096_S1x1x4096x4096_0_3_0_0)
      (extractStridedSlice S1x1x4096 ![0, 3, 0] b slices_S4x4x4096_S1x1x4096_0_3_0)
      (extractStridedSlice S1x1x1024x4096 ![0, 3, 0, 0] p slices_S4x4x1024x4096_S1x1x1024x4096_0_3_0_0)))
    bitsLt_bf16_f32

set_option maxHeartbeats 4000000 in
/-- The reference's result is this formula of its arguments. -/
theorem result (m : (ℓ : Loc nD τ sig) → Buf (Elt Ideal) ℓ) (c : Dev nD) : Value.res_main_v82 m c
    = plain (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := rfl

end Cert.MergeRefIdeal.Sum

namespace Cert.MergeIdeal.Sum

open Cert.MergeIdeal Cert.MergeIdeal.Gen Idealize.ShloMosaic Idealize.ShloMosaic.TcCoe Idealize.SL.Sem
open Idealize.ShloMosaic.Pipeline (Dat)
open Cert.MergeRefIdeal.Sum (plain part ones)

variable (m : (ℓ : Loc nD τ sig) → Buf (Elt Ideal) ℓ)

/-- Where each window's block lies at grid point `t`. -/
theorem place : ∀ t : Fin cfg0.N, win0_0.index t = ![t.val / 16, 0] ∧ win0_1.index t = ![t.val / 16, 0]
    ∧ win0_2.index t = ![t.val / 16, 0] ∧ win0_3.index t = ![t.val / 16, 0] ∧ win0_4.index t = ![t.val / 16, 0]
    ∧ win0_5.index t = ![0, 0, 0, t.val % 16] ∧ win0_6.index t = ![0, 0, t.val % 16]
    ∧ win0_7.index t = ![0, 0, 0, t.val % 16] ∧ win0_8.index t = ![t.val / 16, t.val % 16] :=
  (by decide +kernel : ∀ t : Fin grid0.N, _)

set_option maxHeartbeats 1600000 in
/-- What grid point `t` leaves in the output block is the merge at the array index it covers. -/
theorem at_point (c : Dev nD) (t : Fin cfg0.N) (y) :
    k0_pay1 (k0_pay5 (iblk m c 0 t) (k0_pay2 (iblk m c 0 t) (View.ld (iblk m c 5 t) r0_1) (View.ld (iblk m c 6 t) r0_2)
        (iblk m c 1 t) (View.ld (iblk m c 7 t) r0_4))
        (k0_pay3 (iblk m c 0 t) (View.ld (iblk m c 5 t) r0_5) (View.ld (iblk m c 6 t) r0_6)) (iblk m c 2 t)
        (k0_pay4 (View.ld (iblk m c 7 t) r0_7)) (View.ld (iblk m c 5 t) r0_8) (View.ld (iblk m c 6 t) r0_9)
        (iblk m c 3 t) (View.ld (iblk m c 7 t) r0_10))
      (k0_pay6 (iblk m c 0 t) (View.ld (iblk m c 5 t) r0_11) (View.ld (iblk m c 6 t) r0_12)) (iblk m c 4 t)
      (k0_pay7 (View.ld (iblk m c 7 t) r0_13)) y
    = plain (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (((cfg0.win 8).blk t).view.emb y) := by
  pointwise [k0_pay1, k0_pay5, k0_pay2, k0_pay3, k0_pay6, k0_pay4, k0_pay7, plain, part, ones, Ideal.logistic, zero_add]
  blk_point [iblk, V, place t]

/-- The array after the run is the merge. -/
theorem array (c : Dev nD) : (dats m 0 c).arrAt 8 (cfgs 0).N
    = plain (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  frame_out
  exact at_point m c t y

end Cert.MergeIdeal.Sum

end
-- ==== Proof.ResidValue.lean ====
/- Values of the output projection with its gated residual: what each grid point stores, and the array after the run. -/
module

public import proofs.«01_k».proof.Proof.Gen.ResidIdeal.Frame
public import proofs.«01_k».proof.Proof.Gen.ResidRefIdeal
public import Idealize.ShloMosaic.Lib.Pipeline.ValueKit
public import Idealize.ShloMosaic.Lib.Pointwise

@[expose] public section

set_option maxRecDepth 16384

noncomputable section

namespace Cert.ResidIdeal.Proj

open Cert.ResidIdeal Cert.ResidIdeal.Gen Idealize.ShloMosaic Idealize.ShloMosaic.TcCoe Idealize.SL.Sem
open Idealize.ShloMosaic.Pipeline (Dat)

variable (m : (ℓ : Loc nD τ sig) → Buf (Elt Ideal) ℓ)

/-- The plain formula: the residual plus the gate times the product with the first layer's weights. -/
abbrev plain (a : FVec Ideal Cert.ResidRefIdeal.S16384x4096 .bf16) (w : FVec Ideal Cert.ResidRefIdeal.S4x4096x4096 .f32)
    (x : FVec Ideal Cert.ResidRefIdeal.S16384x4096 .f32) (g : FVec Ideal Cert.ResidRefIdeal.S1x4096 .f32) :
    FVec Ideal Cert.ResidRefIdeal.S16384x4096 .f32 :=
  addf x (mulf (broadcastInDim Cert.ResidRefIdeal.S16384x4096 ![0, 1] Cert.ResidRefIdeal.Gen.bcast_S1x4096_S16384x4096_0_1 g)
    (Host.dotGeneral Cert.ResidRefIdeal.dot_S16384x4096_S4096x4096_S16384x4096_1_0_0_1_n_n none
      (extf .f32 a Cert.ResidRefIdeal.Gen.bitsLt_bf16_f32)
      (shapeCast _ (extractStridedSlice Cert.ResidRefIdeal.S1x4096x4096 ![0, 0, 0] w
        Cert.ResidRefIdeal.Gen.slices_S4x4096x4096_S1x4096x4096_0_0_0)
        Cert.ResidRefIdeal.Gen.shapeCasts_S1x4096x4096_S4096x4096)))

/-- Where each window's block lies at grid point `t`. -/
theorem place : ∀ t : Fin cfg0.N, win0_0.index t = ![t.val / 8, 0] ∧ win0_1.index t = ![0, 0, t.val % 8]
    ∧ win0_2.index t = ![t.val / 8, t.val % 8] ∧ win0_3.index t = ![0, t.val % 8]
    ∧ win0_4.index t = ![t.val / 8, t.val % 8] :=
  (by decide +kernel : ∀ t : Fin grid0.N, _)

/-- What grid point `t` computes at a block index is the plain formula at the array index it covers. -/
theorem at_point (c : Dev nD) (t : Fin cfg0.N) (y) :
    k0_pay1 (iblk m c 2 t) (iblk m c 3 t) (iblk m c 0 t) (iblk m c 1 t) y
      = plain (m ((c : Thread nD τ).loc main_arg0)) (m ((c : Thread nD τ).loc main_arg1))
          (m ((c : Thread nD τ).loc main_arg2)) (m ((c : Thread nD τ).loc main_arg3)) (((cfg0.win 4).blk t).view.emb y) := by
  pointwise [k0_pay1, plain]
  blk_point [iblk, V, place t]

/-- The array after the run is the plain formula. -/
theorem array (c : Dev nD) : (dats m 0 c).arrAt 4 (cfgs 0).N
    = plain (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact at_point m c t y

end Cert.ResidIdeal.Proj

end
-- ==== Proof.MoeUpValue.lean ====
/- Values of the experts' first product: what each grid point stores, and the array after the run. -/
module

public import proofs.«01_k».proof.Proof.Gen.MoeUpIdeal.Frame
public import proofs.«01_k».proof.Proof.Gen.MoeUpRefIdeal
public import Idealize.ShloMosaic.Lib.Pipeline.ValueKit
public import Idealize.ShloMosaic.Lib.Pointwise

@[expose] public section

set_option maxRecDepth 16384

noncomputable section

namespace Cert.MoeUpRefIdeal.Act

open Cert.MoeUpRefIdeal Cert.MoeUpRefIdeal.Gen Idealize.ShloMosaic

/-- A constant over all tokens, experts and lanes. -/
abbrev all (b : BitVec 32) : FVec Ideal S16384x32x128 .f32 :=
  broadcastInDim S16384x32x128 ![] bcast_S_S16384x32x128 (constant S_ .f32 b)

/-- Every expert's first product plus its bias, with the first layer's weights. -/
abbrev gu (h : FVec Ideal S16384x4096 .bf16) (w : FVec Ideal S4x32x4096x256 .f32) (b : FVec Ideal S4x32x256 .f32) :
    FVec Ideal S16384x32x256 .f32 :=
  addf (Host.dotGeneral dot_S16384x4096_S32x4096x256_S16384x32x256_1_1_0_02_n_n none (extf .f32 h bitsLt_bf16_f32)
      (shapeCast _ (extractStridedSlice S1x32x4096x256 ![0, 0, 0, 0] w slices_S4x32x4096x256_S1x32x4096x256_0_0_0_0)
        shapeCasts_S1x32x4096x256_S32x4096x256))
    (broadcastInDim S16384x32x256 ![0, 1, 2] bcast_S1x32x256_S16384x32x256_0_1_2
      (broadcastInDim S1x32x256 ![1, 2] bcast_S32x256_S1x32x256_1_2
        (shapeCast _ (extractStridedSlice S1x32x256 ![0, 0, 0] b slices_S4x32x256_S1x32x256_0_0_0)
          shapeCasts_S1x32x256_S32x256)))

/-- The gated half, clamped from above. -/
abbrev glu (z : FVec Ideal S16384x32x256 .f32) : FVec Ideal S16384x32x128 .f32 :=
  minimumf (extractStridedSlice S16384x32x128 ![0, 0, 0] z slices_S16384x32x256_S16384x32x128_0_0_0) (all 0x40E00000#32)

/-- The linear half, clamped on both sides. -/
abbrev lin (z : FVec Ideal S16384x32x256 .f32) : FVec Ideal S16384x32x128 .f32 :=
  minimumf (broadcastInDim S16384x32x128 ![] bcast_S_S16384x32x128 (id (constant S_ .f32 0x40E00000#32)))
    (maximumf (broadcastInDim S16384x32x128 ![] bcast_S_S16384x32x128 (id (constant S_ .f32 0xC0E00000#32)))
      (extractStridedSlice S16384x32x128 ![0, 0, 128] z slices_S16384x32x256_S16384x32x128_0_0_128))

/-- The experts' activations, each times its token's routing weight. -/
abbrev plain (h : FVec Ideal S16384x4096 .bf16) (w : FVec Ideal S4x32x4096x256 .f32) (b : FVec Ideal S4x32x256 .f32)
    (r : FVec Ideal S16384x128 .f32) : FVec Ideal S16384x4096 .bf16 :=
  truncf .bf16 (shapeCast _ (mulf (mulf
      (mulf (glu (gu h w b)) (Host.divf (all 0x3F800000#32) (addf (all 0x3F800000#32)
        (Host.exp (Host.negf (mulf (all 0x3FD9DB23#32) (glu (gu h w b))))))))
      (addf (lin (gu h w b)) (all 0x3F800000#32)))
    (broadcastInDim S16384x32x128 ![0, 1, 2] bcast_S16384x32x1_S16384x32x128_0_1_2
      (broadcastInDim S16384x32x1 ![0, 1] bcast_S16384x32_S16384x32x1_0_1
        (extractStridedSlice S16384x32 ![0, 0] r slices_S16384x128_S16384x32_0_0))))
    shapeCasts_S16384x32x128_S16384x4096) bitsLt_bf16_f32

end Cert.MoeUpRefIdeal.Act

namespace Cert.MoeUpIdeal.Act

open Cert.MoeUpIdeal Cert.MoeUpIdeal.Gen Idealize.ShloMosaic Idealize.ShloMosaic.TcCoe Idealize.SL.Sem
open Idealize.ShloMosaic.Pipeline (Dat)
open Cert.MoeUpRefIdeal.Act (plain gu glu lin all)

/-- One lane of an expert's activation from its two pre-activations. -/
abbrev lane (g l : EReal) : EReal :=
  min g (Ideal.ofBits .f32 0x40E00000#32) * Ideal.div 1 (1 + Ideal.exp
      (-(Ideal.ofBits .f32 0x3FD9DB23#32 * min g (Ideal.ofBits .f32 0x40E00000#32))))
    * (min (Ideal.ofBits .f32 0x40E00000#32) (max (Ideal.ofBits .f32 0xC0E00000#32) l) + 1)

/-- Picking one lane by a comparison of lane numbers and adding up is that lane. -/
theorem pick (f : Fin 128 → EReal) (w : BitVec 32) (e : Fin 128) (hw : w = BitVec.ofNat 32 e.val) :
    (∑ x : Fin 128, Scalar.select (IntOp.cmpi CmpIPredicate.eq (BitVec.ofNat 32 x.val) w) (f x) 0) = f e := by
  rw [Finset.sum_eq_single e]
  · subst hw; simp [Scalar.select, IntOp.cmpi]
  · intro x _ hx
    have h : BitVec.ofNat 32 x.val ≠ w := by
      subst hw
      intro h
      have h' := congrArg BitVec.toNat h
      simp only [BitVec.toNat_ofNat] at h'
      have := x.isLt; have := e.isLt
      apply hx; apply Fin.ext; omega
    have h' : (BitVec.ofNat 32 x.val == w) = false := by simpa using h
    simp [Scalar.select, IntOp.cmpi, h']
  · intro h; exact absurd (Finset.mem_univ e) h

/-- The routing lane's number at a grid point. -/
theorem lane_word (i : grid0.Coords) (o : ℕ) (ho : o < 2) :
    Scalar.addi (Scalar.muli (BitVec.ofNat 32 (i 1).val) 2#32) (BitVec.ofNat 32 o) = BitVec.ofNat 32 ((i 1).val * 2 + o) := by
  have h : (i 1).val < 16 := (i 1).isLt
  apply BitVec.eq_of_toNat_eq
  simp only [Scalar.addi, Scalar.muli, IntOp.addi, IntOp.muli, BitVec.toNat_add, BitVec.toNat_mul, BitVec.toNat_ofNat]
  omega

/-- The first expert's payload at an index. -/
theorem pay1_at (i : grid0.Coords) (v0 : FVec Ideal S1024x4096 .bf16) (v1 : FVec Ideal S1024x128 .f32)
    (v3 : FVec Ideal S1x1x4096x256 .f32) (v7 : FVec Ideal S1x1x256 .f32) (r : Fin 1024) (l : Fin 128)
    (hl : l.val < 256) (hl' : 128 + l.val < 256) (e : Fin 128) (he : e.val = (i 1).val * 2) :
    k0_pay1 (F := Ideal) i v0 v1 v3 v7 (ix2 r l)
      = lane (∑ x, v0 (ix2 r x) * v3 (ix4 0 0 x ⟨l.val, hl⟩) + v7 (ix3 0 0 ⟨l.val, hl⟩))
          (∑ x, v0 (ix2 r x) * v3 (ix4 0 0 x ⟨128 + l.val, hl'⟩) + v7 (ix3 0 0 ⟨128 + l.val, hl'⟩)) * v1 (ix2 r e) := by
  pointwise [k0_pay1, Ideal.logistic]
  exact congrArg _ (pick (fun x => v1 (ix2 r x)) _ e (by rw [he]; exact lane_word i 0 (by omega)))

/-- The second expert's payload at an index. -/
theorem pay2_at (i : grid0.Coords) (v0 : FVec Ideal S1024x4096 .bf16) (v1 : FVec Ideal S1024x128 .f32)
    (v3 : FVec Ideal S1x1x4096x256 .f32) (v7 : FVec Ideal S1x1x256 .f32) (r : Fin 1024) (l : Fin 128)
    (hl : l.val < 256) (hl' : 128 + l.val < 256) (e : Fin 128) (he : e.val = (i 1).val * 2 + 1) :
    k0_pay2 (F := Ideal) (BitVec.ofNat 32 (i 1).val) v0 v1 (iota .tc S1024x128 32 [1] iota_S1024x128_d1_w32) v3 v7 (ix2 r l)
      = lane (∑ x, v0 (ix2 r x) * v3 (ix4 0 0 x ⟨l.val, hl⟩) + v7 (ix3 0 0 ⟨l.val, hl⟩))
          (∑ x, v0 (ix2 r x) * v3 (ix4 0 0 x ⟨128 + l.val, hl'⟩) + v7 (ix3 0 0 ⟨128 + l.val, hl'⟩)) * v1 (ix2 r e) := by
  pointwise [k0_pay2, Ideal.logistic]
  exact congrArg _ (pick (fun x => v1 (ix2 r x)) _ e (by rw [he]; exact lane_word i 1 (by omega)))

/-- The plain formula at an index. -/
theorem plain_at (h : FVec Ideal Cert.MoeUpRefIdeal.S16384x4096 .bf16) (w : FVec Ideal Cert.MoeUpRefIdeal.S4x32x4096x256 .f32)
    (b : FVec Ideal Cert.MoeUpRefIdeal.S4x32x256 .f32) (r : FVec Ideal Cert.MoeUpRefIdeal.S16384x128 .f32)
    (s : Fin 16384) (n : Fin 4096) (e : Fin 32) (l : Fin 256) (l' : Fin 256) (e' : Fin 128)
    (he : e.val = n.val / 128) (hl : l.val = n.val % 128) (hl' : l'.val = 128 + n.val % 128) (he' : e'.val = n.val / 128) :
    plain h w b r (ix2 s n)
      = lane (∑ x, h (ix2 s x) * w (ix4 0 e x l) + b (ix3 0 e l)) (∑ x, h (ix2 s x) * w (ix4 0 e x l') + b (ix3 0 e l'))
        * r (ix2 s e') := by
  obtain ⟨e, _⟩ := e
  obtain ⟨l, _⟩ := l
  obtain ⟨l', _⟩ := l'
  obtain ⟨e', _⟩ := e'
  dsimp only at he hl hl' he'
  subst he hl hl' he'
  pointwise [plain, gu, glu, lin, all, id_eq]

variable (m : (ℓ : Loc nD τ sig) → Buf (Elt Ideal) ℓ)

/-- Where each window's block lies at grid point `t`, and the point's second coordinate. -/
theorem place : ∀ t : Fin cfg0.N, win0_0.index t = ![t.val / 16, 0] ∧ win0_1.index t = ![0, t.val % 16, 0, 0]
    ∧ win0_2.index t = ![t.val % 16, 0, 0] ∧ win0_3.index t = ![t.val / 16, 0]
    ∧ win0_4.index t = ![t.val / 16, t.val % 16] ∧ (grid0.coords t 1).val = t.val % 16 :=
  (by decide +kernel : ∀ t : Fin grid0.N, _)

theorem at_point (c : Dev nD) (t : Fin cfg0.N) (y) :
    out0_4 (grid0.coords t) (iblk m c 0 t) (iblk m c 1 t) (iblk m c 2 t) (iblk m c 3 t) y
      = plain (m ((c : Thread nD τ).loc main_arg0)) (m ((c : Thread nD τ).loc main_arg1)) (m ((c : Thread nD τ).loc main_arg2))
          (m ((c : Thread nD τ).loc main_arg3)) (((cfg0.win 4).blk t).view.emb y) := by
  canon_tiles x h
  · have ht : t.val < 256 := lt_of_lt_of_eq t.isLt N_0
    refine (congrArg _ (eq_ix2 x)).trans ((pay2_at _ _ _ _ _ (x 0) (x 1) (by omega) (by omega)
      ⟨t.val % 16 * 2 + 1, by omega⟩ (by rw [(place t).2.2.2.2.2])).trans (Eq.trans ?_
      ((congrArg _ (eq_ix2 _)).trans (plain_at _ _ _ _ _ _ ⟨t.val % 16 * 2 + 1, by omega⟩ ⟨(x 1).val, by omega⟩
        ⟨128 + (x 1).val, by omega⟩ ⟨t.val % 16 * 2 + 1, by omega⟩ ?_ ?_ ?_ ?_)).symm))
    · pointwise
      blk_point [iblk, V, place t]
    all_goals (blk_simp [place t]; try dsimp only; try omega)
  · have ht : t.val < 256 := lt_of_lt_of_eq t.isLt N_0
    refine (congrArg _ (eq_ix2 x)).trans ((pay1_at _ _ _ _ _ (x 0) (x 1) (by omega) (by omega)
      ⟨t.val % 16 * 2, by omega⟩ (by rw [(place t).2.2.2.2.2])).trans (Eq.trans ?_
      ((congrArg _ (eq_ix2 _)).trans (plain_at _ _ _ _ _ _ ⟨t.val % 16 * 2, by omega⟩ ⟨(x 1).val, by omega⟩
        ⟨128 + (x 1).val, by omega⟩ ⟨t.val % 16 * 2, by omega⟩ ?_ ?_ ?_ ?_)).symm))
    · pointwise
      blk_point [iblk, V, place t]
    all_goals (blk_simp [place t]; try dsimp only; try omega)

/-- The array after the run is the plain formula. -/
theorem array (c : Dev nD) : (dats m 0 c).arrAt 4 (cfgs 0).N
    = plain (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  exact at_point m c t y

end Cert.MoeUpIdeal.Act

end
-- ==== Proof.MoeDownValue.lean ====
/- Values of the experts' second product with its gated residual: what each grid point stores, and the array after the run. -/
module

public import proofs.«01_k».proof.Proof.Gen.MoeDownIdeal.Frame
public import proofs.«01_k».proof.Proof.Gen.MoeDownRefIdeal
public import Idealize.ShloMosaic.Lib.Pipeline.ValueKit
public import Idealize.ShloMosaic.Lib.Pointwise

@[expose] public section

set_option maxRecDepth 16384

noncomputable section

namespace Cert.MoeDownRefIdeal.Mix

open Cert.MoeDownRefIdeal Cert.MoeDownRefIdeal.Gen Idealize.ShloMosaic

/-- The residual plus the gate times the experts' outputs and their routed biases, with the first layer's weights. -/
abbrev plain (a : FVec Ideal S16384x4096 .bf16) (w : FVec Ideal S4x32x128x4096 .f32) (r : FVec Ideal S16384x128 .f32)
    (b : FVec Ideal S4x32x4096 .f32) (x : FVec Ideal S16384x4096 .f32) (g : FVec Ideal S1x4096 .f32) :
    FVec Ideal S16384x4096 .f32 :=
  addf x (mulf (broadcastInDim S16384x4096 ![0, 1] bcast_S1x4096_S16384x4096_0_1 g)
    (addf (Host.dotGeneral dot_S16384x32x128_S32x128x4096_S16384x4096_12_01_0_2_n_n none
        (shapeCast _ (extf .f32 a bitsLt_bf16_f32) shapeCasts_S16384x4096_S16384x32x128)
        (shapeCast _ (extractStridedSlice S1x32x128x4096 ![0, 0, 0, 0] w slices_S4x32x128x4096_S1x32x128x4096_0_0_0_0)
          shapeCasts_S1x32x128x4096_S32x128x4096))
      (Host.dotGeneral dot_S16384x32_S32x4096_S16384x4096_1_0_0_1_n_n none
        (extractStridedSlice S16384x32 ![0, 0] r slices_S16384x128_S16384x32_0_0)
        (shapeCast _ (extractStridedSlice S1x32x4096 ![0, 0, 0] b slices_S4x32x4096_S1x32x4096_0_0_0)
          shapeCasts_S1x32x4096_S32x4096))))

end Cert.MoeDownRefIdeal.Mix

namespace Cert.MoeDownIdeal.Mix

open Cert.MoeDownIdeal Cert.MoeDownIdeal.Gen Idealize.ShloMosaic Idealize.ShloMosaic.TcCoe Idealize.SL.Sem
open Idealize.ShloMosaic.Pipeline (Dat)
open Cert.MoeDownRefIdeal.Mix (plain)

variable (m : (ℓ : Loc nD τ sig) → Buf (Elt Ideal) ℓ)

/-- Where each window's block lies at grid point `t`. -/
theorem place : ∀ t : Fin cfg0.N, win0_0.index t = ![t.val / 8, 0] ∧ win0_1.index t = ![0, 0, t.val % 8]
    ∧ win0_2.index t = ![t.val / 8, 0] ∧ win0_3.index t = ![0, t.val % 8] ∧ win0_4.index t = ![t.val / 8, t.val % 8]
    ∧ win0_5.index t = ![0, t.val % 8] ∧ win0_6.index t = ![t.val / 8, t.val % 8] :=
  (by decide +kernel : ∀ t : Fin grid0.N, _)

/-- The experts' biases of the first layer, padded with rows of zeros. -/
abbrev padded (b : FVec Ideal S4x32x4096 .f32) : FVec Ideal S128x4096 .bf16 :=
  truncf .bf16 (pad S128x4096 ![0, 0] ![96, 0] ![0, 0]
    (shapeCast S32x4096 (extractStridedSlice S1x32x4096 ![0, 0, 0] b slices_S4x32x4096_S1x32x4096_0_0_0)
      shapeCasts_S1x32x4096_S32x4096)
    (sitofp (F := Ideal) .f32 (constantI S_ 32 0#32)) pads_S32x4096_S128x4096_0960_000 h_S_) bitsLt_bf16_f32

theorem entry_bias (c : Dev nD) : V m c main_v3 = padded (m ((c : Thread nD τ).loc main_arg3)) := by
  simp only [V, hostOps0, hostOps0_1, hostOps0_2, List.flatten_cons, List.flatten_nil, List.append_nil, List.cons_append,
    List.nil_append]
  after_results
  try rfl

theorem entry_weight (c : Dev nD) : V m c main_v4 = shapeCast S4x4096x4096
    (show FVec Ideal S4x32x128x4096 .f32 from m ((c : Thread nD τ).loc main_arg1)) shapeCasts_S4x32x128x4096_S4x4096x4096 := by
  simp only [V, hostOps0, hostOps0_1, hostOps0_2, List.flatten_cons, List.flatten_nil, List.append_nil, List.cons_append,
    List.nil_append]
  after_results
  try rfl

theorem padded_at (b : FVec Ideal S4x32x4096 .f32) (k : Fin 128) (d : Fin 4096) :
    padded b (ix2 k d) = if h : k.val < 32 then b (ix3 0 ⟨k.val, h⟩ d) else 0 := by
  pointwise [padded]
  split
  · rfl
  · show (((0#32 : BitVec 32).toInt : ℝ) : EReal) = 0; simp

theorem weight_at (w : FVec Ideal S4x32x128x4096 .f32) (k : Fin 4096) (d : Fin 4096) (e : Fin 32) (p : Fin 128)
    (hk : k.val = e.val * 128 + p.val) :
    shapeCast S4x4096x4096 w shapeCasts_S4x32x128x4096_S4x4096x4096 (ix3 0 k d) = w (ix4 0 e p d) := by
  obtain ⟨k, hk'⟩ := k
  dsimp only at hk
  subst hk
  pointwise
  blk_ext

/-- A sum over 128 lanes of which those from 32 on are zero. -/
theorem sum_lanes (f : Fin 32 → EReal) (g : Fin 128 → EReal)
    (hg : ∀ k : Fin 128, g k = if h : k.val < 32 then f ⟨k.val, h⟩ else 0) : ∑ k, g k = ∑ e, f e := by
  rw [show (∑ k, g k) = ∑ k : Fin (32 + 96), g k from rfl, Fin.sum_univ_add]
  have h1 : ∀ e : Fin 32, g (Fin.castAdd 96 e) = f e := fun e => by
    rw [hg, dif_pos (show (Fin.castAdd 96 e).val < 32 from e.isLt)]; rfl
  have h2 : ∀ e : Fin 96, g (Fin.natAdd 32 e) = 0 := fun e => by
    rw [hg, dif_neg (show ¬ (Fin.natAdd 32 e).val < 32 from by simp [Fin.natAdd])]
  simp only [h1, h2, Finset.sum_const_zero, add_zero]

theorem at_point (c : Dev nD) (t : Fin cfg0.N) (y) :
    k0_pay1 (iblk m c 0 t) (iblk m c 1 t) (iblk m c 2 t) (iblk m c 3 t) (iblk m c 4 t) (iblk m c 5 t) y
    = plain (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (((cfg0.win 6).blk t).view.emb y) := by
  pointwise [k0_pay1, plain]
  refine Ideal.add_congr ?_ (Ideal.mul_congr ?_ (Ideal.add_congr (Eq.symm ?_) ?_))
  · blk_point [iblk, V, place t]
  · blk_point [iblk, V, place t]
  · refine Fin.sum_mul_add_congr fun s k hl => ?_
    refine Ideal.mul_congr ?_ (Eq.symm ?_)
    · blk_point [iblk, V, place t]
    · refine Eq.trans ?_ (weight_at (m ((c : Thread nD τ).loc main_arg1)) ⟨s.val * 128 + k.val, hl⟩ _ s k rfl)
      refine Eq.trans ?_ (congrFun (entry_weight m c) _)
      refine congrArg (V m c main_v4) ?_
      blk_ext [place t]
  · refine sum_lanes _ _ fun k => ?_
    have h3 : iblk m c 3 t (ix2 k (y 1)) = padded (m ((c : Thread nD τ).loc main_arg3))
        (ix2 k (((View.whole main_v5).slice ((win0 6).rect t)).emb y 1)) := by
      refine Eq.trans ?_ (congrFun (entry_bias m c) _)
      refine congrArg (V m c main_v3) ?_
      blk_ext [place t]
    refine (Ideal.mul_congr rfl (h3.trans (padded_at _ _ _))).trans ?_
    split
    · refine Ideal.mul_congr ?_ rfl
      blk_point [iblk, V, place t]
    · exact mul_zero _

/-- The array after the run is the plain formula. -/
theorem array (c : Dev nD) : (dats m 0 c).arrAt 6 (cfgs 0).N
    = plain (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  frame_out
  exact at_point m c t y

end Cert.MoeDownIdeal.Mix

end
-- ==== Proof.InProjValue.lean ====
/- Values of the in-projection: what each grid point stores, and the array after the run. -/
module

public import proofs.«01_k».proof.Proof.Gen.InProjIdeal.Frame
public import proofs.«01_k».proof.Proof.Gen.InProjRefIdeal
public import Idealize.ShloMosaic.Lib.Pipeline.ValueKit
public import Idealize.ShloMosaic.Lib.Pointwise

@[expose] public section

set_option maxRecDepth 16384

noncomputable section

namespace Cert.InProjRefIdeal.In

open Cert.InProjRefIdeal Cert.InProjRefIdeal.Gen Idealize.ShloMosaic

/-- The product with the first layer's weights. -/
abbrev prod (h : FVec Ideal S16384x4096 .bf16) (w : FVec Ideal S4x4096x8904 .f32) : FVec Ideal S16384x8904 .f32 :=
  Host.dotGeneral dot_S16384x4096_S4096x8904_S16384x8904_1_0_0_1_n_n none (extf .f32 h bitsLt_bf16_f32)
    (shapeCast _ (extractStridedSlice S1x4096x8904 ![0, 0, 0] w slices_S4x4096x8904_S1x4096x8904_0_0_0)
      shapeCasts_S1x4096x8904_S4096x8904)

/-- The product's columns in the order in which they are stored. -/
abbrev plain (h : FVec Ideal S16384x4096 .bf16) (w : FVec Ideal S4x4096x8904 .f32) : FVec Ideal S16384x9216 .bf16 :=
  truncf .bf16 ((concatenate S16384x9216 1 [⟨S16384x7680, ((extractStridedSlice S16384x7680 ![0, 0] (prod h w) slices_S16384x8904_S16384x7680_0_0) : FVec Ideal S16384x7680 .f32)⟩,
    ⟨S16384x1216, ((extractStridedSlice S16384x1216 ![0, 7688] (prod h w) slices_S16384x8904_S16384x1216_0_7688) : FVec Ideal S16384x1216 .f32)⟩,
    ⟨S16384x64, ((broadcastInDim S16384x64 ![] bcast_S_S16384x64 (constant S_ .f32 0x00000000#32)) : FVec Ideal S16384x64 .f32)⟩,
    ⟨S16384x8, ((extractStridedSlice S16384x8 ![0, 7680] (prod h w) slices_S16384x8904_S16384x8_0_7680) : FVec Ideal S16384x8 .f32)⟩,
    ⟨S16384x248, ((broadcastInDim S16384x248 ![] bcast_S_S16384x248 (constant S_ .f32 0x00000000#32)) : FVec Ideal S16384x248 .f32)⟩] concatenates_S16384x7680_S16384x1216_S16384x64_S16384x8_S16384x248_S16384x9216_d1 : FVec Ideal S16384x9216 .f32)) bitsLt_bf16_f32

/-- The weight that meets stored column `j`. -/
def col (w : FVec Ideal S4x4096x8904 .f32) (k : Fin 4096) (j : ℕ) : EReal :=
  if h : j < 7680 then w (ix3 0 k ⟨j, by omega⟩)
  else if h : j < 8896 then w (ix3 0 k ⟨j + 8, by omega⟩)
  else if h : j < 8960 then 0
  else if h : j < 8968 then w (ix3 0 k ⟨j - 1280, by omega⟩)
  else 0

theorem col_first (w : FVec Ideal S4x4096x8904 .f32) (k : Fin 4096) (j : ℕ) (h : j < 7680) (i : Fin 8904) (hi : i.val = j) :
    w (ix3 0 k i) = col w k j := by
  subst hi
  rw [col, dif_pos h]

theorem col_latent (w : FVec Ideal S4x4096x8904 .f32) (k : Fin 4096) (j : ℕ) (h : 7680 ≤ j) (h' : j < 8896) (i : Fin 8904)
    (hi : i.val = j + 8) : w (ix3 0 k i) = col w k j := by
  rw [col, dif_neg (by omega), dif_pos h']
  exact congrArg (fun x => w (ix3 0 k x)) (Fin.ext hi)

theorem col_gap (w : FVec Ideal S4x4096x8904 .f32) (k : Fin 4096) (j : ℕ) (h : 8896 ≤ j) (h' : j < 8960) :
    col w k j = 0 := by
  rw [col, dif_neg (by omega), dif_neg (by omega), dif_pos h']

theorem col_forget (w : FVec Ideal S4x4096x8904 .f32) (k : Fin 4096) (j : ℕ) (h : 8960 ≤ j) (h' : j < 8968) (i : Fin 8904)
    (hi : i.val + 1280 = j) : w (ix3 0 k i) = col w k j := by
  rw [col, dif_neg (by omega), dif_neg (by omega), dif_neg (by omega), dif_pos h']
  exact congrArg (fun x => w (ix3 0 k x)) (Fin.ext (by first | omega | (simp only []; omega)))

theorem col_end (w : FVec Ideal S4x4096x8904 .f32) (k : Fin 4096) (j : ℕ) (h : 8968 ≤ j) : col w k j = 0 := by
  rw [col, dif_neg (by omega), dif_neg (by omega), dif_neg (by omega), dif_neg (by omega)]

theorem plain_at (h : FVec Ideal S16384x4096 .bf16) (w : FVec Ideal S4x4096x8904 .f32) (r : Fin 16384) (j : Fin 9216) :
    plain h w (ix2 r j) = ∑ k : Fin 4096, h (ix2 r k) * col w k j.val := by
  pointwise [plain, prod]
  split
  · next h1 => exact Finset.sum_congr rfl fun k _ => Ideal.mul_congr rfl (col_first w k j.val h1 _ rfl)
  next h1 =>
  split
  · next h2 =>
    exact Finset.sum_congr rfl fun k _ => Ideal.mul_congr rfl
      (col_latent w k j.val (by omega) (by omega) _ (by first | omega | (simp only []; omega)))
  next h2 =>
  split
  · next h3 =>
    exact (Finset.sum_eq_zero fun k _ => (Ideal.mul_congr rfl (col_gap w k j.val (by omega) (by omega))).trans (mul_zero _)).symm
  next h3 =>
  split
  · next h4 =>
    exact Finset.sum_congr rfl fun k _ => Ideal.mul_congr rfl
      (col_forget w k j.val (by omega) (by omega) _ (by first | omega | (simp only []; omega)))
  · next h4 =>
    exact (Finset.sum_eq_zero fun k _ => (Ideal.mul_congr rfl (col_end w k j.val (by omega))).trans (mul_zero _)).symm

end Cert.InProjRefIdeal.In

namespace Cert.InProjIdeal.In

open Cert.InProjIdeal Cert.InProjIdeal.Gen Idealize.ShloMosaic Idealize.ShloMosaic.TcCoe Idealize.SL.Sem
open Idealize.ShloMosaic.Pipeline (Dat)
open Cert.InProjRefIdeal.In (plain plain_at col col_first col_latent col_gap col_forget col_end)

variable (m : (ℓ : Loc nD τ sig) → Buf (Elt Ideal) ℓ)

/-- Where each window's block lies at grid point `t`. -/
theorem place : ∀ t : Fin cfg0.N, win0_0.index t = ![t.val / 12, 0] ∧ win0_1.index t = ![0, min (t.val % 12) 9, 0]
    ∧ win0_2.index t = ![0, t.val % 12 - 10] ∧ win0_3.index t = ![t.val / 12, t.val % 12] :=
  (by decide +kernel : ∀ t : Fin grid0.N, _)

/-- The last columns of the weights, in the order in which they are stored. -/
abbrev tail (w : FVec Ideal S4x4096x8904 .f32) : FVec Ideal S4096x1536 .bf16 :=
  concatenate S4096x1536 1
    [⟨S4096x1216, (truncf .bf16 (extractStridedSlice S4096x1216 ![0, 8] (shapeCast S4096x1224
        (extractStridedSlice S1x4096x1224 ![0, 0, 7680] w slices_S4x4096x8904_S1x4096x1224_0_0_7680) shapeCasts_S1x4096x1224_S4096x1224)
        slices_S4096x1224_S4096x1216_0_8) bitsLt_bf16_f32 : FVec Ideal S4096x1216 .bf16)⟩,
      ⟨S4096x64, (broadcastInDim S4096x64 ![] bcast_S_S4096x64 (constant S_ .bf16 0x0000#16) : FVec Ideal S4096x64 .bf16)⟩,
      ⟨S4096x8, (truncf .bf16 (extractStridedSlice S4096x8 ![0, 0] (shapeCast S4096x1224
        (extractStridedSlice S1x4096x1224 ![0, 0, 7680] w slices_S4x4096x8904_S1x4096x1224_0_0_7680) shapeCasts_S1x4096x1224_S4096x1224)
        slices_S4096x1224_S4096x8_0_0) bitsLt_bf16_f32 : FVec Ideal S4096x8 .bf16)⟩,
      ⟨S4096x248, (broadcastInDim S4096x248 ![] bcast_S_S4096x248 (constant S_ .bf16 0x0000#16) : FVec Ideal S4096x248 .bf16)⟩]
    concatenates_S4096x1216_S4096x64_S4096x8_S4096x248_S4096x1536_d1

theorem entry_tail (c : Dev nD) : V m c main_v10 = tail (m ((c : Thread nD τ).loc main_arg1)) := by
  simp only [V, hostOps0, List.flatten_cons, List.flatten_nil, List.append_nil, List.cons_append, List.nil_append]
  after_results
  try rfl

theorem entry_weight (c : Dev nD) : V m c main_v1 = truncf .bf16 (transpose S4x8904x4096 [0, 2, 1]
    (show FVec Ideal S4x4096x8904 .f32 from m ((c : Thread nD τ).loc main_arg1)) transposes_S4x4096x8904_S4x8904x4096_0_2_1)
    bitsLt_bf16_f32 := by
  simp only [V, hostOps0, List.flatten_cons, List.flatten_nil, List.append_nil, List.cons_append, List.nil_append]
  after_results
  try rfl

theorem tail_at (w : FVec Ideal S4x4096x8904 .f32) (k : Fin 4096) (j : Fin 1536) :
    tail w (ix2 k j) = col w k (7680 + j.val) := by
  pointwise [tail]
  split
  · next h1 => exact col_latent w k _ (by omega) (by omega) _ (by first | omega | (simp only []; omega))
  next h1 =>
  split
  · next h2 => exact (col_gap w k _ (by omega) (by omega)).symm
  next h2 =>
  split
  · next h3 => exact col_forget w k _ (by omega) (by omega) _ (by first | omega | (simp only []; omega))
  · next h3 => exact (col_end w k _ (by omega)).symm

theorem weight_at (w : FVec Ideal S4x4096x8904 .f32) (k : Fin 4096) (j : Fin 8904) (h : j.val < 7680) :
    truncf .bf16 (transpose S4x8904x4096 [0, 2, 1] w transposes_S4x4096x8904_S4x8904x4096_0_2_1) bitsLt_bf16_f32 (ix3 0 j k)
      = col w k j.val := by
  refine Eq.trans ?_ (col_first w k j.val h j rfl)
  pointwise

/-- A column below 7680: the product with the transposed weights. -/
theorem at_main (c : Dev nD) (t : Fin cfg0.N) (ht : t.val % 12 ≤ 9) (y) :
    k0_pay1 (iblk m c 0 t) (X0_1 m c t) y
    = plain (m ((c : Thread nD τ).loc main_arg0)) (m ((c : Thread nD τ).loc main_arg1)) (((cfg0.win 3).blk t).view.emb y) := by
  refine Eq.trans ?_ ((congrArg _ (eq_ix2 _)).trans (plain_at _ _ _ _)).symm
  pointwise [k0_pay1]
  refine Finset.sum_congr rfl fun k _ => Ideal.mul_congr ?_ ?_
  · blk_point [iblk, V, place t]
  · unfold X0_1 Pipeline.Window.fill
    rw [dif_pos (moved0_1 t _)]
    have hy : (y 1).val < 768 := (y 1).isLt
    refine Eq.trans (b := V m c main_v1 (ix3 0 ⟨t.val % 12 * 768 + (y 1).val, by omega⟩ k)) ?_ ?_
    · refine congrArg (V m c main_v1) ?_
      blk_ext [place t]
    · refine (congrFun (entry_weight m c) _).trans ((weight_at _ k _ (by first | omega | (simp only []; omega))).trans ?_)
      refine congrArg (col _ k) ?_
      blk_simp
      simp [place t]

/-- A column from 7680 on: the product with the reordered tail of the weights. -/
theorem at_tail (c : Dev nD) (t : Fin cfg0.N) (ht : 10 ≤ t.val % 12) (y) :
    k0_pay2 (iblk m c 0 t) (iblk m c 2 t) y
    = plain (m ((c : Thread nD τ).loc main_arg0)) (m ((c : Thread nD τ).loc main_arg1)) (((cfg0.win 3).blk t).view.emb y) := by
  refine Eq.trans ?_ ((congrArg _ (eq_ix2 _)).trans (plain_at _ _ _ _)).symm
  pointwise [k0_pay2]
  refine Finset.sum_congr rfl fun k _ => Ideal.mul_congr ?_ ?_
  · blk_point [iblk, V, place t]
  · have hy : (y 1).val < 768 := (y 1).isLt
    refine Eq.trans (b := V m c main_v10 (ix2 k ⟨(t.val % 12 - 10) * 768 + (y 1).val, by omega⟩)) ?_ ?_
    · refine congrArg (V m c main_v10) ?_
      blk_ext [place t]
    · refine (congrFun (entry_tail m c) _).trans ((tail_at _ k _).trans ?_)
      refine congrArg (col _ k) ?_
      blk_simp
      simp [place t]
      omega

/-- The array after the run is the plain formula. -/
theorem array (c : Dev nD) : (dats m 0 c).arrAt 3 (cfgs 0).N
    = plain (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 12 ≤ 9
  · rw [outsAt0_A m c t h (by omega)]
    frame_out
    exact at_main m c t h y
  · rw [outsAt0_B m c t h (by omega)]
    frame_out
    exact at_tail m c t (by omega) y

end Cert.InProjIdeal.In

end
-- ==== Proof.AdaValue.lean ====
/- Values of the shared modulation: what each grid point stores, and the array after the run. -/
module

public import proofs.«01_k».proof.Proof.Gen.AdaIdeal.Frame
public import proofs.«01_k».proof.Proof.Gen.AdaRefIdeal
public import Idealize.ShloMosaic.Lib.Pipeline.ValueKit
public import Idealize.ShloMosaic.Lib.Pointwise

@[expose] public section

set_option maxRecDepth 16384

noncomputable section

namespace Cert.AdaRefIdeal.Shared

open Cert.AdaRefIdeal Cert.AdaRefIdeal.Gen Idealize.ShloMosaic

/-- The constant one everywhere. -/
abbrev ones : FVec Ideal S1x4096 .f32 := broadcastInDim S1x4096 ![] bcast_S_S1x4096 (constant S_ .f32 0x3F800000#32)

/-- The product of the gated condition with the weights, plus the biases. -/
abbrev plain (x : FVec Ideal S1x4096 .f32) (w : FVec Ideal S4096x24576 .f32) (b : FVec Ideal S24576 .f32) :
    FVec Ideal S1x24576 .f32 :=
  addf (Host.dotGeneral dot_S1x4096_S4096x24576_S1x24576_1_0_0_1_n_n none
    (mulf x (Host.divf ones (addf ones (Host.exp (Host.negf x))))) w)
    (broadcastInDim S1x24576 ![1] bcast_S24576_S1x24576_1 b)

end Cert.AdaRefIdeal.Shared

namespace Cert.AdaIdeal.Shared

open Cert.AdaIdeal Cert.AdaIdeal.Gen Idealize.ShloMosaic Idealize.ShloMosaic.TcCoe Idealize.SL.Sem
open Idealize.ShloMosaic.Pipeline (Dat)
open Cert.AdaRefIdeal.Shared (plain ones)

variable (m : (ℓ : Loc nD τ sig) → Buf (Elt Ideal) ℓ)

/-- Where each window's block lies at grid point `t`. -/
theorem place : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- What grid point `t` computes at a block index is the plain formula at the array index it covers. -/
theorem at_point (c : Dev nD) (t : Fin cfg0.N) (y) :
    k0_pay1 (iblk m c 0 t) (iblk m c 1 t) (iblk m c 2 t) y
      = plain (m ((c : Thread nD τ).loc main_arg0)) (m ((c : Thread nD τ).loc main_arg1))
          (m ((c : Thread nD τ).loc main_arg2)) (((cfg0.win 3).blk t).view.emb y) := by
  pointwise [k0_pay1, plain, ones, Ideal.logistic, zero_add]
  blk_point [iblk, V, place t]

/-- The array after the run is the plain formula. -/
theorem array (c : Dev nD) : (dats m 0 c).arrAt 3 (cfgs 0).N
    = plain (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact at_point m c t y

end Cert.AdaIdeal.Shared

end
-- ==== Proof.NormValue.lean ====
/- Values of the normalization with its modulation: what each grid point stores, and the array after the run. -/
module

public import proofs.«01_k».proof.Proof.Gen.NormIdeal.Frame
public import proofs.«01_k».proof.Proof.Gen.NormRefIdeal
public import Idealize.ShloMosaic.Lib.Pipeline.ValueKit
public import Idealize.ShloMosaic.Lib.Pointwise

@[expose] public section

set_option maxRecDepth 16384

noncomputable section

namespace Cert.NormRefIdeal.Scaled

open Cert.NormRefIdeal Cert.NormRefIdeal.Gen Idealize.ShloMosaic

/-- The reciprocal root of each row's mean square. -/
abbrev root (x : FVec Ideal S16384x4096 .f32) : FVec Ideal S16384x1 .f32 :=
  Host.rsqrt (addf (Host.divf (broadcastInDim S16384x1 ![0] bcast_S16384_S16384x1_0
      (Host.reduceAdd (mulf x x) (constant S_ .f32 0x00000000#32) reducesTo_S16384x4096_S16384_d1 h_S_))
    (broadcastInDim S16384x1 ![] bcast_S_S16384x1 (constant S_ .f32 0x45800000#32)))
    (broadcastInDim S16384x1 ![] bcast_S_S16384x1 (constant S_ .f32 0x358637BD#32)))

/-- The normalized rows times the first layer's gains, scaled and shifted. -/
abbrev plain (x : FVec Ideal S16384x4096 .f32) (g : FVec Ideal S4x4096 .f32) (a b : FVec Ideal S1x4096 .f32) :
    FVec Ideal S16384x4096 .bf16 :=
  truncf .bf16 (addf (mulf (mulf (mulf x (broadcastInDim S16384x4096 ![0, 1] bcast_S16384x1_S16384x4096_0_1 (root x)))
      (broadcastInDim S16384x4096 ![0, 1] bcast_S1x4096_S16384x4096_0_1 (broadcastInDim S1x4096 ![1] bcast_S4096_S1x4096_1
        (shapeCast _ (extractStridedSlice S1x4096 ![0, 0] g slices_S4x4096_S1x4096_0_0) shapeCasts_S1x4096_S4096))))
      (broadcastInDim S16384x4096 ![0, 1] bcast_S1x4096_S16384x4096_0_1
        (addf (broadcastInDim S1x4096 ![] bcast_S_S1x4096 (constant S_ .f32 0x3F800000#32)) a)))
    (broadcastInDim S16384x4096 ![0, 1] bcast_S1x4096_S16384x4096_0_1 b)) bitsLt_bf16_f32

end Cert.NormRefIdeal.Scaled

namespace Cert.NormIdeal.Scaled

open Cert.NormIdeal Cert.NormIdeal.Gen Idealize.ShloMosaic Idealize.ShloMosaic.TcCoe Idealize.SL.Sem
open Idealize.ShloMosaic.Pipeline (Dat)
open Cert.NormRefIdeal.Scaled (plain root)

variable (m : (ℓ : Loc nD τ sig) → Buf (Elt Ideal) ℓ)

/-- Where each window's block lies at grid point `t`. -/
theorem place : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What grid point `t` computes at a block index is the plain formula at the array index it covers. -/
theorem at_point (c : Dev nD) (t : Fin cfg0.N) (y) :
    k0_pay1 (iblk m c 0 t) (iblk m c 1 t) (iblk m c 2 t) (iblk m c 3 t) y
      = plain (m ((c : Thread nD τ).loc main_arg0)) (m ((c : Thread nD τ).loc main_arg1))
          (m ((c : Thread nD τ).loc main_arg2)) (m ((c : Thread nD τ).loc main_arg3)) (((cfg0.win 4).blk t).view.emb y) := by
  pointwise [k0_pay1, plain, root, zero_add]
  blk_point [iblk, V, place t]

/-- The array after the run is the plain formula. -/
theorem array (c : Dev nD) : (dats m 0 c).arrAt 4 (cfgs 0).N
    = plain (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact at_point m c t y

end Cert.NormIdeal.Scaled

end
-- ==== Proof.PrepDStores.lean ====
/- What a grid point of the preparing call stores: the stored queries and keys of one head, entry by entry. -/
module

public import proofs.«01_k».proof.Proof.Gen.PrepDIdeal.Frame
public import Idealize.ShloMosaic.Lib.Pipeline.ValueKit
public import Idealize.ShloMosaic.Lib.Pointwise

@[expose] public section

set_option maxRecDepth 16384

noncomputable section

namespace Cert.PrepDIdeal.Prep

open Cert.PrepDIdeal Cert.PrepDIdeal.Gen Idealize.ShloMosaic Idealize.ShloMosaic.TcCoe Idealize.SL.Sem

/-- The first 128 features of head `h` in row `r` of a product. -/
abbrev lo (P : FVec Ideal S256x2048 .f32) (r : Fin 256) (h : Fin 8) (l : Fin 128) : EReal :=
  P (ix2 r ⟨h.val * 256 + l.val, by omega⟩)

/-- The last 128 features of head `h` in row `r` of a product. -/
abbrev hi (P : FVec Ideal S256x2048 .f32) (r : Fin 256) (h : Fin 8) (l : Fin 128) : EReal :=
  P (ix2 r ⟨h.val * 256 + 128 + l.val, by omega⟩)

/-- The key features of head `h` in row `r` of a product. -/
abbrev klo (P : FVec Ideal S256x2048 .f32) (r : Fin 256) (h : Fin 8) (l : Fin 128) : EReal :=
  P (ix2 r ⟨h.val * 128 + l.val, by omega⟩)

/-- The reciprocal root of the mean square over 256 features, of which 64 are zero. -/
abbrev root (a b : Fin 128 → EReal) : EReal :=
  Ideal.rsqrt ((∑ l, a l * a l + ∑ l, b l * b l) * (Named.named κ "part" 1001040555#32 : Ideal .f32)
    + Ideal.ofBits FTy.f32 897988541#32)

/-- The rotation of 128 lanes, as the kernel computes it: the lane times its cosine plus the lane 32 further or 32 back times
its sine. -/
abbrev turn (y c s : Fin 128 → EReal) (l : Fin 128) : EReal :=
  y l * c l + Scalar.select (IntOp.cmpi .slt (BitVec.ofNat 32 l.val) 32#32)
    (y ⟨(l.val + 128 - 96) % 128, by omega⟩) (y ⟨(l.val + 128 - 32) % 128, by omega⟩) * s l

/-- The first gain lanes. -/
abbrev glo (g : FVec Ideal S1x256 .f32) (l : Fin 128) : EReal := g (ix2 0 ⟨l.val, by omega⟩)

/-- The last gain lanes. -/
abbrev ghi (g : FVec Ideal S1x256 .f32) (l : Fin 128) : EReal := g (ix2 0 ⟨128 + l.val, by omega⟩)

/-- The root with the queries' factor. -/
abbrev qroot (P : FVec Ideal S256x2048 .f32) (r : Fin 256) (h : Fin 8) : EReal :=
  root (lo P r h) (hi P r h) * Ideal.ofBits FTy.f32 1037384597#32

theorem ix2_eq (x : S256x128.Idx) (r : Fin 256) (l : Fin 128) (h0 : (x 0).val = r.val) (h1 : (x 1).val = l.val) :
    x = ix2 r l := by
  obtain rfl : x 0 = r := Fin.ext h0
  obtain rfl : x 1 = l := Fin.ext h1
  exact eq_ix2 x

/-- The stored queries, first features of a head. -/
theorem out9_lo (x0 : Vec Ideal S256x896 .bf16) (x1 : Vec Ideal S256x256 .bf16) (x2 : Vec Ideal S256x128 .f32)
    (x3 : Vec Ideal S896x2048 .bf16) (x4 : Vec Ideal S256x2048 .bf16) (x5 x6 : Vec Ideal S1x256 .f32)
    (x7 x8 : Vec Ideal S256x128 .f32) (P : FVec Ideal S256x2048 .f32)
    (hP : k0_pay3 (View.ld x0 r0_1) (View.ld x3 r0_2) = P) (h : Fin 8) (l : Fin 128) (r : Fin 256) (y : S256x2048.Idx)
    (h0 : (y 0).val = r.val) (hy : (y 1).val = h.val * 256 + l.val) :
    out0_9 (F := Ideal) x0 x1 x2 x3 x4 x5 x6 x7 x8 y
      = lo P r h l * qroot P r h * glo x5 l := by
  unfold_out out0_9
  canon_tiles x hc
  all_goals
    fin_cases h
    all_goals first
      | (exfalso; simp only [Fin.val_mk] at hy; omega)
      | skip
  all_goals
    (obtain rfl : x = ix2 r l := ix2_eq x r l (by omega) (by simp only [Fin.val_mk] at hy; omega)
     simp only [k0_pay8, k0_pay9, hP]
     pointwise [k0_pay6, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95,
      k0_pay96, k0_pay97, k0_pay98, k0_pay99, k0_pay100, k0_pay101, k0_pay102, k0_pay103, k0_pay104]
     try simp only [hP]
     first | rfl | (simp only [lo, hi, root, qroot, Fin.zero_eta, Fin.isValue, Fin.val_zero, Nat.zero_mul, Nat.zero_add]; try rfl))

/-- The stored queries, last features of a head: rotated. -/
theorem out9_hi (x0 : Vec Ideal S256x896 .bf16) (x1 : Vec Ideal S256x256 .bf16) (x2 : Vec Ideal S256x128 .f32)
    (x3 : Vec Ideal S896x2048 .bf16) (x4 : Vec Ideal S256x2048 .bf16) (x5 x6 : Vec Ideal S1x256 .f32)
    (x7 x8 : Vec Ideal S256x128 .f32) (P : FVec Ideal S256x2048 .f32)
    (hP : k0_pay3 (View.ld x0 r0_1) (View.ld x3 r0_2) = P) (h : Fin 8) (l : Fin 128) (r : Fin 256) (y : S256x2048.Idx)
    (h0 : (y 0).val = r.val) (hy : (y 1).val = h.val * 256 + 128 + l.val) :
    out0_9 (F := Ideal) x0 x1 x2 x3 x4 x5 x6 x7 x8 y
      = turn (fun l => hi P r h l * qroot P r h * ghi x5 l)
          (fun l => x7 (ix2 r l)) (fun l => x8 (ix2 r l)) l := by
  unfold_out out0_9
  canon_tiles x hc
  all_goals
    fin_cases h
    all_goals first
      | (exfalso; simp only [Fin.val_mk] at hy; omega)
      | skip
  all_goals
    (obtain rfl : x = ix2 r l := ix2_eq x r l (by omega) (by simp only [Fin.val_mk] at hy; omega)
     simp only [k0_pay8, k0_pay9, hP]
     pointwise [k0_pay6, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95,
      k0_pay96, k0_pay97, k0_pay98, k0_pay99, k0_pay100, k0_pay101, k0_pay102, k0_pay103, k0_pay104]
     try simp only [hP]
     first | rfl | (simp only [lo, hi, root, qroot, Fin.zero_eta, Fin.isValue, Fin.val_zero, Nat.zero_mul, Nat.zero_add]; try rfl))

theorem ix4_eq (x : S1x1x128x256.Idx) (l : Fin 128) (r : Fin 256) (h2 : (x 2).val = l.val) (h3 : (x 3).val = r.val) :
    x = ix4 0 0 l r := by
  obtain rfl : x 2 = l := Fin.ext h2
  obtain rfl : x 3 = r := Fin.ext h3
  refine (eq_ix4 x).trans ?_
  rw [show x 0 = (0 : Fin 1) from Fin.ext (Nat.lt_one_iff.mp (x 0).isLt),
    show x 1 = (0 : Fin 1) from Fin.ext (Nat.lt_one_iff.mp (x 1).isLt)]

/-- The stored keys, first features of a head. -/
theorem out10_lo (x0 : Vec Ideal S256x896 .bf16) (x1 : Vec Ideal S256x256 .bf16) (x2 : Vec Ideal S256x128 .f32)
    (x3 : Vec Ideal S896x2048 .bf16) (x4 : Vec Ideal S256x2048 .bf16) (x5 x6 : Vec Ideal S1x256 .f32)
    (x7 x8 : Vec Ideal S256x128 .f32) (P : FVec Ideal S256x2048 .f32)
    (hP : k0_pay4 (View.ld x1 r0_3) (View.ld x4 r0_4) = P) (h : Fin 8) (l : Fin 128) (r : Fin 256) (y : S8x1x256x256.Idx)
    (h0 : (y 0).val = h.val) (h3 : (y 3).val = r.val) (hy : (y 2).val = l.val) :
    out0_10 (F := Ideal) x0 x1 x2 x3 x4 x5 x6 x7 x8 y
      = klo P r h l * root (klo P r h) (fun l => x2 (ix2 r l))
          * glo x6 l := by
  unfold_out out0_10
  canon_tiles x hc
  all_goals first
    | (exfalso; omega)
    | skip
  all_goals
    fin_cases h
    all_goals first
      | (exfalso; simp only [Fin.val_mk] at h0; omega)
      | skip
  all_goals
    (obtain rfl : x = ix4 0 0 l r := ix4_eq x l r (by omega) (by omega)
     simp only [hP]
     pointwise [k0_pay1, k0_pay7, k0_pay5, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95,
      k0_pay96, k0_pay97, k0_pay98, k0_pay99, k0_pay100, k0_pay101, k0_pay102, k0_pay103, k0_pay104]
     first | rfl | (simp only [root, klo, Fin.zero_eta, Fin.isValue, Fin.val_zero, Nat.zero_mul, Nat.zero_add]; try rfl))

/-- The stored keys, last features of a head: the rotary key, rotated. -/
theorem out10_hi (x0 : Vec Ideal S256x896 .bf16) (x1 : Vec Ideal S256x256 .bf16) (x2 : Vec Ideal S256x128 .f32)
    (x3 : Vec Ideal S896x2048 .bf16) (x4 : Vec Ideal S256x2048 .bf16) (x5 x6 : Vec Ideal S1x256 .f32)
    (x7 x8 : Vec Ideal S256x128 .f32) (P : FVec Ideal S256x2048 .f32)
    (hP : k0_pay4 (View.ld x1 r0_3) (View.ld x4 r0_4) = P) (h : Fin 8) (l : Fin 128) (r : Fin 256) (y : S8x1x256x256.Idx)
    (h0 : (y 0).val = h.val) (h3 : (y 3).val = r.val) (hy : (y 2).val = 128 + l.val) :
    out0_10 (F := Ideal) x0 x1 x2 x3 x4 x5 x6 x7 x8 y
      = turn (fun l => x2 (ix2 r l)
            * root (klo P r h) (fun l => x2 (ix2 r l)) * ghi x6 l)
          (fun l => x7 (ix2 r l)) (fun l => x8 (ix2 r l)) l := by
  unfold_out out0_10
  canon_tiles x hc
  all_goals first
    | (exfalso; omega)
    | skip
  all_goals
    fin_cases h
    all_goals first
      | (exfalso; simp only [Fin.val_mk] at h0; omega)
      | skip
  all_goals
    (obtain rfl : x = ix4 0 0 l r := ix4_eq x l r (by omega) (by omega)
     simp only [hP]
     pointwise [k0_pay1, k0_pay7, k0_pay5, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40,
      k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71, k0_pay72, k0_pay73,
      k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95,
      k0_pay96, k0_pay97, k0_pay98, k0_pay99, k0_pay100, k0_pay101, k0_pay102, k0_pay103, k0_pay104]
     first | rfl | (simp only [root, klo, Fin.zero_eta, Fin.isValue, Fin.val_zero, Nat.zero_mul, Nat.zero_add]; try rfl))

/-- The stored values: the second 1024 features of the product. -/
theorem out11_at (x0 : Vec Ideal S256x896 .bf16) (x1 : Vec Ideal S256x256 .bf16) (x2 : Vec Ideal S256x128 .f32)
    (x3 : Vec Ideal S896x2048 .bf16) (x4 : Vec Ideal S256x2048 .bf16) (x5 x6 : Vec Ideal S1x256 .f32)
    (x7 x8 : Vec Ideal S256x128 .f32) (y : S256x1024.Idx) :
    out0_11 (F := Ideal) x0 x1 x2 x3 x4 x5 x6 x7 x8 y = k0_pay2 (k0_pay4 x1 x4) y := by
  unfold_out out0_11
  frame_out

/-- The product of the queries, entry by entry. -/
theorem qprod_at (x0 : Vec Ideal S256x896 .bf16) (x3 : Vec Ideal S896x2048 .bf16) (r : Fin 256) (j : Fin 2048) :
    k0_pay3 (View.ld x0 r0_1) (View.ld x3 r0_2) (ix2 r j) = ∑ k : Fin 896, x0 (ix2 r k) * x3 (ix2 k j) := by
  pointwise [k0_pay3]

/-- The product of the keys and values, entry by entry. -/
theorem kvprod_at (x1 : Vec Ideal S256x256 .bf16) (x4 : Vec Ideal S256x2048 .bf16) (r : Fin 256) (j : Fin 2048) :
    k0_pay4 (View.ld x1 r0_3) (View.ld x4 r0_4) (ix2 r j) = ∑ k : Fin 256, x1 (ix2 r k) * x4 (ix2 k j) := by
  pointwise [k0_pay4]

end Cert.PrepDIdeal.Prep

end
-- ==== Proof.PrepDRef.lean ====
/- The preparing call's reference read entry by entry. -/
module

public import proofs.«01_k».proof.Proof.Gen.PrepDRefIdeal.Run
public import Idealize.ShloMosaic.Lib.Pointwise
public import Idealize.ShloMosaic.Lib.Tactic

@[expose] public section

set_option maxRecDepth 16384

noncomputable section

namespace Cert.PrepDRefIdeal.Prep

open Cert.PrepDRefIdeal Cert.PrepDRefIdeal.Gen Idealize.ShloMosaic

/-- The queries' product with the first layer's weights, by heads. -/
abbrev queries (ql : FVec Ideal S16384x896 .bf16) (w : FVec Ideal S4x896x1536 .f32) : FVec Ideal S16384x8x192 .f32 :=
  shapeCast _ (Host.dotGeneral dot_S16384x896_S896x1536_S16384x1536_1_0_0_1_n_n none (extf .f32 ql bitsLt_bf16_f32)
    (shapeCast _ (extractStridedSlice S1x896x1536 ![0, 0, 0] w slices_S4x896x1536_S1x896x1536_0_0_0)
      shapeCasts_S1x896x1536_S896x1536)) shapeCasts_S16384x1536_S16384x8x192

/-- The keys' and values' product with the first layer's weights, by heads. -/
abbrev keysvals (kvl : FVec Ideal S16384x256 .bf16) (w : FVec Ideal S4x256x2048 .f32) : FVec Ideal S16384x8x256 .f32 :=
  shapeCast _ (Host.dotGeneral dot_S16384x256_S256x2048_S16384x2048_1_0_0_1_n_n none (extf .f32 kvl bitsLt_bf16_f32)
    (shapeCast _ (extractStridedSlice S1x256x2048 ![0, 0, 0] w slices_S4x256x2048_S1x256x2048_0_0_0)
      shapeCasts_S1x256x2048_S256x2048)) shapeCasts_S16384x2048_S16384x8x256

/-- A head's keys: its 128 features and the rotary key. -/
abbrev keys (kvl : FVec Ideal S16384x256 .bf16) (kr : FVec Ideal S16384x128 .f32) (w : FVec Ideal S4x256x2048 .f32) :
    FVec Ideal S16384x8x192 .f32 :=
  concatenate S16384x8x192 2 [⟨S16384x8x128, (extractStridedSlice S16384x8x128 ![0, 0, 0] (keysvals kvl w)
      slices_S16384x8x256_S16384x8x128_0_0_0)⟩,
    ⟨S16384x8x64, (broadcastInDim S16384x8x64 ![0, 1, 2] bcast_S16384x1x64_S16384x8x64_0_1_2 (broadcastInDim S16384x1x64 ![0, 2]
      bcast_S16384x64_S16384x1x64_0_2 (extractStridedSlice S16384x64 ![0, 0] kr slices_S16384x128_S16384x64_0_0)))⟩]
    concatenates_S16384x8x128_S16384x8x64_S16384x8x192_d2

/-- The root mean square normalization of each head's features, with the first layer's gains. -/
abbrev normed (x : FVec Ideal S16384x8x192 .f32) (g : FVec Ideal S4x192 .f32) : FVec Ideal S16384x8x192 .f32 :=
  mulf (mulf x (broadcastInDim S16384x8x192 ![0, 1, 2] bcast_S16384x8x1_S16384x8x192_0_1_2 (Host.rsqrt (addf (Host.divf
      (broadcastInDim S16384x8x1 ![0, 1] bcast_S16384x8_S16384x8x1_0_1 (Host.reduceAdd (mulf x x) (constant S_ .f32 0x00000000#32)
        reducesTo_S16384x8x192_S16384x8_d2 h_S_))
      (broadcastInDim S16384x8x1 ![] bcast_S_S16384x8x1 (constant S_ .f32 0x43400000#32)))
      (broadcastInDim S16384x8x1 ![] bcast_S_S16384x8x1 (constant S_ .f32 0x358637BD#32))))))
    (broadcastInDim S16384x8x192 ![0, 1, 2] bcast_S1x1x192_S16384x8x192_0_1_2 (broadcastInDim S1x1x192 ![2] bcast_S192_S1x1x192_2
      (shapeCast _ (extractStridedSlice S1x192 ![0, 0] g slices_S4x192_S1x192_0_0) shapeCasts_S1x192_S192)))

/-- The queries' factor. -/
abbrev scaled (x : FVec Ideal S16384x8x192 .f32) : FVec Ideal S16384x8x192 .f32 :=
  mulf x (broadcastInDim S16384x8x192 ![] bcast_S_S16384x8x192 (constant S_ .f32 0x3DD53B95#32))

/-- A table's 32 columns, for every head. -/
abbrev table (t : FVec Ideal S16384x128 .f32) : FVec Ideal S16384x8x32 .f32 :=
  broadcastInDim S16384x8x32 ![0, 1, 2] bcast_S16384x1x32_S16384x8x32_0_1_2 (broadcastInDim S16384x1x32 ![0, 2]
    bcast_S16384x32_S16384x1x32_0_2 (extractStridedSlice S16384x32 ![0, 32] t slices_S16384x128_S16384x32_0_32))

/-- The first and the second half of the rotary features. -/
abbrev half1 (x : FVec Ideal S16384x8x192 .f32) : FVec Ideal S16384x8x32 .f32 :=
  extractStridedSlice S16384x8x32 ![0, 0, 0] (extractStridedSlice S16384x8x64 ![0, 0, 128] x
    slices_S16384x8x192_S16384x8x64_0_0_128) slices_S16384x8x64_S16384x8x32_0_0_0

@[inherit_doc half1]
abbrev half2 (x : FVec Ideal S16384x8x192 .f32) : FVec Ideal S16384x8x32 .f32 :=
  extractStridedSlice S16384x8x32 ![0, 0, 32] (extractStridedSlice S16384x8x64 ![0, 0, 128] x
    slices_S16384x8x192_S16384x8x64_0_0_128) slices_S16384x8x64_S16384x8x32_0_0_32

/-- The stored features of a head: 128 plain, 64 rotated, 64 zeros. -/
abbrev rotated (x : FVec Ideal S16384x8x192 .f32) (c s : FVec Ideal S16384x128 .f32) : FVec Ideal S16384x8x256 .f32 :=
  concatenate S16384x8x256 2 [⟨S16384x8x128, ((extractStridedSlice S16384x8x128 ![0, 0, 0] x
      slices_S16384x8x192_S16384x8x128_0_0_0) : FVec Ideal S16384x8x128 .f32)⟩,
    ⟨S16384x8x64, ((concatenate S16384x8x64 2 [⟨S16384x8x32, (subf (mulf (half1 x) (table c)) (mulf (half2 x) (table s)))⟩,
      ⟨S16384x8x32, (addf (mulf (half2 x) (table c)) (mulf (half1 x) (table s)))⟩]
      concatenates_S16384x8x32_S16384x8x32_S16384x8x64_d2) : FVec Ideal S16384x8x64 .f32)⟩,
    ⟨S16384x8x64, ((broadcastInDim S16384x8x64 ![] bcast_S_S16384x8x64 (constant S_ .f32 0x00000000#32)) :
      FVec Ideal S16384x8x64 .f32)⟩] concatenates_S16384x8x128_S16384x8x64_S16384x8x64_S16384x8x256_d2

/-- The stored queries. -/
abbrev plainQ (ql : FVec Ideal S16384x896 .bf16) (w : FVec Ideal S4x896x1536 .f32) (g : FVec Ideal S4x192 .f32)
    (c s : FVec Ideal S16384x128 .f32) : FVec Ideal S16384x2048 .bf16 :=
  truncf .bf16 (shapeCast _ (rotated (scaled (normed (queries ql w) g)) c s) shapeCasts_S16384x8x256_S16384x2048) bitsLt_bf16_f32

/-- The stored keys. -/
abbrev plainK (kvl : FVec Ideal S16384x256 .bf16) (kr : FVec Ideal S16384x128 .f32) (w : FVec Ideal S4x256x2048 .f32)
    (g : FVec Ideal S4x192 .f32) (c s : FVec Ideal S16384x128 .f32) : FVec Ideal S8x16x256x1024 .bf16 :=
  truncf .bf16 (transpose S8x16x256x1024 [2, 0, 3, 1] (shapeCast _ (rotated (normed (keys kvl kr w) g) c s)
    shapeCasts_S16384x8x256_S16x1024x8x256) transposes_S16x1024x8x256_S8x16x256x1024_2_0_3_1) bitsLt_bf16_f32

/-- The stored values. -/
abbrev plainV (kvl : FVec Ideal S16384x256 .bf16) (w : FVec Ideal S4x256x2048 .f32) : FVec Ideal S16384x1024 .bf16 :=
  truncf .bf16 (shapeCast _ (extractStridedSlice S16384x8x128 ![0, 0, 128] (keysvals kvl w)
    slices_S16384x8x256_S16384x8x128_0_0_128) shapeCasts_S16384x8x128_S16384x1024) bitsLt_bf16_f32

/-- A query feature of head `h`. -/
abbrev qfeat (ql : FVec Ideal S16384x896 .bf16) (w : FVec Ideal S4x896x1536 .f32) (r : Fin 16384) (h : Fin 8) (j : Fin 192) :
    EReal :=
  ∑ k : Fin 896, ql (ix2 r k) * w (ix3 0 k ⟨h.val * 192 + j.val, by omega⟩)

/-- A key feature of head `h`: of the product, or of the rotary key. -/
abbrev kfeat (kvl : FVec Ideal S16384x256 .bf16) (kr : FVec Ideal S16384x128 .f32) (w : FVec Ideal S4x256x2048 .f32)
    (r : Fin 16384) (h : Fin 8) (j : Fin 192) : EReal :=
  if j.val < 128 then ∑ k : Fin 256, kvl (ix2 r k) * w (ix3 0 k ⟨h.val * 256 + j.val, by omega⟩)
  else kr (ix2 r ⟨j.val - 128, by omega⟩)

/-- The reciprocal root of the mean square of 192 features. -/
abbrev meanroot (f : Fin 192 → EReal) : EReal :=
  Ideal.rsqrt (Ideal.div (∑ j, f j * f j) (Ideal.ofBits FTy.f32 1128267776#32) + Ideal.ofBits FTy.f32 897988541#32)

/-- The stored features: 128 plain ones, 64 rotated ones, zeros. -/
def stored (z : Fin 192 → EReal) (c s : Fin 128 → EReal) (j : Fin 256) : EReal :=
  if h : j.val < 128 then z ⟨j.val, by omega⟩
  else if h : j.val < 160 then z ⟨j.val, by omega⟩ * c ⟨j.val - 96, by omega⟩ - z ⟨j.val + 32, by omega⟩ * s ⟨j.val - 96, by omega⟩
  else if h : j.val < 192 then z ⟨j.val, by omega⟩ * c ⟨j.val - 128, by omega⟩ + z ⟨j.val - 32, by omega⟩ * s ⟨j.val - 128, by omega⟩
  else 0

theorem stored_plain (z : Fin 192 → EReal) (c s : Fin 128 → EReal) (j : Fin 256) (h : j.val < 128) :
    stored z c s j = z ⟨j.val, by omega⟩ := dif_pos h

theorem stored_first (z : Fin 192 → EReal) (c s : Fin 128 → EReal) (j : Fin 256) (h : 128 ≤ j.val) (h' : j.val < 160) :
    stored z c s j = z ⟨j.val, by omega⟩ * c ⟨j.val - 96, by omega⟩ - z ⟨j.val + 32, by omega⟩ * s ⟨j.val - 96, by omega⟩ :=
  (dif_neg (by omega)).trans (dif_pos h')

theorem stored_second (z : Fin 192 → EReal) (c s : Fin 128 → EReal) (j : Fin 256) (h : 160 ≤ j.val) (h' : j.val < 192) :
    stored z c s j = z ⟨j.val, by omega⟩ * c ⟨j.val - 128, by omega⟩ + z ⟨j.val - 32, by omega⟩ * s ⟨j.val - 128, by omega⟩ :=
  (dif_neg (by omega)).trans ((dif_neg (by omega)).trans (dif_pos h'))

theorem stored_zero (z : Fin 192 → EReal) (c s : Fin 128 → EReal) (j : Fin 256) (h : 192 ≤ j.val) : stored z c s j = 0 :=
  (dif_neg (by omega)).trans ((dif_neg (by omega)).trans (dif_neg (by omega)))

theorem queries_at (ql : FVec Ideal S16384x896 .bf16) (w : FVec Ideal S4x896x1536 .f32) (r : Fin 16384) (h : Fin 8) (j : Fin 192) :
    queries ql w (ix3 r h j) = qfeat ql w r h j := by
  pointwise [queries]

theorem keys_at (kvl : FVec Ideal S16384x256 .bf16) (kr : FVec Ideal S16384x128 .f32) (w : FVec Ideal S4x256x2048 .f32)
    (r : Fin 16384) (h : Fin 8) (j : Fin 192) : keys kvl kr w (ix3 r h j) = kfeat kvl kr w r h j := by
  pointwise [keys, keysvals]
  rfl

theorem normed_at (x : FVec Ideal S16384x8x192 .f32) (g : FVec Ideal S4x192 .f32) (r : Fin 16384) (h : Fin 8) (j : Fin 192) :
    normed x g (ix3 r h j) = x (ix3 r h j) * meanroot (fun j => x (ix3 r h j)) * g (ix2 0 j) := by
  pointwise [normed, zero_add]

theorem sub_congr {a b a' b' : EReal} (h : a = a') (h' : b = b') : a - b = a' - b' := by rw [h, h']

theorem rotated_at (x : FVec Ideal S16384x8x192 .f32) (c s : FVec Ideal S16384x128 .f32) (r : Fin 16384) (h : Fin 8)
    (j : Fin 256) : rotated x c s (ix3 r h j)
      = stored (fun j => x (ix3 r h j)) (fun l => c (ix2 r l)) (fun l => s (ix2 r l)) j := by
  pointwise [rotated, half1, half2, table]
  have cx : ∀ k k' : Fin 192, k.val = k'.val → x (ix3 r h k) = x (ix3 r h k') := fun k k' e => by rw [Fin.ext e]
  have cc : ∀ k k' : Fin 128, k.val = k'.val → c (ix2 r k) = c (ix2 r k') := fun k k' e => by rw [Fin.ext e]
  have cs : ∀ k k' : Fin 128, k.val = k'.val → s (ix2 r k) = s (ix2 r k') := fun k k' e => by rw [Fin.ext e]
  by_cases h1 : j.val < 128
  · exact (dif_pos h1).trans (stored_plain (fun j => x (ix3 r h j)) (fun l => c (ix2 r l)) (fun l => s (ix2 r l)) j h1).symm
  by_cases h2 : j.val < 160
  · refine (dif_neg h1).trans ((dif_pos (show j.val - 128 < 64 by omega)).trans ((dif_pos (show j.val - 128 < 32 by omega)).trans (Eq.trans ?_ (stored_first (fun j => x (ix3 r h j)) (fun l => c (ix2 r l)) (fun l => s (ix2 r l)) j (by omega) h2).symm)))
    exact sub_congr
      (Ideal.mul_congr (cx _ _ (by first | omega | (simp only []; omega)))
        (cc _ _ (by first | omega | (simp only []; omega))))
      (Ideal.mul_congr (cx _ _ (by first | omega | (simp only []; omega)))
        (cs _ _ (by first | omega | (simp only []; omega))))
  by_cases h3 : j.val < 192
  · refine (dif_neg h1).trans ((dif_pos (show j.val - 128 < 64 by omega)).trans ((dif_neg (show ¬ j.val - 128 < 32 by omega)).trans (Eq.trans ?_ (stored_second (fun j => x (ix3 r h j)) (fun l => c (ix2 r l)) (fun l => s (ix2 r l)) j (by omega) h3).symm)))
    exact Ideal.add_congr
      (Ideal.mul_congr (cx _ _ (by first | omega | (simp only []; omega)))
        (cc _ _ (by first | omega | (simp only []; omega))))
      (Ideal.mul_congr (cx _ _ (by first | omega | (simp only []; omega)))
        (cs _ _ (by first | omega | (simp only []; omega))))
  · exact (dif_neg h1).trans ((dif_neg (show ¬ j.val - 128 < 64 by omega)).trans (stored_zero (fun j => x (ix3 r h j)) (fun l => c (ix2 r l)) (fun l => s (ix2 r l)) j (by omega)).symm)

theorem scaled_at (x : FVec Ideal S16384x8x192 .f32) (r : Fin 16384) (h : Fin 8) (j : Fin 192) :
    scaled x (ix3 r h j) = x (ix3 r h j) * Ideal.ofBits FTy.f32 1037384597#32 := by
  pointwise [scaled]

/-- Rows of heads side by side. -/
theorem rows_at (z : FVec Ideal S16384x8x256 .f32) (r : Fin 16384) (h : Fin 8) (j : Fin 256) :
    truncf .bf16 (shapeCast S16384x2048 z shapeCasts_S16384x8x256_S16384x2048) bitsLt_bf16_f32 (ix2 r ⟨h.val * 256 + j.val, by omega⟩)
      = z (ix3 r h j) := by
  pointwise

/-- Rows in blocks of 1024, heads first, transposed. -/
theorem blocks_at (z : FVec Ideal S16384x8x256 .f32) (h : Fin 8) (b : Fin 16) (j : Fin 256) (i : Fin 1024)
    (r : Fin 16384) (hr : r.val = b.val * 1024 + i.val) :
    truncf .bf16 (transpose S8x16x256x1024 [2, 0, 3, 1] (shapeCast _ z shapeCasts_S16384x8x256_S16x1024x8x256)
      transposes_S16x1024x8x256_S8x16x256x1024_2_0_3_1) bitsLt_bf16_f32 (ix4 h b j i) = z (ix3 r h j) := by
  pointwise
  exact congrArg (fun r => z (ix3 r h j)) (Fin.ext hr.symm)

theorem plainQ_at (ql : FVec Ideal S16384x896 .bf16) (w : FVec Ideal S4x896x1536 .f32) (g : FVec Ideal S4x192 .f32)
    (c s : FVec Ideal S16384x128 .f32) (r : Fin 16384) (h : Fin 8) (j : Fin 256) :
    plainQ ql w g c s (ix2 r ⟨h.val * 256 + j.val, by omega⟩)
      = stored (fun j => qfeat ql w r h j * meanroot (qfeat ql w r h) * g (ix2 0 j) * Ideal.ofBits FTy.f32 1037384597#32)
          (fun l => c (ix2 r l)) (fun l => s (ix2 r l)) j := by
  refine (rows_at _ r h j).trans ?_
  rw [rotated_at]
  refine congrArg (fun z => stored z _ _ j) (funext fun j => ?_)
  refine (scaled_at _ r h j).trans ?_
  rw [normed_at]
  simp only [queries_at]

theorem plainK_at (kvl : FVec Ideal S16384x256 .bf16) (kr : FVec Ideal S16384x128 .f32) (w : FVec Ideal S4x256x2048 .f32)
    (g : FVec Ideal S4x192 .f32) (c s : FVec Ideal S16384x128 .f32) (h : Fin 8) (b : Fin 16) (j : Fin 256) (i : Fin 1024)
    (r : Fin 16384) (hr : r.val = b.val * 1024 + i.val) : plainK kvl kr w g c s (ix4 h b j i)
      = stored (fun j => kfeat kvl kr w r h j * meanroot (kfeat kvl kr w r h) * g (ix2 0 j))
          (fun l => c (ix2 r l)) (fun l => s (ix2 r l)) j := by
  refine (blocks_at _ h b j i r hr).trans ?_
  rw [rotated_at]
  refine congrArg (fun z => stored z _ _ j) (funext fun j => ?_)
  rw [normed_at]
  simp only [keys_at]

/-- What the reference returns as queries. -/
theorem result_queries (m : (ℓ : Loc nD τ sig) → Buf (Elt Ideal) ℓ) (c : Dev nD) :
    Cert.PrepDRefIdeal.Value.res_out0 m c
      = plainQ (m ((c.tc : Thread nD τ).loc main_arg0)) (m ((c.tc : Thread nD τ).loc main_arg3)) (m ((c.tc : Thread nD τ).loc main_arg5)) (m ((c.tc : Thread nD τ).loc main_arg7)) (m ((c.tc : Thread nD τ).loc main_arg8)) := by
  sl_kernel_rfl

/-- What the reference returns as keys. -/
theorem result_keys (m : (ℓ : Loc nD τ sig) → Buf (Elt Ideal) ℓ) (c : Dev nD) :
    Cert.PrepDRefIdeal.Value.res_out1 m c
      = plainK (m ((c.tc : Thread nD τ).loc main_arg1)) (m ((c.tc : Thread nD τ).loc main_arg2)) (m ((c.tc : Thread nD τ).loc main_arg4)) (m ((c.tc : Thread nD τ).loc main_arg6))
          (m ((c.tc : Thread nD τ).loc main_arg7)) (m ((c.tc : Thread nD τ).loc main_arg8)) := by
  sl_kernel_rfl

end Cert.PrepDRefIdeal.Prep

end
-- ==== Proof.PrepDMath.lean ====
/- The preparing call's arithmetic over the extended reals: the mean over 192 features from two sums of 128 lanes, and the
rotation of padded lanes. -/
module

public import proofs.«01_k».proof.Proof.PrepDStores
public import proofs.«01_k».proof.Proof.PrepDRef

@[expose] public section

set_option maxRecDepth 16384

noncomputable section

namespace Cert.PrepDIdeal.Prep

open Cert.PrepDIdeal Cert.PrepDIdeal.Gen Idealize.ShloMosaic
open Cert.PrepDRefIdeal.Prep (meanroot stored stored_plain stored_first stored_second stored_zero)

theorem part_value : (Named.named κ "part" 0x3BAAAAAB#32 : Ideal .f32) = ((1 / 192 : ℝ) : EReal) :=
  IdealRules.named_const.ideal_named_scalar _ _ _ _ rfl

theorem bits_192 : Ideal.ofBits .f32 1128267776#32 = ((192 : ℝ) : EReal) := by
  simp [Ideal.ofBits, Ideal.ieee]
  rw [← EReal.coe_mul]
  norm_num

/-- Lanes 128 and on: 64 features and 64 zeros. -/
abbrev padded (f : Fin 192 → EReal) (l : Fin 128) : EReal :=
  if h : l.val < 64 then f ⟨128 + l.val, by omega⟩ else 0

/-- The first 128 features. -/
abbrev firsts (f : Fin 192 → EReal) (l : Fin 128) : EReal := f ⟨l.val, by omega⟩

theorem sum_padded (f : Fin 192 → EReal) :
    ∑ l, firsts f l * firsts f l + ∑ l, padded f l * padded f l = ∑ j, f j * f j := by
  have e1 := Fin.sum_univ_add (a := 128) (b := 64) (fun j : Fin (128 + 64) => f j * f j)
  have e2 := Fin.sum_univ_add (a := 64) (b := 64) (fun l : Fin (64 + 64) => padded f l * padded f l)
  refine Eq.trans ?_ e1.symm
  refine Ideal.add_congr rfl (e2.trans ?_)
  have z : ∑ i : Fin 64, padded f (Fin.natAdd 64 i) * padded f (Fin.natAdd 64 i) = 0 :=
    Finset.sum_eq_zero fun i _ => by
      rw [show padded f (Fin.natAdd 64 i) = 0 from dif_neg (by simp)]
      exact mul_zero _
  rw [z, add_zero]
  refine Finset.sum_congr rfl fun i _ => ?_
  rw [show padded f (Fin.castAdd 64 i) = f (Fin.natAdd 128 i) from dif_pos i.isLt]

/-- The kernel's root over two sums is the reference's root over 192 features. -/
theorem root_eq (a b : Fin 128 → EReal) (f : Fin 192 → EReal) (ha : ∀ l, a l = firsts f l) (hb : ∀ l, b l = padded f l) :
    root a b = meanroot f := by
  obtain rfl : a = firsts f := funext ha
  obtain rfl : b = padded f := funext hb
  have e := sum_padded f
  rw [root, meanroot, part_value, bits_192, Ideal.div_coe (by norm_num)]
  exact congrArg (fun x : EReal => Ideal.rsqrt (x * ((1 / 192 : ℝ) : EReal) + Ideal.ofBits FTy.f32 897988541#32)) e

theorem slt_32 : ∀ l : Fin 128, IntOp.cmpi .slt (BitVec.ofNat 32 l.val) 32#32 = if l.val < 32 then 1#1 else 0#1 := by
  decide +kernel

/-- The kernel's rotation of padded lanes is the reference's rotation. -/
theorem turn_eq (y c s : Fin 128 → EReal) (z : Fin 192 → EReal) (hy : ∀ l, y l = padded z l)
    (hs : ∀ l : Fin 64, s ⟨64 + l.val, by omega⟩ = 0) (hc : ∀ l : Fin 32, c ⟨l.val, by omega⟩ = c ⟨32 + l.val, by omega⟩)
    (hn : ∀ l : Fin 32, s ⟨l.val, by omega⟩ = -s ⟨32 + l.val, by omega⟩) (l : Fin 128) :
    turn y c s l = stored z c s ⟨128 + l.val, by omega⟩ := by
  obtain rfl : y = padded z := funext hy
  rw [turn, slt_32]
  by_cases h1 : l.val < 32
  · rw [if_pos h1, stored_first z c s ⟨128 + l.val, by omega⟩ (by simp) (by simp only []; omega)]
    have e1 : padded z l = z ⟨128 + l.val, by omega⟩ := dif_pos (by omega)
    have e2 : padded z ⟨(l.val + 128 - 96) % 128, by omega⟩ = z ⟨128 + l.val + 32, by omega⟩ :=
      (dif_pos (by simp only []; omega)).trans (congrArg z (Fin.ext (by simp only []; omega)))
    have e3 : c l = c ⟨128 + l.val - 96, by omega⟩ :=
      (hc ⟨l.val, h1⟩).trans (congrArg c (Fin.ext (by simp only []; omega)))
    have e4 : s l = -s ⟨128 + l.val - 96, by omega⟩ :=
      (hn ⟨l.val, h1⟩).trans (congrArg (fun k => -s k) (Fin.ext (by simp only []; omega)))
    rw [show Scalar.select 1#1 (padded z ⟨(l.val + 128 - 96) % 128, by omega⟩) (padded z ⟨(l.val + 128 - 32) % 128, by omega⟩)
      = padded z ⟨(l.val + 128 - 96) % 128, by omega⟩ from rfl, e1, e2, e3, e4, mul_neg, sub_eq_add_neg]
  rw [if_neg h1, show Scalar.select 0#1 (padded z ⟨(l.val + 128 - 96) % 128, by omega⟩) (padded z ⟨(l.val + 128 - 32) % 128, by omega⟩)
      = padded z ⟨(l.val + 128 - 32) % 128, by omega⟩ from rfl]
  by_cases h2 : l.val < 64
  · rw [stored_second z c s ⟨128 + l.val, by omega⟩ (by simp only []; omega) (by simp only []; omega)]
    have e1 : padded z l = z ⟨128 + l.val, by omega⟩ := dif_pos h2
    have e2 : padded z ⟨(l.val + 128 - 32) % 128, by omega⟩ = z ⟨128 + l.val - 32, by omega⟩ :=
      (dif_pos (by simp only []; omega)).trans (congrArg z (Fin.ext (by simp only []; omega)))
    have e3 : c l = c ⟨128 + l.val - 128, by omega⟩ := congrArg c (Fin.ext (by simp only []; omega))
    have e4 : s l = s ⟨128 + l.val - 128, by omega⟩ := congrArg s (Fin.ext (by simp only []; omega))
    rw [e1, e2, e3, e4]
  · rw [stored_zero z c s ⟨128 + l.val, by omega⟩ (by simp only []; omega)]
    have e1 : padded z l = 0 := dif_neg h2
    have e4 : s l = 0 := (congrArg s (Fin.ext (by simp only []; omega))).trans (hs ⟨l.val - 64, by omega⟩)
    rw [e1, e4, zero_mul, mul_zero, add_zero]

end Cert.PrepDIdeal.Prep

end
-- ==== Proof.TablesPre.lean ====
/- The precondition of the preparing call: zeros after the rotary key and the sines, cosines twice, sines negated and plain. -/
module

public import proofs.«01_k».proof.Pre_tables
public import Idealize.ShloMosaic.Lib.ReduceAll
public import Idealize.ShloMosaic.Lib.Pointwise

@[expose] public section

set_option maxRecDepth 65536

noncomputable section

namespace Cert.Pre_tables

open Idealize.ShloMosaic

/-- The side conditions the precondition takes. -/
theorem facts : Facts where
  slices_S16384x128_S16384x64_0_64 := by decide
  bcast_S_S16384x64 := by decide
  reducesTo_S16384x64_S_d0_1 := by decide
  h_S_ := by decide
  slices_S16384x128_S16384x32_0_0 := by decide
  slices_S16384x128_S16384x32_0_32 := by decide
  reducesTo_S16384x32_S_d0_1 := by decide

theorem eq_of_cmpf (x y : EReal) (h : FloatOps.cmpf (F := Ideal) (φ := .f32) .oeq x y = 1#1) : x = y := by
  rw [Ideal.cmpf_def, Ideal.cmp_oeq] at h
  by_contra hn
  refine absurd h ?_
  rw [show decide (x = y) = false from decide_eq_false hn]
  decide

instance : Subsingleton S_.Idx := ⟨fun a b => funext fun i => i.elim0⟩

variable [Facts]

/-- What the precondition says of row `r`. -/
theorem rows (ql : FVec Ideal S16384x896 .bf16) (kvl : FVec Ideal S16384x256 .bf16) (kr : FVec Ideal S16384x128 .f32)
    (wq : FVec Ideal S4x896x1536 .f32) (wk : FVec Ideal S4x256x2048 .f32) (gq gk : FVec Ideal S4x192 .f32)
    (c s : FVec Ideal S16384x128 .f32) (h : fn (F := Ideal) ql kvl kr wq wk gq gk c s = fun _ => 1#1) (r : Fin 16384) :
    (∀ l : Fin 64, kr (ix2 r ⟨64 + l.val, by omega⟩) = 0) ∧ (∀ l : Fin 64, s (ix2 r ⟨64 + l.val, by omega⟩) = 0)
      ∧ (∀ l : Fin 32, c (ix2 r ⟨l.val, by omega⟩) = c (ix2 r ⟨32 + l.val, by omega⟩))
      ∧ ∀ l : Fin 32, s (ix2 r ⟨l.val, by omega⟩) = -s (ix2 r ⟨32 + l.val, by omega⟩) := by
  have h0 := congrFun h ix0
  obtain ⟨h012, h3⟩ := IntOp.andi_eq_one.1 h0
  obtain ⟨h01, h2⟩ := IntOp.andi_eq_one.1 h012
  obtain ⟨h0, h1⟩ := IntOp.andi_eq_one.1 h01
  refine ⟨fun l => ?_, fun l => ?_, fun l => ?_, fun l => ?_⟩
  · have e := eq_of_cmpf _ _ (Host.reduce_andi_all _ _ _ _ _ h0 (ix2 r l))
    pointwise at e
    exact e
  · have e := eq_of_cmpf _ _ (Host.reduce_andi_all _ _ _ _ _ h1 (ix2 r l))
    pointwise at e
    exact e
  · have e := eq_of_cmpf _ _ (Host.reduce_andi_all _ _ _ _ _ h2 (ix2 r l))
    pointwise at e
    exact e
  · have e := eq_of_cmpf _ _ (Host.reduce_andi_all _ _ _ _ _ h3 (ix2 r l))
    pointwise at e
    exact e

end Cert.Pre_tables

end
-- ==== Proof.PrepDValue.lean ====
/- Values of the preparing call of the latent attention: the three arrays after the run. -/
module

public import proofs.«01_k».proof.Proof.PrepDMath
public import proofs.«01_k».proof.Proof.TablesPre

@[expose] public section

set_option maxRecDepth 16384

noncomputable section

namespace Cert.PrepDIdeal.Prep

open Cert.PrepDIdeal Cert.PrepDIdeal.Gen Idealize.ShloMosaic Idealize.ShloMosaic.TcCoe Idealize.SL.Sem
open Idealize.ShloMosaic.Pipeline (Dat)
open Cert.PrepDRefIdeal.Prep (meanroot stored stored_plain plainQ plainQ_at plainK plainK_at plainV qfeat kfeat)

variable (m : (ℓ : Loc nD τ sig) → Buf (Elt Ideal) ℓ)

/-- Where each window's block lies at grid point `t`. -/
theorem place : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![0, t.val / 4, 0, t.val % 4] ∧ win0_11.index t = ![t.val, 0] :=
  (by decide +kernel : ∀ t : Fin grid0.N, _)

/-- The stored queries' weights: each head's 192 columns and 64 zeros. -/
abbrev wide (w : FVec Ideal S4x896x1536 .f32) : FVec Ideal S896x2048 .bf16 :=
  truncf .bf16 (shapeCast S896x2048 (pad S896x8x256 ![0, 0, 0] ![0, 0, 64] ![0, 0, 0]
    (shapeCast S896x8x192 (shapeCast S896x1536 (extractStridedSlice S1x896x1536 ![0, 0, 0] w slices_S4x896x1536_S1x896x1536_0_0_0)
      shapeCasts_S1x896x1536_S896x1536) shapeCasts_S896x1536_S896x8x192)
    (sitofp .f32 (constantI S_ 32 0#32) : FVec Ideal S_ .f32) pads_S896x8x192_S896x8x256_000_000_0640 h_S_)
    shapeCasts_S896x8x256_S896x2048) bitsLt_bf16_f32

/-- The stored gains: 192 and 64 zeros. -/
abbrev gains (g : FVec Ideal S4x192 .f32) : FVec Ideal S1x256 .f32 :=
  shapeCast S1x256 (pad S256 ![0] ![64] ![0] (shapeCast S192 (extractStridedSlice S1x192 ![0, 0] g slices_S4x192_S1x192_0_0)
    shapeCasts_S1x192_S192) (constant S_ .f32 0#32 : FVec Ideal S_ .f32) pads_S192_S256_0640 h_S_) shapeCasts_S256_S1x256

theorem entry_queries (c : Dev nD) : V m c main_v5 = wide (m ((c : Thread nD τ).loc main_arg3)) := by
  simp only [V, hostOps0, List.flatten_cons, List.flatten_nil, List.append_nil, List.cons_append, List.nil_append]
  after_results
  try rfl

theorem entry_qgain (c : Dev nD) : V m c main_v18 = gains (m ((c : Thread nD τ).loc main_arg5)) := by
  simp only [V, hostOps0, List.flatten_cons, List.flatten_nil, List.append_nil, List.cons_append, List.nil_append]
  after_results
  try rfl

theorem entry_kgain (c : Dev nD) : V m c main_v22 = gains (m ((c : Thread nD τ).loc main_arg6)) := by
  simp only [V, hostOps0, List.flatten_cons, List.flatten_nil, List.append_nil, List.cons_append, List.nil_append]
  after_results
  try rfl

theorem wide_at (w : FVec Ideal S4x896x1536 .f32) (k : Fin 896) (h : Fin 8) (j : Fin 256) :
    wide w (ix2 k ⟨h.val * 256 + j.val, by omega⟩)
      = if h' : j.val < 192 then w (ix3 0 k ⟨h.val * 192 + j.val, by omega⟩) else (0 : EReal) := by
  pointwise [wide]
  have z : FloatOps.sitofp (F := Ideal) .f32 (0#32) = (0 : EReal) := by
    simp [FloatOps.sitofp]
  rw [z]

theorem gains_at (g : FVec Ideal S4x192 .f32) (j : Fin 256) :
    gains g (ix2 0 j) = if h' : j.val < 192 then g (ix2 0 ⟨j.val, h'⟩) else (0 : EReal) := by
  pointwise [gains]

/-- The stored key and value weights: the keys of all heads, then the values of all heads. -/
theorem keys_column (c : Dev nD) (k : Fin 256) (h : Fin 8) (l : Fin 128) :
    V m c main_v14 (ix2 k ⟨h.val * 128 + l.val, by omega⟩)
      = (show FVec Ideal S4x256x2048 .f32 from m ((c : Thread nD τ).loc main_arg4)) (ix3 0 k ⟨h.val * 256 + l.val, by omega⟩) := by
  simp only [V, hostOps0, List.flatten_cons, List.flatten_nil, List.append_nil, List.cons_append, List.nil_append]
  after_results
  pointwise
  rw [dif_pos (show h.val * 128 + l.val < 1024 by omega)]
  exact congrArg (fun j => (show FVec Ideal S4x256x2048 .f32 from m ((c : Thread nD τ).loc main_arg4)) (ix3 0 k j))
    (Fin.ext (by simp only []; omega))

theorem values_column (c : Dev nD) (k : Fin 256) (j : Fin 1024) :
    V m c main_v14 (ix2 k ⟨1024 + j.val, by omega⟩)
      = (show FVec Ideal S4x256x2048 .f32 from m ((c : Thread nD τ).loc main_arg4))
          (ix3 0 k ⟨j.val / 128 * 256 + (128 + j.val % 128), by omega⟩) := by
  simp only [V, hostOps0, List.flatten_cons, List.flatten_nil, List.append_nil, List.cons_append, List.nil_append]
  after_results
  pointwise

theorem block0 (c : Dev nD) (t : Fin cfg0.N) (r : Fin 256) (l : Fin 896) (R : Fin 16384) (hR : R.val = t.val * 256 + r.val) :
    iblk m c 0 t (ix2 r l) = m ((c : Thread nD τ).loc main_arg0) (ix2 R l) := by
  blk_point [iblk, V, place t]

theorem block1 (c : Dev nD) (t : Fin cfg0.N) (r : Fin 256) (l : Fin 256) (R : Fin 16384) (hR : R.val = t.val * 256 + r.val) :
    iblk m c 1 t (ix2 r l) = m ((c : Thread nD τ).loc main_arg1) (ix2 R l) := by
  blk_point [iblk, V, place t]

theorem block2 (c : Dev nD) (t : Fin cfg0.N) (r : Fin 256) (l : Fin 128) (R : Fin 16384) (hR : R.val = t.val * 256 + r.val) :
    iblk m c 2 t (ix2 r l) = m ((c : Thread nD τ).loc main_arg2) (ix2 R l) := by
  blk_point [iblk, V, place t]

theorem block3 (c : Dev nD) (t : Fin cfg0.N) (k : Fin 896) (j : Fin 2048) : iblk m c 3 t (ix2 k j) = V m c main_v5 (ix2 k j) := by
  blk_point [iblk, place t]

theorem block4 (c : Dev nD) (t : Fin cfg0.N) (k : Fin 256) (j : Fin 2048) : iblk m c 4 t (ix2 k j) = V m c main_v14 (ix2 k j) := by
  blk_point [iblk, place t]

theorem block5 (c : Dev nD) (t : Fin cfg0.N) (k : Fin 1) (j : Fin 256) : iblk m c 5 t (ix2 k j) = V m c main_v18 (ix2 k j) := by
  blk_point [iblk, place t]

theorem block6 (c : Dev nD) (t : Fin cfg0.N) (k : Fin 1) (j : Fin 256) : iblk m c 6 t (ix2 k j) = V m c main_v22 (ix2 k j) := by
  blk_point [iblk, place t]

theorem block7 (c : Dev nD) (t : Fin cfg0.N) (r : Fin 256) (l : Fin 128) (R : Fin 16384) (hR : R.val = t.val * 256 + r.val) :
    iblk m c 7 t (ix2 r l) = m ((c : Thread nD τ).loc main_arg7) (ix2 R l) := by
  blk_point [iblk, V, place t]

theorem block8 (c : Dev nD) (t : Fin cfg0.N) (r : Fin 256) (l : Fin 128) (R : Fin 16384) (hR : R.val = t.val * 256 + r.val) :
    iblk m c 8 t (ix2 r l) = m ((c : Thread nD τ).loc main_arg8) (ix2 R l) := by
  blk_point [iblk, V, place t]

/-- The product of the queries at grid point `t`. -/
abbrev qprod (c : Dev nD) (t : Fin cfg0.N) : FVec Ideal S256x2048 .f32 :=
  k0_pay3 (View.ld (iblk m c 0 t) r0_1) (View.ld (iblk m c 3 t) r0_2)

/-- The product of the keys and values at grid point `t`. -/
abbrev kprod (c : Dev nD) (t : Fin cfg0.N) : FVec Ideal S256x2048 .f32 :=
  k0_pay4 (View.ld (iblk m c 1 t) r0_3) (View.ld (iblk m c 4 t) r0_4)

/-- The features of a query row. -/
abbrev qrow (c : Dev nD) (R : Fin 16384) (h : Fin 8) : Fin 192 → EReal :=
  qfeat (m ((c : Thread nD τ).loc main_arg0)) (m ((c : Thread nD τ).loc main_arg3)) R h

/-- The features of a key row. -/
abbrev krow (c : Dev nD) (R : Fin 16384) (h : Fin 8) : Fin 192 → EReal :=
  kfeat (m ((c : Thread nD τ).loc main_arg1)) (m ((c : Thread nD τ).loc main_arg2)) (m ((c : Thread nD τ).loc main_arg4)) R h

/-- A gain. -/
abbrev gain (g : FVec Ideal S4x192 .f32) (j : Fin 192) : EReal := g (ix2 0 j)

section Rows

variable (c : Dev nD) (t : Fin cfg0.N) (r : Fin 256) (R : Fin 16384) (hR : R.val = t.val * 256 + r.val) (h : Fin 8)

include hR

theorem qprod_row (j : Fin 256) : qprod m c t (ix2 r ⟨h.val * 256 + j.val, by omega⟩)
    = if h' : j.val < 192 then qrow m c R h ⟨j.val, h'⟩ else 0 := by
  rw [qprod, qprod_at]
  have e : ∀ k : Fin 896, (show EReal from iblk m c 0 t (ix2 r k)) * (show EReal from iblk m c 3 t (ix2 k ⟨h.val * 256 + j.val, by omega⟩))
      = (show EReal from m ((c : Thread nD τ).loc main_arg0) (ix2 R k)) * (if h' : j.val < 192 then
        (show FVec Ideal S4x896x1536 .f32 from m ((c : Thread nD τ).loc main_arg3)) (ix3 0 k ⟨h.val * 192 + j.val, by omega⟩)
        else (0 : EReal)) := fun k =>
    Ideal.mul_congr (block0 m c t r k R hR)
      ((block3 m c t k _).trans ((congrFun (entry_queries m c) _).trans (wide_at _ k h j)))
  refine (Finset.sum_congr rfl fun k _ => e k).trans ?_
  by_cases h' : j.val < 192
  · simp only [dif_pos h']
  · simp only [dif_neg h']
    exact Finset.sum_eq_zero fun k _ => mul_zero _

theorem q_lo (l : Fin 128) : lo (qprod m c t) r h l = firsts (qrow m c R h) l :=
  (qprod_row m c t r R hR h ⟨l.val, by omega⟩).trans (dif_pos (by simp only []; omega))

theorem q_hi (l : Fin 128) : hi (qprod m c t) r h l = padded (qrow m c R h) l := by
  have e := qprod_row m c t r R hR h ⟨128 + l.val, by omega⟩
  refine Eq.trans (congrArg (fun j => qprod m c t (ix2 r j)) (Fin.ext (by simp only []; omega))) (e.trans ?_)
  by_cases h' : l.val < 64
  · refine (dif_pos (show 128 + l.val < 192 by omega)).trans ?_
    rw [padded, dif_pos h']
  · refine (dif_neg (show ¬ 128 + l.val < 192 by omega)).trans ?_
    rw [padded, dif_neg h']

theorem k_lo (l : Fin 128) : klo (kprod m c t) r h l = firsts (krow m c R h) l := by
  refine (kvprod_at _ _ _ _).trans ?_
  refine Eq.trans ?_ (if_pos l.isLt).symm
  exact Finset.sum_congr rfl fun k _ => Ideal.mul_congr (block1 m c t r k R hR) ((block4 m c t k _).trans (keys_column m c k h l))

end Rows

theorem glo_eq (g : FVec Ideal S4x192 .f32) (x : FVec Ideal S1x256 .f32) (hx : ∀ j, x (ix2 0 j) = gains g (ix2 0 j)) (l : Fin 128) :
    glo x l = firsts (gain g) l :=
  (hx _).trans ((gains_at g _).trans (dif_pos (by simp only []; omega)))

theorem ghi_eq (g : FVec Ideal S4x192 .f32) (x : FVec Ideal S1x256 .f32) (hx : ∀ j, x (ix2 0 j) = gains g (ix2 0 j)) (l : Fin 128) :
    ghi x l = padded (gain g) l := by
  refine (hx _).trans ((gains_at g _).trans ?_)
  by_cases h' : l.val < 64
  · refine (dif_pos (show 128 + l.val < 192 by omega)).trans ?_
    rw [padded, dif_pos h']
  · refine (dif_neg (show ¬ 128 + l.val < 192 by omega)).trans ?_
    rw [padded, dif_neg h']

/-- A product of padded lanes and factors is padded. -/
theorem padded_mul (f g : Fin 192 → EReal) (u : EReal) (l : Fin 128) :
    padded f l * u * padded g l = padded (fun j => f j * u * g j) l := by
  by_cases h' : l.val < 64
  · rw [padded, padded, padded, dif_pos h', dif_pos h', dif_pos h']
  · rw [padded, padded, padded, dif_neg h', dif_neg h', dif_neg h', zero_mul, zero_mul]

/-- What the precondition says of a row of the tables and of the rotary key. -/
structure Laid (kr cos sin : Fin 128 → EReal) : Prop where
  key : ∀ l : Fin 64, kr ⟨64 + l.val, by omega⟩ = 0
  sinEnd : ∀ l : Fin 64, sin ⟨64 + l.val, by omega⟩ = 0
  cosTwice : ∀ l : Fin 32, cos ⟨l.val, by omega⟩ = cos ⟨32 + l.val, by omega⟩
  sinNeg : ∀ l : Fin 32, sin ⟨l.val, by omega⟩ = -sin ⟨32 + l.val, by omega⟩

/-- The precondition, row by row. -/
def Tables (c : Dev nD) : Prop := ∀ R : Fin 16384,
  Laid (fun l => m ((c : Thread nD τ).loc main_arg2) (ix2 R l)) (fun l => m ((c : Thread nD τ).loc main_arg7) (ix2 R l))
    (fun l => m ((c : Thread nD τ).loc main_arg8) (ix2 R l))

/-- The stored queries at a grid point are the reference's. -/
theorem at_queries (c : Dev nD) (ht : Tables m c) (t : Fin cfg0.N) (r : Fin 256) (R : Fin 16384) (hR : R.val = t.val * 256 + r.val)
    (h : Fin 8) (j : Fin 256) (y : S256x2048.Idx) (h0 : (y 0).val = r.val) (hy : (y 1).val = h.val * 256 + j.val) :
    out0_9 (F := Ideal) (iblk m c 0 t) (iblk m c 1 t) (iblk m c 2 t) (iblk m c 3 t) (iblk m c 4 t) (iblk m c 5 t) (iblk m c 6 t)
        (iblk m c 7 t) (iblk m c 8 t) y
      = stored (fun j => qrow m c R h j * meanroot (qrow m c R h) * gain (m ((c : Thread nD τ).loc main_arg5)) j
          * Ideal.ofBits FTy.f32 1037384597#32)
        (fun l => m ((c : Thread nD τ).loc main_arg7) (ix2 R l)) (fun l => m ((c : Thread nD τ).loc main_arg8) (ix2 R l)) j := by
  have er : qroot (qprod m c t) r h = meanroot (qrow m c R h) * Ideal.ofBits FTy.f32 1037384597#32 :=
    Ideal.mul_congr (root_eq _ _ _ (q_lo m c t r R hR h) (q_hi m c t r R hR h)) rfl
  have hg : ∀ j, iblk m c 5 t (ix2 0 j) = gains (m ((c : Thread nD τ).loc main_arg5)) (ix2 0 j) := fun j =>
    (block5 m c t 0 j).trans (congrFun (entry_qgain m c) _)
  have hz : ∀ j, qrow m c R h j * (meanroot (qrow m c R h) * Ideal.ofBits FTy.f32 1037384597#32) * gain (m ((c : Thread nD τ).loc main_arg5)) j
      = qrow m c R h j * meanroot (qrow m c R h) * gain (m ((c : Thread nD τ).loc main_arg5)) j * Ideal.ofBits FTy.f32 1037384597#32 := fun j => by
    rw [← mul_assoc, mul_right_comm]
  rw [← funext hz]
  by_cases hj : j.val < 128
  · rw [stored_plain _ _ _ j hj]
    refine (out9_lo _ _ _ _ _ _ _ _ _ (qprod m c t) rfl h ⟨j.val, hj⟩ r y h0 hy).trans ?_
    rw [er]
    exact Ideal.mul_congr (Ideal.mul_congr (q_lo m c t r R hR h _) rfl) (glo_eq _ _ hg _)
  · refine (out9_hi _ _ _ _ _ _ _ _ _ (qprod m c t) rfl h ⟨j.val - 128, by omega⟩ r y h0 (by simp only []; omega)).trans ?_
    rw [er, funext fun l => block7 m c t r l R hR, funext fun l => block8 m c t r l R hR]
    refine (turn_eq _ _ _ _ (fun l => ?_) (ht R).sinEnd (ht R).cosTwice (ht R).sinNeg _).trans
      (congrArg (stored _ _ _) (Fin.ext (by simp only []; omega)))
    rw [← padded_mul]
    exact Ideal.mul_congr (Ideal.mul_congr (q_hi m c t r R hR h l) rfl) (ghi_eq _ _ hg l)

/-- The stored keys at a grid point are the reference's. -/
theorem at_keys (c : Dev nD) (ht : Tables m c) (t : Fin cfg0.N) (r : Fin 256) (R : Fin 16384) (hR : R.val = t.val * 256 + r.val)
    (h : Fin 8) (j : Fin 256) (y : S8x1x256x256.Idx) (h0 : (y 0).val = h.val) (h3 : (y 3).val = r.val) (hy : (y 2).val = j.val) :
    out0_10 (F := Ideal) (iblk m c 0 t) (iblk m c 1 t) (iblk m c 2 t) (iblk m c 3 t) (iblk m c 4 t) (iblk m c 5 t) (iblk m c 6 t)
        (iblk m c 7 t) (iblk m c 8 t) y
      = stored (fun j => krow m c R h j * meanroot (krow m c R h) * gain (m ((c : Thread nD τ).loc main_arg6)) j)
        (fun l => m ((c : Thread nD τ).loc main_arg7) (ix2 R l)) (fun l => m ((c : Thread nD τ).loc main_arg8) (ix2 R l)) j := by
  have ek : ∀ l, iblk m c 2 t (ix2 r l) = padded (krow m c R h) l := fun l => by
    refine (block2 m c t r l R hR).trans ?_
    by_cases hl : l.val < 64
    · rw [padded, dif_pos hl]
      refine Eq.trans ?_ (if_neg (show ¬ 128 + l.val < 128 by omega)).symm
      exact congrArg (fun l => m ((c : Thread nD τ).loc main_arg2) (ix2 R l)) (Fin.ext (by simp only []; omega))
    · rw [padded, dif_neg hl]
      exact (congrArg (fun l => m ((c : Thread nD τ).loc main_arg2) (ix2 R l)) (Fin.ext (by simp only []; omega))).trans
        ((ht R).key ⟨l.val - 64, by omega⟩)
  have er : root (klo (kprod m c t) r h) (fun l => iblk m c 2 t (ix2 r l)) = meanroot (krow m c R h) :=
    root_eq _ _ _ (k_lo m c t r R hR h) ek
  have hg : ∀ j, iblk m c 6 t (ix2 0 j) = gains (m ((c : Thread nD τ).loc main_arg6)) (ix2 0 j) := fun j =>
    (block6 m c t 0 j).trans (congrFun (entry_kgain m c) _)
  by_cases hj : j.val < 128
  · rw [stored_plain _ _ _ j hj]
    refine (out10_lo _ _ _ _ _ _ _ _ _ (kprod m c t) rfl h ⟨j.val, hj⟩ r y h0 h3 hy).trans ?_
    rw [er]
    exact Ideal.mul_congr (Ideal.mul_congr (k_lo m c t r R hR h _) rfl) (glo_eq _ _ hg _)
  · refine (out10_hi _ _ _ _ _ _ _ _ _ (kprod m c t) rfl h ⟨j.val - 128, by omega⟩ r y h0 h3 (by simp only []; omega)).trans ?_
    rw [er, funext fun l => block7 m c t r l R hR, funext fun l => block8 m c t r l R hR]
    refine (turn_eq _ _ _ _ (fun l => ?_) (ht R).sinEnd (ht R).cosTwice (ht R).sinNeg _).trans
      (congrArg (stored _ _ _) (Fin.ext (by simp only []; omega)))
    rw [← padded_mul]
    exact Ideal.mul_congr (Ideal.mul_congr (ek l) rfl) (ghi_eq _ _ hg l)

/-- An entry of the reference's values. -/
theorem plainV_at (kvl : FVec Ideal S16384x256 .bf16) (w : FVec Ideal S4x256x2048 .f32) (R : Fin 16384) (j : Fin 1024) :
    plainV kvl w (ix2 R j)
      = ∑ k : Fin 256, kvl (ix2 R k) * w (ix3 0 k ⟨j.val / 128 * 256 + (128 + j.val % 128), by omega⟩) := by
  pointwise [plainV, Cert.PrepDRefIdeal.Prep.keysvals]

/-- An entry of the product of the keys and values of whole blocks. -/
theorem kvprod_whole (x1 : Vec Ideal S256x256 .bf16) (x4 : Vec Ideal S256x2048 .bf16) (r : Fin 256) (j : Fin 2048) :
    k0_pay4 x1 x4 (ix2 r j) = ∑ k : Fin 256, x1 (ix2 r k) * x4 (ix2 k j) := by
  pointwise [k0_pay4]

/-- The stored values at a grid point are the reference's. -/
theorem at_values (c : Dev nD) (t : Fin cfg0.N) (r : Fin 256) (R : Fin 16384) (hR : R.val = t.val * 256 + r.val)
    (j : Fin 1024) :
    out0_11 (F := Ideal) (iblk m c 0 t) (iblk m c 1 t) (iblk m c 2 t) (iblk m c 3 t) (iblk m c 4 t) (iblk m c 5 t) (iblk m c 6 t) (iblk m c 7 t) (iblk m c 8 t) (ix2 r j)
      = plainV (m ((c : Thread nD τ).loc main_arg1)) (m ((c : Thread nD τ).loc main_arg4)) (ix2 R j) := by
  refine (out11_at _ _ _ _ _ _ _ _ _ _).trans ?_
  refine Eq.trans (show _ = k0_pay4 (iblk m c 1 t) (iblk m c 4 t) (ix2 r ⟨1024 + j.val, by omega⟩) by pointwise [k0_pay2]) ?_
  refine (kvprod_whole _ _ _ _).trans ?_
  refine Eq.trans ?_ (plainV_at _ _ R j).symm
  exact Finset.sum_congr rfl fun k _ => Ideal.mul_congr (block1 m c t r k R hR) ((block4 m c t k _).trans (values_column m c k j))

theorem cell_queries (c : Dev nD) (ht : Tables m c) (t : Fin cfg0.N) (y : S256x2048.Idx) :
    out0_9 (F := Ideal) (iblk m c 0 t) (iblk m c 1 t) (iblk m c 2 t) (iblk m c 3 t) (iblk m c 4 t) (iblk m c 5 t) (iblk m c 6 t) (iblk m c 7 t) (iblk m c 8 t) y
      = plainQ (m ((c : Thread nD τ).loc main_arg0)) (m ((c : Thread nD τ).loc main_arg3)) (m ((c : Thread nD τ).loc main_arg5)) (m ((c : Thread nD τ).loc main_arg7)) (m ((c : Thread nD τ).loc main_arg8))
        ((win0_9.blk t).view.emb y) := by
  have ht64 : t.val < 64 := t.isLt
  have h0 : (y 0).val < 256 := (y 0).isLt
  have h1 : (y 1).val < 2048 := (y 1).isLt
  have e : (win0_9.blk t).view.emb y = ix2 (⟨t.val * 256 + (y 0).val, by omega⟩ : Fin 16384)
      (⟨(y 1).val / 256 * 256 + (y 1).val % 256, by omega⟩ : Fin 2048) := by
    blk_ext [place t]
  rw [e]
  exact (at_queries m c ht t ⟨(y 0).val, h0⟩ ⟨t.val * 256 + (y 0).val, by omega⟩ rfl ⟨(y 1).val / 256, by omega⟩ ⟨(y 1).val % 256, by omega⟩ y rfl
    (by simp only []; omega)).trans (plainQ_at _ _ _ _ _ _ ⟨(y 1).val / 256, by omega⟩ ⟨(y 1).val % 256, by omega⟩).symm

theorem cell_keys (c : Dev nD) (ht : Tables m c) (t : Fin cfg0.N) (y : S8x1x256x256.Idx) :
    out0_10 (F := Ideal) (iblk m c 0 t) (iblk m c 1 t) (iblk m c 2 t) (iblk m c 3 t) (iblk m c 4 t) (iblk m c 5 t) (iblk m c 6 t) (iblk m c 7 t) (iblk m c 8 t) y
      = plainK (m ((c : Thread nD τ).loc main_arg1)) (m ((c : Thread nD τ).loc main_arg2)) (m ((c : Thread nD τ).loc main_arg4)) (m ((c : Thread nD τ).loc main_arg6))
        (m ((c : Thread nD τ).loc main_arg7)) (m ((c : Thread nD τ).loc main_arg8))
        ((win0_10.blk t).view.emb y) := by
  have ht64 : t.val < 64 := t.isLt
  have h0 : (y 0).val < 8 := (y 0).isLt
  have h1 : (y 1).val < 1 := (y 1).isLt
  have h2 : (y 2).val < 256 := (y 2).isLt
  have h3 : (y 3).val < 256 := (y 3).isLt
  have e : (win0_10.blk t).view.emb y = ix4 (⟨(y 0).val, h0⟩ : Fin 8) (⟨t.val / 4, by omega⟩ : Fin 16) (⟨(y 2).val, h2⟩ : Fin 256)
      (⟨t.val % 4 * 256 + (y 3).val, by omega⟩ : Fin 1024) := by
    blk_ext [place t]
  rw [e]
  exact (at_keys m c ht t ⟨(y 3).val, h3⟩ ⟨t.val * 256 + (y 3).val, by omega⟩ rfl ⟨(y 0).val, h0⟩ ⟨(y 2).val, h2⟩ y rfl rfl
    rfl).trans (plainK_at _ _ _ _ _ _ ⟨(y 0).val, h0⟩ ⟨t.val / 4, by omega⟩ ⟨(y 2).val, h2⟩
      ⟨t.val % 4 * 256 + (y 3).val, by omega⟩ ⟨t.val * 256 + (y 3).val, by omega⟩ (by simp only []; omega)).symm

theorem cell_values (c : Dev nD) (t : Fin cfg0.N) (y : S256x1024.Idx) :
    out0_11 (F := Ideal) (iblk m c 0 t) (iblk m c 1 t) (iblk m c 2 t) (iblk m c 3 t) (iblk m c 4 t) (iblk m c 5 t) (iblk m c 6 t) (iblk m c 7 t) (iblk m c 8 t) y
      = plainV (m ((c : Thread nD τ).loc main_arg1)) (m ((c : Thread nD τ).loc main_arg4))
        ((win0_11.blk t).view.emb y) := by
  have ht64 : t.val < 64 := t.isLt
  have h0 : (y 0).val < 256 := (y 0).isLt
  have h1 : (y 1).val < 1024 := (y 1).isLt
  have e : (win0_11.blk t).view.emb y = ix2 (⟨t.val * 256 + (y 0).val, by omega⟩ : Fin 16384)
      (⟨(y 1).val, h1⟩ : Fin 1024) := by
    blk_ext [place t]
  have ey : y = ix2 (⟨(y 0).val, h0⟩ : Fin 256) (⟨(y 1).val, h1⟩ : Fin 1024) := by
    funext i
    match i with
    | 0 => rfl
    | 1 => rfl
  rw [e]
  refine (congrArg (out0_11 (F := Ideal) (iblk m c 0 t) (iblk m c 1 t) (iblk m c 2 t) (iblk m c 3 t) (iblk m c 4 t) (iblk m c 5 t)
    (iblk m c 6 t) (iblk m c 7 t) (iblk m c 8 t)) ey).trans ?_
  exact at_values m c t ⟨(y 0).val, h0⟩ ⟨t.val * 256 + (y 0).val, by omega⟩ rfl ⟨(y 1).val, h1⟩

/-- The queries' array after the run. -/
theorem array_queries (c : Dev nD) (ht : Tables m c) : (dats m 0 c).arrAt 9 (cfgs 0).N
    = plainQ (m ((c : Thread nD τ).loc main_arg0)) (m ((c : Thread nD τ).loc main_arg3)) (m ((c : Thread nD τ).loc main_arg5)) (m ((c : Thread nD τ).loc main_arg7)) (m ((c : Thread nD τ).loc main_arg8)) := by
  refine (dats m 0 c).arrAt_eq_of_covers 9 _ (by decide +kernel) fun t _ y => ?_
  blk_simp
  rw [after0_9]
  exact cell_queries m c ht t y

/-- The keys' array after the run. -/
theorem array_keys (c : Dev nD) (ht : Tables m c) : (dats m 0 c).arrAt 10 (cfgs 0).N
    = plainK (m ((c : Thread nD τ).loc main_arg1)) (m ((c : Thread nD τ).loc main_arg2)) (m ((c : Thread nD τ).loc main_arg4)) (m ((c : Thread nD τ).loc main_arg6))
        (m ((c : Thread nD τ).loc main_arg7)) (m ((c : Thread nD τ).loc main_arg8)) := by
  refine (dats m 0 c).arrAt_eq_of_covers 10 _ (by decide +kernel) fun t _ y => ?_
  blk_simp
  rw [after0_10]
  exact cell_keys m c ht t y

/-- The values' array after the run. -/
theorem array_values (c : Dev nD) : (dats m 0 c).arrAt 11 (cfgs 0).N = plainV (m ((c : Thread nD τ).loc main_arg1)) (m ((c : Thread nD τ).loc main_arg4)) := by
  refine (dats m 0 c).arrAt_eq_of_covers 11 _ (by decide +kernel) fun t _ y => ?_
  blk_simp
  rw [after0_11]
  exact cell_values m c t y

variable [Cert.Pre_tables.Facts]

/-- The precondition's array of truth values, read row by row. -/
theorem tables_of (c : Dev nD) (h : Cert.Pre_tables.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1) :
    Tables m c := fun R =>
  have e := Cert.Pre_tables.rows _ _ _ _ _ _ _ _ _ h R
  ⟨e.1, e.2.1, e.2.2.1, e.2.2.2⟩

end Cert.PrepDIdeal.Prep

end
-- ==== Proof.FinitePre.lean ====
/- The precondition of the attention: finite queries, keys and values are real numbers. -/
module

public import proofs.«01_k».proof.Pre_finite
public import Idealize.ShloMosaic.Lib.ReduceAll
public import Idealize.ShloMosaic.Lib.Pointwise

@[expose] public section

set_option maxRecDepth 65536

noncomputable section

namespace Cert.Pre_finite

open Idealize.ShloMosaic

/-- The side conditions the precondition takes. -/
theorem facts : Facts where
  bitsLt_bf16_f32 := by decide
  bcast_S_S16384x2048 := by decide
  reducesTo_S16384x2048_S_d0_1 := by decide
  h_S_ := by decide
  bcast_S_S8x16x256x1024 := by decide
  reducesTo_S8x16x256x1024_S_d0_1_2_3 := by decide
  bcast_S_S16384x1024 := by decide
  reducesTo_S16384x1024_S_d0_1 := by decide

theorem inf_bits : Ideal.ofBits .f32 0x7F800000#32 = ⊤ := by
  simp [Ideal.ofBits, Ideal.ieee]

/-- A number whose magnitude is below infinity is real. -/
theorem real_of_abs (x : EReal) (h : max x (-x) < ⊤) : ∃ r : ℝ, x = r := by
  induction x using EReal.rec with
  | bot => simp at h
  | coe r => exact ⟨r, rfl⟩
  | top => simp at h

theorem real_of_cmpf (x : EReal) (h : FloatOps.cmpf (F := Ideal) (φ := .f32) .olt (FloatOps.hostAbsf (F := Ideal) (φ := .f32) x) (Ideal.ofBits .f32 0x7F800000#32) = 1#1) :
    ∃ r : ℝ, x = r := by
  refine real_of_abs x ?_
  rw [inf_bits, Ideal.cmpf_def, Ideal.cmp_olt] at h
  by_contra hn
  refine absurd h ?_
  rw [show decide (FloatOps.hostAbsf (F := Ideal) (φ := .f32) x < ⊤) = false from decide_eq_false hn]
  decide

instance : Subsingleton S_.Idx := ⟨fun a b => funext fun i => i.elim0⟩

variable [Facts]

/-- What the precondition says: every entry is a real number. -/
theorem reals (q : FVec Ideal S16384x2048 .bf16) (kt : FVec Ideal S8x16x256x1024 .bf16) (v : FVec Ideal S16384x1024 .bf16)
    (h : fn (F := Ideal) q kt v = fun _ => 1#1) :
    (∀ y, ∃ r : ℝ, q y = r) ∧ (∀ y, ∃ r : ℝ, kt y = r) ∧ ∀ y, ∃ r : ℝ, v y = r := by
  have h0 := congrFun h ix0
  obtain ⟨h01, h2⟩ := IntOp.andi_eq_one.1 h0
  obtain ⟨h0, h1⟩ := IntOp.andi_eq_one.1 h01
  exact ⟨fun y => real_of_cmpf _ (Host.reduce_andi_all _ _ _ _ _ h0 y), fun y => real_of_cmpf _ (Host.reduce_andi_all _ _ _ _ _ h1 y),
    fun y => real_of_cmpf _ (Host.reduce_andi_all _ _ _ _ _ h2 y)⟩

end Cert.Pre_finite

end
-- ==== Proof.FlashStretch.lean ====
/- The masks of the two attentions: a query sees the keys up to its own position, or up to the end of its own stretch of 64. -/
module

public import Mathlib.Data.Nat.Notation

@[expose] public section

namespace Cert.Running

/-- Whether positions are compared by their stretch of 64, or one by one. -/
class Stretch where
  coarse : Bool

/-- The comparison by stretches of 64. -/
abbrev byStretch : Stretch := ⟨true⟩

/-- The comparison of the positions themselves. -/
abbrev byPosition : Stretch := ⟨false⟩

variable [U : Stretch]

/-- The length of a stretch. -/
def unit : ℕ := cond U.coarse 64 1

theorem unit_pos : 0 < unit := by
  obtain ⟨_ | _⟩ := U
  · exact Nat.one_pos
  · exact Nat.succ_pos 63

theorem unit_le : unit ≤ 64 := by
  obtain ⟨_ | _⟩ := U
  · exact Nat.le_of_ble_eq_true rfl
  · exact Nat.le_refl 64

/-- The comparison inside a block is the one inside the array. -/
theorem unit_shift (b x y : ℕ) : x / unit ≤ y / unit ↔ (1024 * b + x) / unit ≤ (1024 * b + y) / unit := by
  obtain ⟨_ | _⟩ := U
  · show x / 1 ≤ y / 1 ↔ (1024 * b + x) / 1 ≤ (1024 * b + y) / 1
    omega
  · show x / 64 ≤ y / 64 ↔ (1024 * b + x) / 64 ≤ (1024 * b + y) / 64
    omega

/-- Positions from a multiple of 128 on are in later stretches than those before it. -/
theorem unit_later {n x k : ℕ} (hx : x < 128 * n) (hk : 128 * n ≤ k) : x / unit < k / unit := by
  obtain ⟨_ | _⟩ := U
  · show x / 1 < k / 1
    omega
  · show x / 64 < k / 64
    omega

end Cert.Running
-- ==== Proof.FlashDParts.lean ====
/- The attention, block by block: what one chunk of rows does to the running maximum, the running sum and the running
   output, as functions of the chunk, and the lists of stores as families of them. The two attentions differ in the mask
   only, so that what is said of the chunks holds for both. -/
module

public import proofs.«01_k».proof.Proof.FlashStretch
public import proofs.«01_k».proof.Proof.Gen.FlashDIdeal.Frame
public import Idealize.ShloMosaic.Lib.Pipeline.ValueKit
public import Idealize.ShloMosaic.Lib.Pointwise

@[expose] public section

set_option maxRecDepth 65536

noncomputable section

namespace Cert.FlashDIdeal.Flash

open Cert.FlashDIdeal Cert.FlashDIdeal.Gen Idealize.ShloMosaic Idealize.ShloMosaic.TcCoe Idealize.SL.Sem
open Cert.Running

variable {F : FTy → Type} [FloatOps F] [Named F] {sig : RefSig}

/-- Pieces of one shape stack. -/
theorem stacked {α : Type} {s t : Shape} {N : ℕ} {a : Fin t.rank} (f : Fin N → (s.Idx → α)) (h : Shape.Concatenates (List.replicate N s) t a) :
    Shape.Concatenates ((List.ofFn fun r => (⟨s, f r⟩ : (s : Shape) × (s.Idx → α))).map (·.1)) t a := by
  have e : (List.ofFn fun r => (⟨s, f r⟩ : (s : Shape) × (s.Idx → α))).map (·.1) = List.replicate N s := by
    rw [List.map_ofFn]
    exact List.ofFn_const N s
  rw [e]
  exact h

/-! ## A chunk of 32 rows against 1024 keys -/

/-- The chunk's new maximum, in every lane. -/
def mNew (s : FVec F S32x1024 .f32) (m : Vec F S1x32x128 .f32) : FVec F S32x128 .f32 :=
  maximumf (shapeCast S32x128 m shapeCasts_S1x32x128_S32x128)
    (broadcastTo S32x128 (shapeCast S32x1
      (multiReduction .maximumf [1] S32 s 0xFF800000#32 reduces_S32x1024_S32 (.inl rfl) rfl) shapeCasts_S32_S32x1)
      broadcasts_S32x1_S32x128)

/-- The factor that carries the old sums to the new maximum. -/
def alpha (s : FVec F S32x1024 .f32) (m : Vec F S1x32x128 .f32) : FVec F S32x128 .f32 :=
  exp2 (subf (shapeCast S32x128 m shapeCasts_S1x32x128_S32x128) (mNew s m))

theorem lane_slices (c : Fin 8) : S32x1024.Slices ![0, 128 * (c : ℕ)] S32x128 := by revert c; decide

/-- The weights of 128 keys. -/
def part (s : FVec F S32x1024 .f32) (m : Vec F S1x32x128 .f32) (c : Fin 8) : FVec F S32x128 .f32 :=
  exp2 (subf (extractStridedSlice S32x128 ![0, 128 * (c : ℕ)] s (lane_slices c)) (mNew s m))

/-- The new sums. -/
def lNew (s : FVec F S32x1024 .f32) (m l : Vec F S1x32x128 .f32) : FVec F S1x32x128 .f32 :=
  shapeCast S1x32x128 (addf (mulf (alpha s m) (shapeCast S32x128 l shapeCasts_S1x32x128_S32x128))
    (addf (addf (addf (addf (addf (addf (addf (part s m 0) (part s m 1)) (part s m 2)) (part s m 3)) (part s m 4))
      (part s m 5)) (part s m 6)) (part s m 7))) shapeCasts_S32x128_S1x32x128

/-- The new maximum as it is stored. -/
def mStore (s : FVec F S32x1024 .f32) (m : Vec F S1x32x128 .f32) : FVec F S1x32x128 .f32 :=
  shapeCast S1x32x128 (mNew s m) shapeCasts_S32x128_S1x32x128

/-- The weights of the chunk side by side. -/
def probs (s : FVec F S32x1024 .f32) (m : Vec F S1x32x128 .f32) : FVec F S32x1024 .bf16 :=
  truncf .bf16 (concatenate S32x1024 1 (List.ofFn fun c : Fin 8 => (⟨S32x128, part s m c⟩ : (s : Shape) × (s.Idx → F .f32)))
    concatenates_S32x128_S32x128_S32x128_S32x128_S32x128_S32x128_S32x128_S32x128_S32x1024_d1 : FVec F S32x1024 .f32) bitsLt_bf16_f32

/-! ## A block of 1024 rows against a block of 1024 keys before it -/

/-- The scores. -/
def scores (q : Vec F S1024x256 .bf16) (kt : Vec F S1x1x256x1024 .bf16) : FVec F S1024x1024 .f32 :=
  matmul dot_S1024x256_S256x1024_S1024x1024_1_0_0_1_n_n none q
    (shapeCast S256x1024 kt shapeCasts_S1x1x256x1024_S256x1024) (constant S1024x1024 .f32 0x00000000#32)

theorem row_slices (r : Fin 32) : S1024x1024.Slices ![32 * (r : ℕ), 0] S32x1024 := by revert r; decide

/-- A chunk's scores. -/
def rows (s : FVec F S1024x1024 .f32) (r : Fin 32) : FVec F S32x1024 .f32 :=
  extractStridedSlice S32x1024 ![32 * (r : ℕ), 0] s (row_slices r)

theorem chunk_inb (g : Fin 2) (r : Fin 32) :
    ∀ a, (![(g : ℕ), 32 * (r : ℕ), 0] : Fin 3 → Nat) a + S1x32x128.size a ≤ S2x1024x128.size a := by
  revert g r; decide

/-- The rows of a chunk in a scratch. -/
abbrev chunk (g : Fin 2) (r : Fin 32) : Rect S2x1024x128 :=
  Rect.unit ![(g : ℕ), 32 * (r : ℕ), 0] S1x32x128.size (chunk_inb g r)

/-- The running output's carry and the chunks' weights, stacked. -/
def alphas (s : FVec F S1024x1024 .f32) (m : Fin 32 → Vec F S1x32x128 .f32) : FVec F S1024x128 .f32 :=
  concatenate S1024x128 0 (List.ofFn fun r : Fin 32 => (⟨S32x128, alpha (rows s r) (m r)⟩ : (s : Shape) × (s.Idx → F .f32))) (stacked _ (by decide))

def weights (s : FVec F S1024x1024 .f32) (m : Fin 32 → Vec F S1x32x128 .f32) : FVec F S1024x1024 .bf16 :=
  concatenate S1024x1024 0 (List.ofFn fun r : Fin 32 => (⟨S32x1024, probs (rows s r) (m r)⟩ : (s : Shape) × (s.Idx → F .bf16))) (stacked _ (by decide))

/-- The new output of one head. -/
def accNew (s : FVec F S1024x1024 .f32) (m : Fin 32 → Vec F S1x32x128 .f32) (v : Vec F S1024x128 .bf16)
    (acc : Vec F S1x1024x128 .f32) : FVec F S1x1024x128 .f32 :=
  shapeCast S1x1024x128 (addf (mulf (alphas s m) (shapeCast S1024x128 acc shapeCasts_S1x1024x128_S1024x128))
    (matmul dot_S1024x1024_S1024x128_S1024x128_1_0_0_1_n_n none (weights s m) v (constant S1024x128 .f32 0x00000000#32)))
    shapeCasts_S1024x128_S1x1024x128

theorem head_inb (g : Fin 2) :
    ∀ a, (![(g : ℕ), 0, 0] : Fin 3 → Nat) a + S1x1024x128.size a ≤ S2x1024x128.size a := by
  revert g; decide

/-- One head's rows in a scratch. -/
abbrev headRect (g : Fin 2) : Rect S2x1024x128 := Rect.unit ![(g : ℕ), 0, 0] S1x1024x128.size (head_inb g)

section trip

variable (i : grid0.Coords) (arg2 : Memref sig .tc .vmem S1024x512 .bf16) (arg3 : Memref sig .tc .vmem S2x16x256x1024 .bf16)
  (arg4 : Memref sig .tc .vmem S16384x256 .bf16) (arg6 arg7 arg8 : Memref sig .tc .vmem S2x1024x128 .f32)
  (X2 : BufTy.Contents (Elt F) arg2.view.ty) (X3 : BufTy.Contents (Elt F) arg3.view.ty) (X4 : BufTy.Contents (Elt F) arg4.view.ty)
  (k : Fin (k0_t1_loop i).trips)
  (f6 : BufTy.Contents (Elt F) arg6.view.ty) (f7 : BufTy.Contents (Elt F) arg7.view.ty) (f8 : BufTy.Contents (Elt F) arg8.view.ty)

/-- One head's scores in a trip. -/
def tripScores : Fin 2 → FVec F S1024x1024 .f32 :=
  ![scores (View.readAt (Elt F) arg2.view (Rect.unit (s := S1024x512) ![0, 0] S1024x256.size inb_S1024x512_S1024x256_0_0).toLoadRect X2)
      (View.readAt (Elt F) arg3.view (Rect.unit (s := S2x16x256x1024) (k0_off1 i k) S1x1x256x1024.size (k0_off1_inb i k)).toLoadRect X3),
    scores (View.readAt (Elt F) arg2.view (Rect.unit (s := S1024x512) ![0, 256] S1024x256.size inb_S1024x512_S1024x256_0_256).toLoadRect X2)
      (View.readAt (Elt F) arg3.view (Rect.unit (s := S2x16x256x1024) (k0_off3 i k) S1x1x256x1024.size (k0_off3_inb i k)).toLoadRect X3)]

/-- What a trip stores into the maximum. -/
def mPieces : List (View.Piece (Elt F) S2x1024x128 .f32) :=
  List.ofFn fun n : Fin 64 =>
    let g : Fin 2 := ⟨(63 - n) / 32, by omega⟩
    let r : Fin 32 := ⟨(63 - n) % 32, by omega⟩
    ⟨chunk g r, mStore (rows (tripScores i arg2 arg3 X2 X3 k g) r) (View.readAt (Elt F) arg6.view (chunk g r).toLoadRect f6)⟩

/-- What a trip stores into the sum. -/
def lPieces : List (View.Piece (Elt F) S2x1024x128 .f32) :=
  List.ofFn fun n : Fin 64 =>
    let g : Fin 2 := ⟨(63 - n) / 32, by omega⟩
    let r : Fin 32 := ⟨(63 - n) % 32, by omega⟩
    ⟨chunk g r, lNew (rows (tripScores i arg2 arg3 X2 X3 k g) r) (View.readAt (Elt F) arg6.view (chunk g r).toLoadRect f6)
      (View.readAt (Elt F) arg7.view (chunk g r).toLoadRect f7)⟩

/-- One head's values in a trip. -/
def tripValues : Fin 2 → Vec F S1024x128 .bf16 :=
  ![View.readAt (Elt F) arg4.view (Rect.unit (s := S16384x256) (k0_off2 i k) S1024x128.size (k0_off2_inb i k)).toLoadRect X4,
    View.readAt (Elt F) arg4.view (Rect.unit (s := S16384x256) (k0_off4 i k) S1024x128.size (k0_off4_inb i k)).toLoadRect X4]

/-- What a trip stores into the output. -/
def accPieces : List (View.Piece (Elt F) S2x1024x128 .f32) :=
  List.ofFn fun n : Fin 2 =>
    let g : Fin 2 := ⟨1 - n, by omega⟩
    ⟨headRect g, accNew (tripScores i arg2 arg3 X2 X3 k g) (fun r => View.readAt (Elt F) arg6.view (chunk g r).toLoadRect f6)
      (tripValues i arg4 X4 k g) (View.readAt (Elt F) arg8.view (headRect g).toLoadRect f8)⟩

end trip

/-! ## The block of keys on the diagonal: the upper half of the rows against the first 512 keys, then the lower half
    against all of them, a key later than its row's stretch left out -/

/-- The stretches of positions. -/
def stretched [U : Stretch] {s : Shape} (x : IVec s 32) : IVec s 32 := cond U.coarse (shrsi x (broadcast s 6#32)) x

/-- A chunk of 32 rows of the upper half, the keys after its stretch left out. -/
def maskedUp [U : Stretch] (s : FVec F S512x512 .f32) (r : Fin 16) (h : S512x512.Slices ![32 * (r : ℕ), 0] S32x512) : FVec F S32x512 .f32 :=
  select (cmpi .sle (stretched (iota .tc S32x512 32 [1] iota_S32x512_d1_w32))
      (stretched (addi (iota .tc S32x512 32 [0] iota_S32x512_d0_w32) (broadcast S32x512 (BitVec.ofNat 32 (32 * (r : ℕ)))))))
    (extractStridedSlice S32x512 ![32 * (r : ℕ), 0] s h)
    (broadcast S32x512 (Named.named κ "mask" 0xF149F2CA#32 : F .f32))

theorem up_slices (r : Fin 16) : S512x512.Slices ![32 * (r : ℕ), 0] S32x512 := by revert r; decide

def rowsUp [U : Stretch] (s : FVec F S512x512 .f32) (r : Fin 16) : FVec F S32x512 .f32 := maskedUp s r (up_slices r)

theorem low_slices (r : Fin 16) : S512x1024.Slices ![32 * (r : ℕ), 0] S32x1024 := by revert r; decide

/-- A chunk of 32 rows of the lower half, the keys after its stretch left out. -/
def rowsLow [U : Stretch] (s : FVec F S512x1024 .f32) (r : Fin 16) : FVec F S32x1024 .f32 :=
  select (cmpi .sle (stretched (iota .tc S32x1024 32 [1] iota_S32x1024_d1_w32))
      (stretched (addi (iota .tc S32x1024 32 [0] iota_S32x1024_d0_w32) (broadcast S32x1024 (BitVec.ofNat 32 (512 + 32 * (r : ℕ)))))))
    (extractStridedSlice S32x1024 ![32 * (r : ℕ), 0] s (low_slices r))
    (broadcast S32x1024 (Named.named κ "mask" 0xF149F2CA#32 : F .f32))

/-- The new maximum of a chunk of the upper half, in every lane. -/
def mNewUp (s : FVec F S32x512 .f32) (m : Vec F S1x32x128 .f32) : FVec F S32x128 .f32 :=
  maximumf (shapeCast S32x128 m shapeCasts_S1x32x128_S32x128)
    (broadcastTo S32x128 (shapeCast S32x1
      (multiReduction .maximumf [1] S32 s 0xFF800000#32 reduces_S32x512_S32 (.inl rfl) rfl) shapeCasts_S32_S32x1)
      broadcasts_S32x1_S32x128)

def alphaUp (s : FVec F S32x512 .f32) (m : Vec F S1x32x128 .f32) : FVec F S32x128 .f32 :=
  exp2 (subf (shapeCast S32x128 m shapeCasts_S1x32x128_S32x128) (mNewUp s m))

theorem lane_slices_up (c : Fin 4) : S32x512.Slices ![0, 128 * (c : ℕ)] S32x128 := by revert c; decide

def partUp (s : FVec F S32x512 .f32) (m : Vec F S1x32x128 .f32) (c : Fin 4) : FVec F S32x128 .f32 :=
  exp2 (subf (extractStridedSlice S32x128 ![0, 128 * (c : ℕ)] s (lane_slices_up c)) (mNewUp s m))

def lNewUp (s : FVec F S32x512 .f32) (m l : Vec F S1x32x128 .f32) : FVec F S1x32x128 .f32 :=
  shapeCast S1x32x128 (addf (mulf (alphaUp s m) (shapeCast S32x128 l shapeCasts_S1x32x128_S32x128))
    (addf (addf (addf (partUp s m 0) (partUp s m 1)) (partUp s m 2)) (partUp s m 3))) shapeCasts_S32x128_S1x32x128

def mStoreUp (s : FVec F S32x512 .f32) (m : Vec F S1x32x128 .f32) : FVec F S1x32x128 .f32 :=
  shapeCast S1x32x128 (mNewUp s m) shapeCasts_S32x128_S1x32x128

def probsUp (s : FVec F S32x512 .f32) (m : Vec F S1x32x128 .f32) : FVec F S32x512 .bf16 :=
  truncf .bf16 (concatenate S32x512 1 (List.ofFn fun c : Fin 4 => (⟨S32x128, partUp s m c⟩ : (s : Shape) × (s.Idx → F .f32)))
    concatenates_S32x128_S32x128_S32x128_S32x128_S32x512_d1 : FVec F S32x512 .f32) bitsLt_bf16_f32

def scoresUp (q : Vec F S512x256 .bf16) (kt : Vec F S1x1x256x512 .bf16) : FVec F S512x512 .f32 :=
  matmul dot_S512x256_S256x512_S512x512_1_0_0_1_n_n none q
    (shapeCast S256x512 kt shapeCasts_S1x1x256x512_S256x512) (constant S512x512 .f32 0x00000000#32)

def scoresLow (q : Vec F S512x256 .bf16) (kt : Vec F S1x1x256x1024 .bf16) : FVec F S512x1024 .f32 :=
  matmul dot_S512x256_S256x1024_S512x1024_1_0_0_1_n_n none q
    (shapeCast S256x1024 kt shapeCasts_S1x1x256x1024_S256x1024) (constant S512x1024 .f32 0x00000000#32)

def accUp [U : Stretch] (s : FVec F S512x512 .f32) (m : Fin 16 → Vec F S1x32x128 .f32) (v : Vec F S512x128 .bf16)
    (acc : Vec F S1x512x128 .f32) : FVec F S1x512x128 .f32 :=
  shapeCast S1x512x128 (addf (mulf
      (concatenate S512x128 0 (List.ofFn fun r : Fin 16 => (⟨S32x128, alphaUp (rowsUp s r) (m r)⟩ : (s : Shape) × (s.Idx → F .f32))) (stacked _ (by decide)) : FVec F S512x128 .f32)
      (shapeCast S512x128 acc shapeCasts_S1x512x128_S512x128))
    (matmul dot_S512x512_S512x128_S512x128_1_0_0_1_n_n none
      (concatenate S512x512 0 (List.ofFn fun r : Fin 16 => (⟨S32x512, probsUp (rowsUp s r) (m r)⟩ : (s : Shape) × (s.Idx → F .bf16))) (stacked _ (by decide)) : FVec F S512x512 .bf16)
      v (constant S512x128 .f32 0x00000000#32)))
    shapeCasts_S512x128_S1x512x128

def accLow [U : Stretch] (s : FVec F S512x1024 .f32) (m : Fin 16 → Vec F S1x32x128 .f32) (v : Vec F S1024x128 .bf16)
    (acc : Vec F S1x512x128 .f32) : FVec F S1x512x128 .f32 :=
  shapeCast S1x512x128 (addf (mulf
      (concatenate S512x128 0 (List.ofFn fun r : Fin 16 => (⟨S32x128, alpha (rowsLow s r) (m r)⟩ : (s : Shape) × (s.Idx → F .f32))) (stacked _ (by decide)) : FVec F S512x128 .f32)
      (shapeCast S512x128 acc shapeCasts_S1x512x128_S512x128))
    (matmul dot_S512x1024_S1024x128_S512x128_1_0_0_1_n_n none
      (concatenate S512x1024 0 (List.ofFn fun r : Fin 16 => (⟨S32x1024, probs (rowsLow s r) (m r)⟩ : (s : Shape) × (s.Idx → F .bf16))) (stacked _ (by decide)) : FVec F S512x1024 .bf16)
      v (constant S512x128 .f32 0x00000000#32)))
    shapeCasts_S512x128_S1x512x128

theorem half_inb (n : Fin 4) :
    ∀ a, (![((n : ℕ) % 2), 512 * ((n : ℕ) / 2), 0] : Fin 3 → Nat) a + S1x512x128.size a ≤ S2x1024x128.size a := by
  revert n; decide

/-- Half of one head's rows, in the order in which the halves are worked. -/
abbrev halfRect (n : Fin 4) : Rect S2x1024x128 := Rect.unit ![((n : ℕ) % 2), 512 * ((n : ℕ) / 2), 0] S1x512x128.size (half_inb n)

/-- The head and the chunk of rows that step `n` works on. -/
abbrev stepHead (n : ℕ) : Fin 2 := ⟨n / 16 % 2, Nat.mod_lt _ (by omega)⟩
abbrev stepRow (n : ℕ) : Fin 16 := ⟨n % 16, Nat.mod_lt _ (by omega)⟩
theorem stepChunk_lt (n : ℕ) : 16 * (n / 32 % 2) + n % 16 < 32 := by omega
abbrev stepChunk (n : ℕ) : Fin 32 := ⟨16 * (n / 32 % 2) + n % 16, stepChunk_lt n⟩

section diagonal

variable (i : grid0.Coords) (arg2 : Memref sig .tc .vmem S1024x512 .bf16) (arg3 : Memref sig .tc .vmem S2x16x256x1024 .bf16)
  (arg4 : Memref sig .tc .vmem S16384x256 .bf16) (arg6 arg7 arg8 : Memref sig .tc .vmem S2x1024x128 .f32)
  (X2 : BufTy.Contents (Elt F) arg2.view.ty) (X3 : BufTy.Contents (Elt F) arg3.view.ty) (X4 : BufTy.Contents (Elt F) arg4.view.ty)
  (L6 L7 L8 : List (View.Piece (Elt F) S2x1024x128 .f32))

def upScores : Fin 2 → FVec F S512x512 .f32 :=
  ![scoresUp (View.readAt (Elt F) arg2.view (Rect.unit (s := S1024x512) ![0, 0] S512x256.size inb_S1024x512_S512x256_0_0).toLoadRect X2)
      (View.readAt (Elt F) arg3.view (Rect.unit (s := S2x16x256x1024) (k0_off9 i) S1x1x256x512.size (k0_off9_inb i)).toLoadRect X3),
    scoresUp (View.readAt (Elt F) arg2.view (Rect.unit (s := S1024x512) ![0, 256] S512x256.size inb_S1024x512_S512x256_0_256).toLoadRect X2)
      (View.readAt (Elt F) arg3.view (Rect.unit (s := S2x16x256x1024) (k0_off11 i) S1x1x256x512.size (k0_off11_inb i)).toLoadRect X3)]

def lowScores : Fin 2 → FVec F S512x1024 .f32 :=
  ![scoresLow (View.readAt (Elt F) arg2.view (Rect.unit (s := S1024x512) ![512, 0] S512x256.size inb_S1024x512_S512x256_512_0).toLoadRect X2)
      (View.readAt (Elt F) arg3.view (Rect.unit (s := S2x16x256x1024) (k0_off13 i) S1x1x256x1024.size (k0_off13_inb i)).toLoadRect X3),
    scoresLow (View.readAt (Elt F) arg2.view (Rect.unit (s := S1024x512) ![512, 256] S512x256.size inb_S1024x512_S512x256_512_256).toLoadRect X2)
      (View.readAt (Elt F) arg3.view (Rect.unit (s := S2x16x256x1024) (k0_off15 i) S1x1x256x1024.size (k0_off15_inb i)).toLoadRect X3)]

def upValues : Fin 2 → Vec F S512x128 .bf16 :=
  ![View.readAt (Elt F) arg4.view (Rect.unit (s := S16384x256) (k0_off10 i) S512x128.size (k0_off10_inb i)).toLoadRect X4,
    View.readAt (Elt F) arg4.view (Rect.unit (s := S16384x256) (k0_off12 i) S512x128.size (k0_off12_inb i)).toLoadRect X4]

def lowValues : Fin 2 → Vec F S1024x128 .bf16 :=
  ![View.readAt (Elt F) arg4.view (Rect.unit (s := S16384x256) (k0_off14 i) S1024x128.size (k0_off14_inb i)).toLoadRect X4,
    View.readAt (Elt F) arg4.view (Rect.unit (s := S16384x256) (k0_off16 i) S1024x128.size (k0_off16_inb i)).toLoadRect X4]

/-- The stores into the maximum before step `n`, the last first. -/
def mChain [U : Stretch] : ℕ → List (View.Piece (Elt F) S2x1024x128 .f32)
  | 0 => L6
  | n + 1 => ⟨chunk (stepHead n) (stepChunk n),
      if n < 32 then mStoreUp (rowsUp (upScores i arg2 arg3 X2 X3 (stepHead n)) (stepRow n))
          (arg6.view.readCov (mChain n) (chunk (stepHead n) (stepChunk n)).toLoadRect)
        else mStore (rowsLow (lowScores i arg2 arg3 X2 X3 (stepHead n)) (stepRow n))
          (arg6.view.readCov (mChain n) (chunk (stepHead n) (stepChunk n)).toLoadRect)⟩ :: mChain n

/-- The maximum that step `n` finds. -/
def mAt [U : Stretch] (n : ℕ) : Vec F S1x32x128 .f32 :=
  arg6.view.readCov (mChain i arg2 arg3 arg6 X2 X3 L6 n) (chunk (stepHead n) (stepChunk n)).toLoadRect

/-- The stores into the sum before step `n`, the last first. -/
def lChain [U : Stretch] : ℕ → List (View.Piece (Elt F) S2x1024x128 .f32)
  | 0 => L7
  | n + 1 => ⟨chunk (stepHead n) (stepChunk n),
      if n < 32 then lNewUp (rowsUp (upScores i arg2 arg3 X2 X3 (stepHead n)) (stepRow n)) (mAt i arg2 arg3 arg6 X2 X3 L6 n)
          (arg7.view.readCov (lChain n) (chunk (stepHead n) (stepChunk n)).toLoadRect)
        else lNew (rowsLow (lowScores i arg2 arg3 X2 X3 (stepHead n)) (stepRow n)) (mAt i arg2 arg3 arg6 X2 X3 L6 n)
          (arg7.view.readCov (lChain n) (chunk (stepHead n) (stepChunk n)).toLoadRect)⟩ :: lChain n

/-- The stores into the output, the last first. -/
def accChain [U : Stretch] : List (View.Piece (Elt F) S2x1024x128 .f32) :=
  let p (n : Fin 4) (L : List (View.Piece (Elt F) S2x1024x128 .f32)) : View.Piece (Elt F) S2x1024x128 .f32 :=
    ⟨halfRect n, if (n : ℕ) < 2 then accUp (upScores i arg2 arg3 X2 X3 (stepHead (16 * n))) (fun r => mAt i arg2 arg3 arg6 X2 X3 L6 (16 * n + r))
          (upValues i arg4 X4 (stepHead (16 * n))) (arg8.view.readCov L (halfRect n).toLoadRect)
        else accLow (lowScores i arg2 arg3 X2 X3 (stepHead (16 * n))) (fun r => mAt i arg2 arg3 arg6 X2 X3 L6 (16 * n + r))
          (lowValues i arg4 X4 (stepHead (16 * n))) (arg8.view.readCov L (halfRect n).toLoadRect)⟩
  let L1 := p 0 L8 :: L8
  let L2 := p 1 L1 :: L1
  let L3 := p 2 L2 :: L2
  p 3 L3 :: L3

end diagonal

/-- One head's quotient, as it is stored. -/
def quotient (l acc : Vec F S1x1024x128 .f32) : FVec F S1024x128 .bf16 :=
  truncf .bf16 (divf (shapeCast S1024x128 acc shapeCasts_S1x1024x128_S1024x128)
    (broadcastTo S1024x128 (shapeCast S1024x1 (multiReduction .add [1] S1024 (shapeCast S1024x128 l shapeCasts_S1x1024x128_S1024x128)
      0x00000000#32 reduces_S1024x128_S1024 (.inl rfl) rfl) shapeCasts_S1024_S1024x1) broadcasts_S1024x1_S1024x128)) bitsLt_bf16_f32

section run

/-- The fills of the three scratches. -/
def fill6 : List (View.Piece (Elt F) S2x1024x128 .f32) :=
  [⟨Rect.unit ![0, 0, 0] S2x1024x128.size inb_S2x1024x128_S2x1024x128_0_0_0, k0_pay2009⟩]
def fill7 : List (View.Piece (Elt F) S2x1024x128 .f32) :=
  [⟨Rect.unit ![0, 0, 0] S2x1024x128.size inb_S2x1024x128_S2x1024x128_0_0_0, k0_pay2010⟩]
def fill8 : List (View.Piece (Elt F) S2x1024x128 .f32) :=
  [⟨Rect.unit ![0, 0, 0] S2x1024x128.size inb_S2x1024x128_S2x1024x128_0_0_0, k0_pay2011⟩]

variable (i : grid0.Coords) (arg2 : Memref sig .tc .vmem S1024x512 .bf16) (arg3 : Memref sig .tc .vmem S2x16x256x1024 .bf16)
  (arg4 : Memref sig .tc .vmem S16384x256 .bf16) (arg6 arg7 arg8 : Memref sig .tc .vmem S2x1024x128 .f32)
  (X2 : BufTy.Contents (Elt F) arg2.view.ty) (X3 : BufTy.Contents (Elt F) arg3.view.ty) (X4 : BufTy.Contents (Elt F) arg4.view.ty)

/-- The stores into the three scratches up to trip `n`, the last first. -/
def carried : ℕ → List (View.Piece (Elt F) S2x1024x128 .f32) × List (View.Piece (Elt F) S2x1024x128 .f32) × List (View.Piece (Elt F) S2x1024x128 .f32)
  | 0 => (fill6, fill7, fill8)
  | n + 1 =>
    if h : n < (k0_t1_loop i).trips then
      (mPieces i arg2 arg3 arg6 X2 X3 ⟨n, h⟩ (arg6.view.writes (Elt F) arg6.view.junk (carried n).1) ++ (carried n).1,
        lPieces i arg2 arg3 arg6 arg7 X2 X3 ⟨n, h⟩ (arg6.view.writes (Elt F) arg6.view.junk (carried n).1)
          (arg7.view.writes (Elt F) arg7.view.junk (carried n).2.1) ++ (carried n).2.1,
        accPieces i arg2 arg3 arg4 arg6 arg8 X2 X3 X4 ⟨n, h⟩ (arg6.view.writes (Elt F) arg6.view.junk (carried n).1)
          (arg8.view.writes (Elt F) arg8.view.junk (carried n).2.2) ++ (carried n).2.2)
    else carried n

/-- Trips that store so, one after the other, leave the stores of `carried`. -/
theorem carried_of (T : ℕ → List (View.Piece (Elt F) S2x1024x128 .f32) × List (View.Piece (Elt F) S2x1024x128 .f32) × List (View.Piece (Elt F) S2x1024x128 .f32))
    (h0 : T 0 = ([], [], []))
    (hs : ∀ k : Fin (k0_t1_loop i).trips, T (k + 1)
      = (mPieces i arg2 arg3 arg6 X2 X3 k (arg6.view.writes (Elt F) (arg6.view.writes (Elt F) arg6.view.junk fill6) (T k).1) ++ (T k).1,
        lPieces i arg2 arg3 arg6 arg7 X2 X3 k (arg6.view.writes (Elt F) (arg6.view.writes (Elt F) arg6.view.junk fill6) (T k).1)
          (arg7.view.writes (Elt F) (arg7.view.writes (Elt F) arg7.view.junk fill7) (T k).2.1) ++ (T k).2.1,
        accPieces i arg2 arg3 arg4 arg6 arg8 X2 X3 X4 k (arg6.view.writes (Elt F) (arg6.view.writes (Elt F) arg6.view.junk fill6) (T k).1)
          (arg8.view.writes (Elt F) (arg8.view.writes (Elt F) arg8.view.junk fill8) (T k).2.2) ++ (T k).2.2))
    (n : ℕ) (hn : n ≤ (k0_t1_loop i).trips) :
    carried i arg2 arg3 arg4 arg6 arg7 arg8 X2 X3 X4 n = ((T n).1 ++ fill6, (T n).2.1 ++ fill7, (T n).2.2 ++ fill8) := by
  induction n with
  | zero => rw [h0]; rfl
  | succ n ih =>
    have e := hs ⟨n, hn⟩
    rw [e]
    simp only [← View.writes_append, List.append_assoc]
    unfold carried
    rw [dif_pos (show n < (k0_t1_loop i).trips from hn), ih (by omega)]

/-- What a grid point stores, after the stores `L6`, `L7` and `L8` into the scratches. -/
def outPieces [U : Stretch] (L6 L7 L8 : List (View.Piece (Elt F) S2x1024x128 .f32)) : List (View.Piece (Elt F) S1024x256 .bf16) :=
  let l := lChain i arg2 arg3 arg6 arg7 X2 X3 L6 L7 64
  let acc := accChain i arg2 arg3 arg4 arg6 arg8 X2 X3 X4 L6 L8
  [⟨Rect.unit ![0, 128] S1024x128.size inb_S1024x256_S1024x128_0_128,
      quotient (arg7.view.readCov l (headRect 1).toLoadRect) (arg8.view.readCov acc (headRect 1).toLoadRect)⟩,
    ⟨Rect.unit ![0, 0] S1024x128.size inb_S1024x256_S1024x128_0_0,
      quotient (arg7.view.readCov l (headRect 0).toLoadRect) (arg8.view.readCov acc (headRect 0).toLoadRect)⟩]

end run

end Cert.FlashDIdeal.Flash

end
-- ==== Proof.FlashDAt.lean ====
/- The attention: each chunk's arithmetic read at one entry, on real numbers and the infinities. -/
module

public import proofs.«01_k».proof.Proof.FlashDParts
public import Idealize.ShloMosaic.Lib.WordCmp

@[expose] public section

set_option maxRecDepth 65536

noncomputable section

namespace Cert.FlashDIdeal.Flash

open Cert.FlashDIdeal Cert.FlashDIdeal.Gen Idealize.ShloMosaic Idealize.ShloMosaic.TcCoe Idealize.SL.Sem
open Cert.Running

theorem neg_inf : Ideal.ofBits .f32 4286578688#32 = ⊥ := by
  simp [Ideal.ofBits, Ideal.ieee]

theorem fold_max {n : ℕ} (f : Fin n → EReal) : Finset.fold max (⊥ : EReal) f Finset.univ = Finset.univ.sup f := rfl

/-! ## Wide chunks -/

theorem mNew_at (s : FVec Ideal S32x1024 .f32) (m : Vec Ideal S1x32x128 .f32) (r : Fin 32) (l : Fin 128) :
    mNew s m (ix2 r l) = max (m (ix3 0 r l)) (Finset.univ.sup fun k : Fin 1024 => s (ix2 r k)) := by
  pointwise [mNew]
  rw [neg_inf, fold_max]

theorem mStore_at (s : FVec Ideal S32x1024 .f32) (m : Vec Ideal S1x32x128 .f32) (r : Fin 32) (l : Fin 128) :
    mStore s m (ix3 0 r l) = mNew s m (ix2 r l) := by
  unfold mStore
  pointwise

theorem alpha_at (s : FVec Ideal S32x1024 .f32) (m : Vec Ideal S1x32x128 .f32) (r : Fin 32) (l : Fin 128) :
    alpha s m (ix2 r l) = Ideal.exp2 (m (ix3 0 r l) - mNew s m (ix2 r l)) := by
  unfold alpha
  pointwise
  rfl

theorem part_at (s : FVec Ideal S32x1024 .f32) (m : Vec Ideal S1x32x128 .f32) (c : Fin 8) (r : Fin 32) (l : Fin 128) :
    part s m c (ix2 r l) = Ideal.exp2 (s (ix2 r ⟨128 * c + l, by omega⟩) - mNew s m (ix2 r l)) := by
  unfold part
  pointwise
  rfl

theorem lNew_at (s : FVec Ideal S32x1024 .f32) (m l : Vec Ideal S1x32x128 .f32) (r : Fin 32) (d : Fin 128) :
    lNew s m l (ix3 0 r d) = alpha s m (ix2 r d) * l (ix3 0 r d) + ∑ c : Fin 8, part s m c (ix2 r d) := by
  unfold lNew
  pointwise
  rw [Fin.sum_univ_eight]

theorem probs_at (s : FVec Ideal S32x1024 .f32) (m : Vec Ideal S1x32x128 .f32) (r : Fin 32) (k : Fin 1024) :
    probs s m (ix2 r k) = part s m ⟨k / 128, by omega⟩ (ix2 r ⟨k % 128, by omega⟩) := by
  refine concatenate_ofFn_apply (t := S32x1024) 1 (part s m) concatenates_S32x128_S32x128_S32x128_S32x128_S32x128_S32x128_S32x128_S32x128_S32x1024_d1 rfl 128 rfl (ix2 r k) ⟨k / 128, by omega⟩ rfl _ rfl ?_
  intro b hb
  fin_cases b
  · rfl
  · exact absurd rfl hb

theorem weights_at (s : FVec Ideal S1024x1024 .f32) (m : Fin 32 → Vec Ideal S1x32x128 .f32) (r k : Fin 1024) :
    weights s m (ix2 r k) = probs (rows s ⟨r / 32, by omega⟩) (m ⟨r / 32, by omega⟩) (ix2 ⟨r % 32, by omega⟩ k) := by
  refine concatenate_ofFn_apply (t := S1024x1024) 0 (fun r : Fin 32 => probs (rows s r) (m r)) _ rfl 32 rfl (ix2 r k) ⟨r / 32, by omega⟩ rfl _ rfl ?_
  intro b hb
  fin_cases b
  · exact absurd rfl hb
  · rfl

theorem alphas_at (s : FVec Ideal S1024x1024 .f32) (m : Fin 32 → Vec Ideal S1x32x128 .f32) (r : Fin 1024) (d : Fin 128) :
    alphas s m (ix2 r d) = alpha (rows s ⟨r / 32, by omega⟩) (m ⟨r / 32, by omega⟩) (ix2 ⟨r % 32, by omega⟩ d) := by
  refine concatenate_ofFn_apply (t := S1024x128) 0 (fun r : Fin 32 => alpha (rows s r) (m r)) _ rfl 32 rfl (ix2 r d) ⟨r / 32, by omega⟩ rfl _ rfl ?_
  intro b hb
  fin_cases b
  · exact absurd rfl hb
  · rfl

theorem rows_at (s : FVec Ideal S1024x1024 .f32) (a : Fin 32) (r : Fin 32) (k : Fin 1024) :
    rows s a (ix2 r k) = s (ix2 ⟨32 * a + r, by omega⟩ k) := by
  unfold rows
  pointwise

theorem accNew_at (s : FVec Ideal S1024x1024 .f32) (m : Fin 32 → Vec Ideal S1x32x128 .f32) (v : Vec Ideal S1024x128 .bf16)
    (acc : Vec Ideal S1x1024x128 .f32) (r : Fin 1024) (d : Fin 128) :
    accNew s m v acc (ix3 0 r d) = alphas s m (ix2 r d) * acc (ix3 0 r d) + ∑ k : Fin 1024, weights s m (ix2 r k) * v (ix2 k d) := by
  unfold accNew
  pointwise

theorem scores_at (q : Vec Ideal S1024x256 .bf16) (kt : Vec Ideal S1x1x256x1024 .bf16) (r k : Fin 1024) :
    scores q kt (ix2 r k) = ∑ e : Fin 256, q (ix2 r e) * kt (ix4 0 0 e k) := by
  unfold scores
  pointwise

/-! ## The diagonal -/

theorem mask_value : (Named.named κ "mask" 0xF149F2CA#32 : Ideal .f32) = ⊥ :=
  IdealRules.named_const.ideal_named_scalar _ _ _ _ rfl

section masks

variable [U : Stretch]

theorem stretched_at {s : Shape} (x : IVec s 32) (y : s.Idx) (n : ℕ) (hn : n < 2048) (h : x y = BitVec.ofNat 32 n) :
    stretched x y = BitVec.ofNat 32 (n / unit) := by
  obtain ⟨_ | _⟩ := U
  · exact h.trans (congrArg (BitVec.ofNat 32) (Nat.div_one n).symm)
  · show IntOp.shrsi .vector (x y) 6#32 = BitVec.ofNat 32 (n / 64)
    rw [h]
    unfold IntOp.shrsi
    rw [if_pos (by decide)]
    apply BitVec.eq_of_toNat_eq
    rw [BitVec.sshiftRight_eq', BitVec.toNat_sshiftRight_of_msb_false]
    · simp [Nat.shiftRight_eq_div_pow]; omega
    · rw [BitVec.msb_eq_false_iff_two_mul_lt]; simp; omega

/-- A mask read at one entry. -/
theorem masked_at {s : Shape} (x y : IVec s 32) (p : s.Idx) (a b : ℕ) (ha : a < 2048) (hb : b < 2048) (hx : x p = BitVec.ofNat 32 a)
    (hy : y p = BitVec.ofNat 32 b) (w : FVec Ideal s .f32) :
    select (cmpi .sle (stretched x) (stretched y)) w (broadcast s (Named.named κ "mask" 0xF149F2CA#32 : Ideal .f32)) p
      = if a / unit ≤ b / unit then w p else ⊥ := by
  show Scalar.select (IntOp.cmpi .sle (stretched x p) (stretched y p)) (w p) (Named.named κ "mask" 0xF149F2CA#32 : Ideal .f32) = _
  rw [stretched_at x p a ha hx, stretched_at y p b hb hy, mask_value,
    WordCmp.cmpi_sle_ofNat (lt_of_le_of_lt (Nat.div_le_self _ _) (by omega)) (lt_of_le_of_lt (Nat.div_le_self _ _) (by omega))]
  by_cases h : a / unit ≤ b / unit
  · rw [if_pos h, decide_eq_true h]; rfl
  · rw [if_neg h, decide_eq_false h]; rfl

theorem rowsUp_at (s : FVec Ideal S512x512 .f32) (a : Fin 16) (r : Fin 32) (k : Fin 512) :
    rowsUp s a (ix2 r k) = if (k : ℕ) / unit ≤ (32 * a + r) / unit then s (ix2 ⟨32 * a + r, by omega⟩ k) else ⊥ := by
  unfold rowsUp maskedUp
  refine (masked_at _ _ (ix2 r k) k (32 * a + r) (by omega) (by omega) (by pointwise) ?_ _).trans (if_congr Iff.rfl ?_ rfl)
  · pointwise
    rw [IntOp.addi, ← BitVec.ofNat_add, Nat.add_comm (r : ℕ)]
  · pointwise

theorem rowsLow_at (s : FVec Ideal S512x1024 .f32) (a : Fin 16) (r : Fin 32) (k : Fin 1024) :
    rowsLow s a (ix2 r k) = if (k : ℕ) / unit ≤ (512 + 32 * a + r) / unit then s (ix2 ⟨32 * a + r, by omega⟩ k) else ⊥ := by
  unfold rowsLow
  refine (masked_at _ _ (ix2 r k) k (512 + 32 * a + r) (by omega) (by omega) (by pointwise) ?_ _).trans (if_congr Iff.rfl ?_ rfl)
  · pointwise
    rw [IntOp.addi, ← BitVec.ofNat_add, Nat.add_comm (r : ℕ)]
  · pointwise

end masks

theorem mNewUp_at (s : FVec Ideal S32x512 .f32) (m : Vec Ideal S1x32x128 .f32) (r : Fin 32) (l : Fin 128) :
    mNewUp s m (ix2 r l) = max (m (ix3 0 r l)) (Finset.univ.sup fun k : Fin 512 => s (ix2 r k)) := by
  pointwise [mNewUp]
  rw [neg_inf, fold_max]

theorem mStoreUp_at (s : FVec Ideal S32x512 .f32) (m : Vec Ideal S1x32x128 .f32) (r : Fin 32) (l : Fin 128) :
    mStoreUp s m (ix3 0 r l) = mNewUp s m (ix2 r l) := by
  unfold mStoreUp
  pointwise

theorem alphaUp_at (s : FVec Ideal S32x512 .f32) (m : Vec Ideal S1x32x128 .f32) (r : Fin 32) (l : Fin 128) :
    alphaUp s m (ix2 r l) = Ideal.exp2 (m (ix3 0 r l) - mNewUp s m (ix2 r l)) := by
  unfold alphaUp
  pointwise
  rfl

theorem partUp_at (s : FVec Ideal S32x512 .f32) (m : Vec Ideal S1x32x128 .f32) (c : Fin 4) (r : Fin 32) (l : Fin 128) :
    partUp s m c (ix2 r l) = Ideal.exp2 (s (ix2 r ⟨128 * c + l, by omega⟩) - mNewUp s m (ix2 r l)) := by
  unfold partUp
  pointwise
  rfl

theorem lNewUp_at (s : FVec Ideal S32x512 .f32) (m l : Vec Ideal S1x32x128 .f32) (r : Fin 32) (d : Fin 128) :
    lNewUp s m l (ix3 0 r d) = alphaUp s m (ix2 r d) * l (ix3 0 r d) + ∑ c : Fin 4, partUp s m c (ix2 r d) := by
  unfold lNewUp
  pointwise
  rw [Fin.sum_univ_four]

theorem probsUp_at (s : FVec Ideal S32x512 .f32) (m : Vec Ideal S1x32x128 .f32) (r : Fin 32) (k : Fin 512) :
    probsUp s m (ix2 r k) = partUp s m ⟨k / 128, by omega⟩ (ix2 r ⟨k % 128, by omega⟩) := by
  refine concatenate_ofFn_apply (t := S32x512) 1 (partUp s m) concatenates_S32x128_S32x128_S32x128_S32x128_S32x512_d1 rfl 128 rfl (ix2 r k) ⟨k / 128, by omega⟩ rfl _ rfl ?_
  intro b hb
  fin_cases b
  · rfl
  · exact absurd rfl hb

theorem scoresUp_at (q : Vec Ideal S512x256 .bf16) (kt : Vec Ideal S1x1x256x512 .bf16) (r k : Fin 512) :
    scoresUp q kt (ix2 r k) = ∑ e : Fin 256, q (ix2 r e) * kt (ix4 0 0 e k) := by
  unfold scoresUp
  pointwise

theorem scoresLow_at (q : Vec Ideal S512x256 .bf16) (kt : Vec Ideal S1x1x256x1024 .bf16) (r : Fin 512) (k : Fin 1024) :
    scoresLow q kt (ix2 r k) = ∑ e : Fin 256, q (ix2 r e) * kt (ix4 0 0 e k) := by
  unfold scoresLow
  pointwise

theorem accUp_at [U : Stretch] (s : FVec Ideal S512x512 .f32) (m : Fin 16 → Vec Ideal S1x32x128 .f32) (v : Vec Ideal S512x128 .bf16)
    (acc : Vec Ideal S1x512x128 .f32) (r : Fin 512) (d : Fin 128) :
    accUp s m v acc (ix3 0 r d) = alphaUp (rowsUp s ⟨r / 32, by omega⟩) (m ⟨r / 32, by omega⟩) (ix2 ⟨r % 32, by omega⟩ d) * acc (ix3 0 r d)
      + ∑ k : Fin 512, probsUp (rowsUp s ⟨r / 32, by omega⟩) (m ⟨r / 32, by omega⟩) (ix2 ⟨r % 32, by omega⟩ k) * v (ix2 k d) := by
  have e1 := concatenate_ofFn_apply (t := S512x128) 0 (fun r : Fin 16 => alphaUp (rowsUp s r) (m r)) (stacked _ (by decide)) rfl 32 rfl (ix2 r d) ⟨r / 32, by omega⟩ rfl
    (ix2 ⟨r % 32, by omega⟩ d) rfl (by
      intro b hb
      fin_cases b
      · exact absurd rfl hb
      · rfl)
  have e2 (k : Fin 512) := concatenate_ofFn_apply (t := S512x512) 0 (fun r : Fin 16 => probsUp (rowsUp s r) (m r)) (stacked _ (by decide)) rfl 32 rfl (ix2 r k) ⟨r / 32, by omega⟩ rfl
    (ix2 ⟨r % 32, by omega⟩ k) rfl (by
      intro b hb
      fin_cases b
      · exact absurd rfl hb
      · rfl)
  rw [← e1]
  simp only [← e2]
  unfold accUp
  generalize concatenate S512x128 0 _ _ = A
  generalize concatenate S512x512 0 _ _ = B
  pointwise

theorem accLow_at [U : Stretch] (s : FVec Ideal S512x1024 .f32) (m : Fin 16 → Vec Ideal S1x32x128 .f32) (v : Vec Ideal S1024x128 .bf16)
    (acc : Vec Ideal S1x512x128 .f32) (r : Fin 512) (d : Fin 128) :
    accLow s m v acc (ix3 0 r d) = alpha (rowsLow s ⟨r / 32, by omega⟩) (m ⟨r / 32, by omega⟩) (ix2 ⟨r % 32, by omega⟩ d) * acc (ix3 0 r d)
      + ∑ k : Fin 1024, probs (rowsLow s ⟨r / 32, by omega⟩) (m ⟨r / 32, by omega⟩) (ix2 ⟨r % 32, by omega⟩ k) * v (ix2 k d) := by
  have e1 := concatenate_ofFn_apply (t := S512x128) 0 (fun r : Fin 16 => alpha (rowsLow s r) (m r)) (stacked _ (by decide)) rfl 32 rfl (ix2 r d) ⟨r / 32, by omega⟩ rfl
    (ix2 ⟨r % 32, by omega⟩ d) rfl (by
      intro b hb
      fin_cases b
      · exact absurd rfl hb
      · rfl)
  have e2 (k : Fin 1024) := concatenate_ofFn_apply (t := S512x1024) 0 (fun r : Fin 16 => probs (rowsLow s r) (m r)) (stacked _ (by decide)) rfl 32 rfl (ix2 r k) ⟨r / 32, by omega⟩ rfl
    (ix2 ⟨r % 32, by omega⟩ k) rfl (by
      intro b hb
      fin_cases b
      · exact absurd rfl hb
      · rfl)
  rw [← e1]
  simp only [← e2]
  unfold accLow
  generalize concatenate S512x128 0 _ _ = A
  generalize concatenate S512x1024 0 _ _ = B
  pointwise

theorem quotient_at (l acc : Vec Ideal S1x1024x128 .f32) (r : Fin 1024) (d : Fin 128) :
    quotient l acc (ix2 r d) = Ideal.div (acc (ix3 0 r d)) (∑ k : Fin 128, l (ix3 0 r k)) := by
  unfold quotient
  pointwise

end Cert.FlashDIdeal.Flash

end
-- ==== Proof.FlashDRun.lean ====
/- The attention: the contents of the three scratches after the stores of a trip and of the block on
   the diagonal, entry by entry. -/
module

public import proofs.«01_k».proof.Proof.FlashDAt

@[expose] public section

set_option maxRecDepth 65536

noncomputable section

namespace Cert.FlashDIdeal.Flash

open Cert.FlashDIdeal Cert.FlashDIdeal.Gen Idealize.ShloMosaic Idealize.ShloMosaic.TcCoe Idealize.SL.Sem

variable {sig : RefSig}

/-! ## Stores one after the other -/

/-- Of stores made after others, those that hold an entry decide it. -/
theorem canon_append {s : Shape} {e : EltTy} (L R : List (View.Piece (Elt Ideal) s e)) {y : s.Idx} (h : ∃ p ∈ L, y ∈ p.1.set) :
    View.canon (L ++ R) y = View.canon L y := by
  induction L with
  | nil => obtain ⟨p, hp, _⟩ := h; exact absurd hp List.not_mem_nil
  | cons p L ih =>
    rw [List.cons_append]
    by_cases hy : y ∈ p.1.set
    · obtain ⟨x, rfl⟩ := p.1.exists_idx_of_mem hy
      exact (View.canon_cons_emb p.1 p.2 (L ++ R) x).trans (View.canon_cons_emb p.1 p.2 L x).symm
    · rw [View.canon_cons_of_not_mem p _ hy, View.canon_cons_of_not_mem p _ hy]
      refine ih ?_
      obtain ⟨q, hq, hm⟩ := h
      rcases List.mem_cons.mp hq with rfl | hq
      · exact absurd hm hy
      · exact ⟨q, hq, hm⟩

theorem canon_hit {s : Shape} {e : EltTy} (off size : Fin s.rank → ℕ) (inb : ∀ a, off a + size a ≤ s.size a)
    (w : (Rect.unit off size inb).shape.Idx → Elt Ideal e) (L : List (View.Piece (Elt Ideal) s e)) (y : s.Idx)
    (x : (Rect.unit off size inb).shape.Idx) (h : ∀ a, (y a : ℕ) = off a + x a) :
    View.canon (⟨Rect.unit off size inb, w⟩ :: L) y = w x := by
  have e : (Rect.unit off size inb).emb x = y := funext fun a => Fin.ext ((Rect.idx_unit_val off size inb x a).trans (h a).symm)
  rw [← e]
  exact View.canon_cons_emb _ w L x

theorem canon_miss {s : Shape} {e : EltTy} (off size : Fin s.rank → ℕ) (inb : ∀ a, off a + size a ≤ s.size a)
    (w : (Rect.unit off size inb).shape.Idx → Elt Ideal e) (L : List (View.Piece (Elt Ideal) s e)) (y : s.Idx)
    (a : Fin s.rank) (h : (y a : ℕ) < off a ∨ off a + size a ≤ y a) :
    View.canon (⟨Rect.unit off size inb, w⟩ :: L) y = View.canon L y := by
  refine View.canon_cons_of_not_mem _ L fun hy => ?_
  obtain ⟨x, rfl⟩ := (Rect.unit off size inb).exists_idx_of_mem hy
  have e := Rect.idx_unit_val off size inb x a
  have hx : (x a : ℕ) < size a := (x a).isLt
  change ((((Rect.unit off size inb).idx x) a : ℕ) < off a ∨ off a + size a ≤ ((Rect.unit off size inb).idx x) a) at h
  omega

/-- One store of a chunk. -/
theorem chunk_at (g : Fin 2) (r : Fin 32) (w : S1x32x128.Idx → EReal) (L : List (View.Piece (Elt Ideal) S2x1024x128 .f32))
    (g' : Fin 2) (row : Fin 1024) (d : Fin 128) :
    View.canon (⟨chunk g r, w⟩ :: L) (ix3 g' row d)
      = if g' = g ∧ (row : ℕ) / 32 = r then w (ix3 0 ⟨row % 32, by omega⟩ d) else View.canon L (ix3 g' row d) := by
  split_ifs with h
  · obtain ⟨rfl, hr⟩ := h
    refine canon_hit _ _ _ w L _ (ix3 (n0 := 1) (n1 := 32) (n2 := 128) 0 ⟨row % 32, by omega⟩ d) fun a => ?_
    fin_cases a
    · show (g' : ℕ) = g' + 0; omega
    · show (row : ℕ) = 32 * r + row % 32; omega
    · show (d : ℕ) = 0 + d; omega
  · by_cases hg : g' = g
    · refine canon_miss _ _ _ w L _ 1 ?_
      show (row : ℕ) < 32 * r ∨ 32 * r + 32 ≤ (row : ℕ)
      have : ¬ (row : ℕ) / 32 = r := fun e => h ⟨hg, e⟩
      omega
    · refine canon_miss _ _ _ w L _ 0 ?_
      show (g' : ℕ) < g ∨ (g : ℕ) + 1 ≤ g'
      have : (g' : ℕ) ≠ g := fun e => hg (Fin.ext e)
      omega

/-- The 64 stores of a trip. -/
theorem chunks_at (W : Fin 2 → Fin 32 → S1x32x128.Idx → EReal) (R : List (View.Piece (Elt Ideal) S2x1024x128 .f32))
    (g : Fin 2) (row : Fin 1024) (d : Fin 128) :
    View.canon ((List.ofFn fun n : Fin 64 => (⟨chunk ⟨(63 - n) / 32, by omega⟩ ⟨(63 - n) % 32, by omega⟩,
        W ⟨(63 - n) / 32, by omega⟩ ⟨(63 - n) % 32, by omega⟩⟩ : View.Piece (Elt Ideal) S2x1024x128 .f32)) ++ R) (ix3 g row d)
      = W g ⟨row / 32, by omega⟩ (ix3 0 ⟨row % 32, by omega⟩ d) := by
  have hn : 63 - (32 * (g : ℕ) + row / 32) < 64 := by omega
  have hin : ∀ a, (![((63 - (63 - (32 * (g : ℕ) + row / 32))) / 32), 32 * ((63 - (63 - (32 * (g : ℕ) + row / 32))) % 32), 0] : Fin 3 → ℕ) a ≤ (ix3 g row d : S2x1024x128.Idx) a
      ∧ ((ix3 g row d : S2x1024x128.Idx) a : ℕ) < (![((63 - (63 - (32 * (g : ℕ) + row / 32))) / 32), 32 * ((63 - (63 - (32 * (g : ℕ) + row / 32))) % 32), 0] : Fin 3 → ℕ) a + S1x32x128.size a := by
    intro a
    fin_cases a
    · show _ ≤ (g : ℕ) ∧ (g : ℕ) < _ + 1; simp; omega
    · show _ ≤ (row : ℕ) ∧ (row : ℕ) < _ + 32; simp; omega
    · show _ ≤ (d : ℕ) ∧ (d : ℕ) < _ + 128; simp
  rw [canon_append]
  · refine View.canon_ofFn_unit_eq_of_forall (S := S2x1024x128) (fun n : Fin 64 => ![((63 - (n : ℕ)) / 32), 32 * ((63 - (n : ℕ)) % 32), 0]) S1x32x128.size
      (fun n => chunk_inb ⟨(63 - n) / 32, by omega⟩ ⟨(63 - n) % 32, by omega⟩) _ _ _ ⟨⟨_, hn⟩, hin⟩ ?_
    intro n x hx
    have h0 : (g : ℕ) = (63 - n) / 32 + (x 0 : ℕ) := hx 0
    have h1 : (row : ℕ) = 32 * ((63 - n) % 32) + (x 1 : ℕ) := hx 1
    have h2 : (d : ℕ) = 0 + (x 2 : ℕ) := hx 2
    have x0 : (x 0 : ℕ) < 1 := (x 0).isLt
    have x1 : (x 1 : ℕ) < 32 := (x 1).isLt
    have eg : (⟨(63 - n) / 32, by omega⟩ : Fin 2) = g := Fin.ext (by show (63 - (n : ℕ)) / 32 = g; omega)
    have er : (⟨(63 - n) % 32, by omega⟩ : Fin 32) = ⟨row / 32, by omega⟩ := Fin.ext (by show (63 - (n : ℕ)) % 32 = row / 32; omega)
    have ex : x = ix3 (n0 := 1) (n1 := 32) (n2 := 128) 0 ⟨row % 32, by omega⟩ d := by
      funext a
      fin_cases a
      · exact Fin.ext (by show (x 0 : ℕ) = 0; omega)
      · exact Fin.ext (by show (x 1 : ℕ) = row % 32; omega)
      · exact Fin.ext (by show (x 2 : ℕ) = d; omega)
    rw [ex, eg, er]
  · refine ⟨_, List.mem_ofFn.mpr ⟨⟨_, hn⟩, rfl⟩, ?_⟩
    exact (Rect.mem_set_unit (inb := chunk_inb ⟨(63 - (63 - (32 * (g : ℕ) + row / 32))) / 32, by omega⟩ ⟨(63 - (63 - (32 * (g : ℕ) + row / 32))) % 32, by omega⟩)).mpr hin

/-- The two stores of a trip into the output. -/
theorem heads_at (W : Fin 2 → S1x1024x128.Idx → EReal) (R : List (View.Piece (Elt Ideal) S2x1024x128 .f32))
    (g : Fin 2) (row : Fin 1024) (d : Fin 128) :
    View.canon ((List.ofFn fun n : Fin 2 => (⟨headRect ⟨1 - n, by omega⟩, W ⟨1 - n, by omega⟩⟩ : View.Piece (Elt Ideal) S2x1024x128 .f32)) ++ R) (ix3 g row d)
      = W g (ix3 0 row d) := by
  have hit (g : Fin 2) (L : List (View.Piece (Elt Ideal) S2x1024x128 .f32)) (w : S1x1024x128.Idx → EReal) :
      View.canon (⟨headRect g, w⟩ :: L) (ix3 g row d) = w (ix3 0 row d) := by
    refine canon_hit (s := S2x1024x128) (e := .f32) ![(g : ℕ), 0, 0] S1x1024x128.size (head_inb g) w L (ix3 g row d) (ix3 (n0 := 1) (n1 := 1024) (n2 := 128) 0 row d) fun a => ?_
    fin_cases a
    · rfl
    · show (row : ℕ) = 0 + row; omega
    · show (d : ℕ) = 0 + d; omega
  rw [List.ofFn_succ, List.ofFn_succ, List.ofFn_zero]
  fin_cases g
  · refine (canon_miss (s := S2x1024x128) (e := .f32) ![1, 0, 0] S1x1024x128.size (head_inb 1) (W 1) _ (ix3 0 row d) (0 : Fin 3) (Or.inl ?_)).trans (hit 0 R (W 0))
    show 0 < 1
    omega
  · exact hit 1 _ (W 1)

/-- One store of half a head. -/
theorem half_at (n : Fin 4) (w : S1x512x128.Idx → EReal) (L : List (View.Piece (Elt Ideal) S2x1024x128 .f32))
    (g : Fin 2) (row : Fin 1024) (d : Fin 128) :
    View.canon (⟨halfRect n, w⟩ :: L) (ix3 g row d)
      = if (g : ℕ) = (n : ℕ) % 2 ∧ (row : ℕ) / 512 = (n : ℕ) / 2 then w (ix3 0 ⟨row % 512, by omega⟩ d) else View.canon L (ix3 g row d) := by
  split_ifs with h
  · obtain ⟨hg, hr⟩ := h
    refine canon_hit (s := S2x1024x128) (e := .f32) ![(n : ℕ) % 2, 512 * ((n : ℕ) / 2), 0] S1x512x128.size (half_inb n) w L (ix3 g row d) (ix3 (n0 := 1) (n1 := 512) (n2 := 128) 0 ⟨row % 512, by omega⟩ d) fun a => ?_
    fin_cases a
    · show (g : ℕ) = n % 2 + 0; omega
    · show (row : ℕ) = 512 * (n / 2) + row % 512; omega
    · show (d : ℕ) = 0 + d; omega
  · by_cases hg : (g : ℕ) = (n : ℕ) % 2
    · refine canon_miss (s := S2x1024x128) (e := .f32) ![(n : ℕ) % 2, 512 * ((n : ℕ) / 2), 0] S1x512x128.size (half_inb n) w L (ix3 g row d) (1 : Fin 3) ?_
      show (row : ℕ) < 512 * ((n : ℕ) / 2) ∨ 512 * ((n : ℕ) / 2) + 512 ≤ (row : ℕ)
      have e : ¬ (row : ℕ) / 512 = (n : ℕ) / 2 := fun e => h ⟨hg, e⟩
      clear h hg
      omega
    · refine canon_miss (s := S2x1024x128) (e := .f32) ![(n : ℕ) % 2, 512 * ((n : ℕ) / 2), 0] S1x512x128.size (half_inb n) w L (ix3 g row d) (0 : Fin 3) ?_
      show (g : ℕ) < n % 2 ∨ (n : ℕ) % 2 + 1 ≤ g
      omega

/-! ## Loads -/

section loads

variable (v : View sig .tc .vmem S2x1024x128 .f32)

theorem load_chunk (f : BufTy.Contents (Elt Ideal) v.ty) (g : Fin 2) (r a : Fin 32) (d : Fin 128) :
    View.readAt (Elt Ideal) v (chunk g r).toLoadRect f (ix3 (n0 := 1) (n1 := 32) (n2 := 128) 0 a d) = v.read (Elt Ideal) f (ix3 g ⟨32 * r + a, by omega⟩ d) := by
  refine View.ld_unit_apply_of (v.read (Elt Ideal) f) _ _ _ _ _ fun b => ?_
  fin_cases b
  · rfl
  · rfl
  · show (d : ℕ) = 0 + d; omega

theorem load_head (f : BufTy.Contents (Elt Ideal) v.ty) (g : Fin 2) (row : Fin 1024) (d : Fin 128) :
    View.readAt (Elt Ideal) v (headRect g).toLoadRect f (ix3 (n0 := 1) (n1 := 1024) (n2 := 128) 0 row d) = v.read (Elt Ideal) f (ix3 g row d) := by
  refine View.ld_unit_apply_of (v.read (Elt Ideal) f) _ _ _ _ _ fun b => ?_
  fin_cases b
  · rfl
  · show (row : ℕ) = 0 + row; omega
  · show (d : ℕ) = 0 + d; omega

theorem load_half (f : BufTy.Contents (Elt Ideal) v.ty) (n : Fin 4) (r : Fin 512) (d : Fin 128) :
    View.readAt (Elt Ideal) v (halfRect n).toLoadRect f (ix3 (n0 := 1) (n1 := 512) (n2 := 128) 0 r d)
      = v.read (Elt Ideal) f (ix3 ⟨(n : ℕ) % 2, by omega⟩ ⟨512 * ((n : ℕ) / 2) + r, by omega⟩ d) := by
  refine View.ld_unit_apply_of (v.read (Elt Ideal) f) _ _ _ _ _ fun b => ?_
  fin_cases b
  · rfl
  · rfl
  · show (d : ℕ) = 0 + d; omega

theorem found_chunk (L : List (View.Piece (Elt Ideal) S2x1024x128 .f32)) (g : Fin 2) (r a : Fin 32) (d : Fin 128) :
    v.readCov L (chunk g r).toLoadRect (ix3 (n0 := 1) (n1 := 32) (n2 := 128) 0 a d) = View.canon L (ix3 g ⟨32 * r + a, by omega⟩ d) := by
  unfold View.readCov
  rw [load_chunk, View.read_writes_junk_eq_canon]

theorem found_head (L : List (View.Piece (Elt Ideal) S2x1024x128 .f32)) (g : Fin 2) (row : Fin 1024) (d : Fin 128) :
    v.readCov L (headRect g).toLoadRect (ix3 (n0 := 1) (n1 := 1024) (n2 := 128) 0 row d) = View.canon L (ix3 g row d) := by
  unfold View.readCov
  rw [load_head, View.read_writes_junk_eq_canon]

theorem found_half (L : List (View.Piece (Elt Ideal) S2x1024x128 .f32)) (n : Fin 4) (r : Fin 512) (d : Fin 128) :
    v.readCov L (halfRect n).toLoadRect (ix3 (n0 := 1) (n1 := 512) (n2 := 128) 0 r d)
      = View.canon L (ix3 ⟨(n : ℕ) % 2, by omega⟩ ⟨512 * ((n : ℕ) / 2) + r, by omega⟩ d) := by
  unfold View.readCov
  rw [load_half, View.read_writes_junk_eq_canon]

end loads

/-! ## A trip -/

section trip

variable (i : grid0.Coords) (arg2 : Memref sig .tc .vmem S1024x512 .bf16) (arg3 : Memref sig .tc .vmem S2x16x256x1024 .bf16)
  (arg4 : Memref sig .tc .vmem S16384x256 .bf16) (arg6 arg7 arg8 : Memref sig .tc .vmem S2x1024x128 .f32)
  (X2 : BufTy.Contents (Elt Ideal) arg2.view.ty) (X3 : BufTy.Contents (Elt Ideal) arg3.view.ty) (X4 : BufTy.Contents (Elt Ideal) arg4.view.ty)
  (k : Fin (k0_t1_loop i).trips)
  (f6 : BufTy.Contents (Elt Ideal) arg6.view.ty) (f7 : BufTy.Contents (Elt Ideal) arg7.view.ty) (f8 : BufTy.Contents (Elt Ideal) arg8.view.ty)
  (R : List (View.Piece (Elt Ideal) S2x1024x128 .f32)) (g : Fin 2) (row : Fin 1024) (d : Fin 128)

/-- A row's maximum after a trip. -/
def tripMax (a : Fin 128) : EReal :=
  max (arg6.view.read (Elt Ideal) f6 (ix3 g row a)) (Finset.univ.sup fun κ : Fin 1024 => tripScores i arg2 arg3 X2 X3 k g (ix2 row κ))

theorem row_split (row : Fin 1024) : (⟨32 * ((⟨row / 32, by omega⟩ : Fin 32) : ℕ) + ((⟨row % 32, by omega⟩ : Fin 32) : ℕ), by omega⟩ : Fin 1024) = row :=
  Fin.ext (by show 32 * ((row : ℕ) / 32) + row % 32 = row; omega)

theorem max_of_chunk (a : Fin 128) :
    mNew (rows (tripScores i arg2 arg3 X2 X3 k g) ⟨row / 32, by omega⟩)
      (View.readAt (Elt Ideal) arg6.view (chunk g ⟨row / 32, by omega⟩).toLoadRect f6) (ix2 ⟨row % 32, by omega⟩ a)
      = tripMax i arg2 arg3 arg6 X2 X3 k f6 g row a := by
  rw [mNew_at]
  simp only [rows_at]
  rw [row_split]
  refine congrArg (max · _) ?_
  rw [load_chunk, row_split]

theorem trip_m_at : View.canon (mPieces i arg2 arg3 arg6 X2 X3 k f6 ++ R) (ix3 g row d) = tripMax i arg2 arg3 arg6 X2 X3 k f6 g row d := by
  refine (chunks_at (fun g r => mStore (rows (tripScores i arg2 arg3 X2 X3 k g) r) (View.readAt (Elt Ideal) arg6.view (chunk g r).toLoadRect f6)) R g row d).trans ?_
  rw [mStore_at, max_of_chunk]

theorem trip_l_at : View.canon (lPieces i arg2 arg3 arg6 arg7 X2 X3 k f6 f7 ++ R) (ix3 g row d)
    = Ideal.exp2 (arg6.view.read (Elt Ideal) f6 (ix3 g row d) - tripMax i arg2 arg3 arg6 X2 X3 k f6 g row d) * arg7.view.read (Elt Ideal) f7 (ix3 g row d)
      + ∑ c : Fin 8, Ideal.exp2 (tripScores i arg2 arg3 X2 X3 k g (ix2 row ⟨128 * c + d, by omega⟩) - tripMax i arg2 arg3 arg6 X2 X3 k f6 g row d) := by
  refine (chunks_at (fun g r => lNew (rows (tripScores i arg2 arg3 X2 X3 k g) r) (View.readAt (Elt Ideal) arg6.view (chunk g r).toLoadRect f6)
    (View.readAt (Elt Ideal) arg7.view (chunk g r).toLoadRect f7)) R g row d).trans ?_
  rw [lNew_at, alpha_at]
  simp only [part_at, max_of_chunk, rows_at]
  rw [row_split, load_chunk, load_chunk, row_split]

theorem trip_acc_at : View.canon (accPieces i arg2 arg3 arg4 arg6 arg8 X2 X3 X4 k f6 f8 ++ R) (ix3 g row d)
    = Ideal.exp2 (arg6.view.read (Elt Ideal) f6 (ix3 g row d) - tripMax i arg2 arg3 arg6 X2 X3 k f6 g row d) * arg8.view.read (Elt Ideal) f8 (ix3 g row d)
      + ∑ κ : Fin 1024, Ideal.exp2 (tripScores i arg2 arg3 X2 X3 k g (ix2 row κ)
          - tripMax i arg2 arg3 arg6 X2 X3 k f6 g row ⟨κ % 128, Nat.mod_lt _ (by norm_num)⟩) * tripValues i arg4 X4 k g (ix2 κ d) := by
  refine (heads_at (fun g => accNew (tripScores i arg2 arg3 X2 X3 k g) (fun r => View.readAt (Elt Ideal) arg6.view (chunk g r).toLoadRect f6)
      (tripValues i arg4 X4 k g) (View.readAt (Elt Ideal) arg8.view (headRect g).toLoadRect f8)) R g row d).trans ?_
  rw [accNew_at, alphas_at, alpha_at, load_head]
  simp only [weights_at, probs_at, part_at, max_of_chunk, rows_at]
  rw [row_split, load_chunk, row_split]
  refine congrArg _ (Finset.sum_congr rfl fun κ _ => ?_)
  rw [show (⟨128 * ((⟨(κ : ℕ) / 128, by omega⟩ : Fin 8) : ℕ) + ((⟨(κ : ℕ) % 128, by omega⟩ : Fin 128) : ℕ), by omega⟩ : Fin 1024) = κ from
    Fin.ext (by show 128 * ((κ : ℕ) / 128) + κ % 128 = κ; omega)]

end trip

end Cert.FlashDIdeal.Flash

end
-- ==== Proof.FlashDDiag.lean ====
/- The attention: the contents of the scratches after the block of keys on the diagonal. -/
module

public import proofs.«01_k».proof.Proof.FlashDRun

@[expose] public section

set_option maxRecDepth 65536

noncomputable section

namespace Cert.FlashDIdeal.Flash

open Cert.FlashDIdeal Cert.FlashDIdeal.Gen Idealize.ShloMosaic Idealize.ShloMosaic.TcCoe Idealize.SL.Sem
open Cert.Running

variable {sig : RefSig}

/-- The step at which a row is worked. -/
def order (g : Fin 2) (row : Fin 1024) : ℕ := 32 * ((row : ℕ) / 512) + 16 * (g : ℕ) + (row : ℕ) / 32 % 16

theorem order_lt (g : Fin 2) (row : Fin 1024) : order g row < 64 := by unfold order; omega

theorem order_iff (g : Fin 2) (row : Fin 1024) (n : ℕ) (hn : n < 64) :
    (g = stepHead n ∧ (row : ℕ) / 32 = stepChunk n) ↔ n = order g row := by
  unfold order
  rw [Fin.ext_iff]
  show ((g : ℕ) = n / 16 % 2 ∧ (row : ℕ) / 32 = 16 * (n / 32 % 2) + n % 16) ↔ _
  omega

section diagonal

variable [U : Stretch]
variable (i : grid0.Coords) (arg2 : Memref sig .tc .vmem S1024x512 .bf16) (arg3 : Memref sig .tc .vmem S2x16x256x1024 .bf16)
  (arg4 : Memref sig .tc .vmem S16384x256 .bf16) (arg6 arg7 arg8 : Memref sig .tc .vmem S2x1024x128 .f32)
  (X2 : BufTy.Contents (Elt Ideal) arg2.view.ty) (X3 : BufTy.Contents (Elt Ideal) arg3.view.ty) (X4 : BufTy.Contents (Elt Ideal) arg4.view.ty)
  (L6 L7 L8 : List (View.Piece (Elt Ideal) S2x1024x128 .f32)) (g : Fin 2) (row : Fin 1024) (d : Fin 128)

theorem mChain_later (n : ℕ) (hn : n ≤ order g row) :
    View.canon (mChain i arg2 arg3 arg6 X2 X3 L6 n) (ix3 g row d) = View.canon L6 (ix3 g row d) := by
  induction n with
  | zero => rfl
  | succ n ih =>
    have := order_lt g row
    unfold mChain
    rw [chunk_at, if_neg, ih (by omega)]
    rw [order_iff g row n (by omega)]
    omega

theorem lChain_later (n : ℕ) (hn : n ≤ order g row) :
    View.canon (lChain i arg2 arg3 arg6 arg7 X2 X3 L6 L7 n) (ix3 g row d) = View.canon L7 (ix3 g row d) := by
  induction n with
  | zero => rfl
  | succ n ih =>
    have := order_lt g row
    unfold lChain
    rw [chunk_at, if_neg, ih (by omega)]
    rw [order_iff g row n (by omega)]
    omega

theorem lChain_done (n : ℕ) (hn : order g row < n) (h64 : n ≤ 64) :
    View.canon (lChain i arg2 arg3 arg6 arg7 X2 X3 L6 L7 n) (ix3 g row d)
      = View.canon (lChain i arg2 arg3 arg6 arg7 X2 X3 L6 L7 (order g row + 1)) (ix3 g row d) := by
  induction n with
  | zero => omega
  | succ n ih =>
    rcases Nat.lt_or_eq_of_le (Nat.le_of_lt_succ hn) with h | h
    · refine Eq.trans ?_ (ih h (by omega))
      conv_lhs => unfold lChain
      rw [chunk_at, if_neg]
      rw [order_iff g row n (by omega)]
      omega
    · rw [h]

/-- The entry of a chunk's load that is the row's. -/
theorem row_of_step (n : ℕ) (h : n = order g row) : g = stepHead n ∧ (⟨32 * ((stepChunk n : Fin 32) : ℕ) + row % 32, by omega⟩ : Fin 1024) = row := by
  have hs := (order_iff g row n (h ▸ order_lt g row)).mpr h
  exact ⟨hs.1, Fin.ext (by show 32 * ((stepChunk n : Fin 32) : ℕ) + row % 32 = row; omega)⟩

/-- The maximum that a row's step finds is the one before the diagonal. -/
theorem mAt_at (n : ℕ) (h : n = order g row) :
    mAt i arg2 arg3 arg6 X2 X3 L6 n (ix3 0 ⟨row % 32, by omega⟩ d) = View.canon L6 (ix3 g row d) := by
  obtain ⟨hg, hr⟩ := row_of_step g row n h
  unfold mAt
  refine (found_chunk arg6.view _ (stepHead n) (stepChunk n) ⟨row % 32, by omega⟩ d).trans ?_
  rw [← mChain_later i arg2 arg3 arg6 X2 X3 L6 g row d n h.le]
  refine congrArg (View.canon _) ?_
  exact congrArg₂ (fun a b => ix3 a b d) hg.symm hr

theorem lAt_at (n : ℕ) (h : n = order g row) :
    arg7.view.readCov (lChain i arg2 arg3 arg6 arg7 X2 X3 L6 L7 n) (chunk (stepHead n) (stepChunk n)).toLoadRect
      (ix3 (n0 := 1) (n1 := 32) (n2 := 128) 0 ⟨row % 32, by omega⟩ d) = View.canon L7 (ix3 g row d) := by
  obtain ⟨hg, hr⟩ := row_of_step g row n h
  refine (found_chunk arg7.view _ (stepHead n) (stepChunk n) ⟨row % 32, by omega⟩ d).trans ?_
  rw [← lChain_later i arg2 arg3 arg6 arg7 X2 X3 L6 L7 g row d n h.le]
  refine congrArg (View.canon _) ?_
  exact congrArg₂ (fun a b => ix3 a b d) hg.symm hr

/-! ### A row of the upper half -/

section up

variable (r : Fin 512)

abbrev upRow : Fin 1024 := ⟨r, by omega⟩

def upScore (κ : Fin 512) : EReal := if (κ : ℕ) / unit ≤ (r : ℕ) / unit then upScores i arg2 arg3 X2 X3 g (ix2 r κ) else ⊥

def upMax (a : Fin 128) : EReal :=
  max (View.canon L6 (ix3 g (upRow r) a)) (Finset.univ.sup fun κ : Fin 512 => upScore i arg2 arg3 X2 X3 g r κ)

theorem rowsUp_of_row (κ : Fin 512) : rowsUp (upScores i arg2 arg3 X2 X3 g) ⟨r / 32, by omega⟩ (ix2 ⟨r % 32, by omega⟩ κ)
    = upScore i arg2 arg3 X2 X3 g r κ := by
  rw [rowsUp_at]
  unfold upScore
  have e : 32 * ((r : ℕ) / 32) + r % 32 = r := by omega
  have e' : (⟨32 * ((⟨(r : ℕ) / 32, by omega⟩ : Fin 16) : ℕ) + ((⟨(r : ℕ) % 32, by omega⟩ : Fin 32) : ℕ), by omega⟩ : Fin 512) = r := Fin.ext e
  simp only [e', e]

variable (m : Vec Ideal S1x32x128 .f32) (hm : ∀ a, m (ix3 0 ⟨r % 32, by omega⟩ a) = View.canon L6 (ix3 g (upRow r) a))
include hm

theorem mNewUp_of_row (a : Fin 128) : mNewUp (rowsUp (upScores i arg2 arg3 X2 X3 g) ⟨r / 32, by omega⟩) m (ix2 ⟨r % 32, by omega⟩ a)
    = upMax i arg2 arg3 X2 X3 L6 g r a := by
  rw [mNewUp_at, hm]
  simp only [rowsUp_of_row]
  rfl

theorem lNewUp_of_row (l : Vec Ideal S1x32x128 .f32) :
    lNewUp (rowsUp (upScores i arg2 arg3 X2 X3 g) ⟨r / 32, by omega⟩) m l (ix3 0 ⟨r % 32, by omega⟩ d)
      = Ideal.exp2 (View.canon L6 (ix3 g (upRow r) d) - upMax i arg2 arg3 X2 X3 L6 g r d) * l (ix3 0 ⟨r % 32, by omega⟩ d)
        + ∑ c : Fin 4, Ideal.exp2 (upScore i arg2 arg3 X2 X3 g r ⟨128 * c + d, by omega⟩ - upMax i arg2 arg3 X2 X3 L6 g r d) := by
  rw [lNewUp_at, alphaUp_at, hm]
  simp only [partUp_at, mNewUp_of_row i arg2 arg3 X2 X3 L6 g r m hm, rowsUp_of_row]

end up

theorem l_up (r : Fin 512) : View.canon (lChain i arg2 arg3 arg6 arg7 X2 X3 L6 L7 64) (ix3 g (upRow r) d)
    = Ideal.exp2 (View.canon L6 (ix3 g (upRow r) d) - upMax i arg2 arg3 X2 X3 L6 g r d) * View.canon L7 (ix3 g (upRow r) d)
      + ∑ c : Fin 4, Ideal.exp2 (upScore i arg2 arg3 X2 X3 g r ⟨128 * c + d, by omega⟩ - upMax i arg2 arg3 X2 X3 L6 g r d) := by
  rw [lChain_done i arg2 arg3 arg6 arg7 X2 X3 L6 L7 g (upRow r) d 64 (order_lt _ _) le_rfl]
  obtain ⟨n, hn⟩ : ∃ n, n = order g (upRow r) := ⟨_, rfl⟩
  rw [← hn]
  have h32 : n < 32 := by
    rw [hn]
    unfold order
    show 32 * ((r : ℕ) / 512) + 16 * (g : ℕ) + (r : ℕ) / 32 % 16 < 32
    omega
  have hrow : stepRow n = (⟨(r : ℕ) / 32, by omega⟩ : Fin 16) := Fin.ext (by
    show n % 16 = (r : ℕ) / 32
    rw [hn]
    unfold order
    show (32 * ((r : ℕ) / 512) + 16 * (g : ℕ) + (r : ℕ) / 32 % 16) % 16 = (r : ℕ) / 32
    omega)
  have hhead : stepHead n = g := (row_of_step g (upRow r) n hn).1.symm
  conv_lhs => unfold lChain
  rw [chunk_at, if_pos ((order_iff g (upRow r) n (by omega)).mpr hn), if_pos h32]
  have hm (a : Fin 128) := mAt_at i arg2 arg3 arg6 X2 X3 L6 g (upRow r) a n hn
  have hl := lAt_at i arg2 arg3 arg6 arg7 X2 X3 L6 L7 g (upRow r) d n hn
  refine Eq.trans ?_ ((lNewUp_of_row i arg2 arg3 X2 X3 L6 g d r _ hm (arg7.view.readCov (lChain i arg2 arg3 arg6 arg7 X2 X3 L6 L7 n) (chunk (stepHead n) (stepChunk n)).toLoadRect)).trans ?_)
  · rw [hrow, hhead]
  · rw [← hl]

/-! ### A row of the lower half -/

section low

variable (r : Fin 512)

abbrev lowRow : Fin 1024 := ⟨512 + r, by omega⟩

def lowScore (κ : Fin 1024) : EReal := if (κ : ℕ) / unit ≤ (512 + r : ℕ) / unit then lowScores i arg2 arg3 X2 X3 g (ix2 r κ) else ⊥

def lowMax (a : Fin 128) : EReal :=
  max (View.canon L6 (ix3 g (lowRow r) a)) (Finset.univ.sup fun κ : Fin 1024 => lowScore i arg2 arg3 X2 X3 g r κ)

theorem rowsLow_of_row (κ : Fin 1024) : rowsLow (lowScores i arg2 arg3 X2 X3 g) ⟨r / 32, by omega⟩ (ix2 ⟨r % 32, by omega⟩ κ)
    = lowScore i arg2 arg3 X2 X3 g r κ := by
  rw [rowsLow_at]
  unfold lowScore
  have e : 32 * ((r : ℕ) / 32) + r % 32 = r := by omega
  have e' : (⟨32 * ((⟨(r : ℕ) / 32, by omega⟩ : Fin 16) : ℕ) + ((⟨(r : ℕ) % 32, by omega⟩ : Fin 32) : ℕ), by omega⟩ : Fin 512) = r := Fin.ext e
  simp only [e', Nat.add_assoc, e]

variable (m : Vec Ideal S1x32x128 .f32) (hm : ∀ a, m (ix3 0 ⟨r % 32, by omega⟩ a) = View.canon L6 (ix3 g (lowRow r) a))
include hm

theorem mNewLow_of_row (a : Fin 128) : mNew (rowsLow (lowScores i arg2 arg3 X2 X3 g) ⟨r / 32, by omega⟩) m (ix2 ⟨r % 32, by omega⟩ a)
    = lowMax i arg2 arg3 X2 X3 L6 g r a := by
  rw [mNew_at, hm]
  simp only [rowsLow_of_row]
  rfl

theorem lNewLow_of_row (l : Vec Ideal S1x32x128 .f32) :
    lNew (rowsLow (lowScores i arg2 arg3 X2 X3 g) ⟨r / 32, by omega⟩) m l (ix3 0 ⟨r % 32, by omega⟩ d)
      = Ideal.exp2 (View.canon L6 (ix3 g (lowRow r) d) - lowMax i arg2 arg3 X2 X3 L6 g r d) * l (ix3 0 ⟨r % 32, by omega⟩ d)
        + ∑ c : Fin 8, Ideal.exp2 (lowScore i arg2 arg3 X2 X3 g r ⟨128 * c + d, by omega⟩ - lowMax i arg2 arg3 X2 X3 L6 g r d) := by
  rw [lNew_at, alpha_at, hm]
  simp only [part_at, mNewLow_of_row i arg2 arg3 X2 X3 L6 g r m hm, rowsLow_of_row]

end low

theorem l_low (r : Fin 512) : View.canon (lChain i arg2 arg3 arg6 arg7 X2 X3 L6 L7 64) (ix3 g (lowRow r) d)
    = Ideal.exp2 (View.canon L6 (ix3 g (lowRow r) d) - lowMax i arg2 arg3 X2 X3 L6 g r d) * View.canon L7 (ix3 g (lowRow r) d)
      + ∑ c : Fin 8, Ideal.exp2 (lowScore i arg2 arg3 X2 X3 g r ⟨128 * c + d, by omega⟩ - lowMax i arg2 arg3 X2 X3 L6 g r d) := by
  rw [lChain_done i arg2 arg3 arg6 arg7 X2 X3 L6 L7 g (lowRow r) d 64 (order_lt _ _) le_rfl]
  obtain ⟨n, hn⟩ : ∃ n, n = order g (lowRow r) := ⟨_, rfl⟩
  rw [← hn]
  have hv : n = 32 * ((512 + r : ℕ) / 512) + 16 * (g : ℕ) + (512 + r : ℕ) / 32 % 16 := hn
  have hrow : stepRow n = (⟨(r : ℕ) / 32, by omega⟩ : Fin 16) := Fin.ext (by
    show n % 16 = (r : ℕ) / 32
    omega)
  have hhead : stepHead n = g := (row_of_step g (lowRow r) n hn).1.symm
  have hmod : ((lowRow r : Fin 1024) : ℕ) % 32 = (r : ℕ) % 32 := by show (512 + r : ℕ) % 32 = (r : ℕ) % 32; omega
  conv_lhs => unfold lChain
  rw [chunk_at, if_pos ((order_iff g (lowRow r) n (by omega)).mpr hn), if_neg (by omega)]
  have hm (a : Fin 128) := mAt_at i arg2 arg3 arg6 X2 X3 L6 g (lowRow r) a n hn
  have hl := lAt_at i arg2 arg3 arg6 arg7 X2 X3 L6 L7 g (lowRow r) d n hn
  simp only [hmod] at hm hl ⊢
  refine Eq.trans ?_ ((lNewLow_of_row i arg2 arg3 X2 X3 L6 g d r _ hm (arg7.view.readCov (lChain i arg2 arg3 arg6 arg7 X2 X3 L6 L7 n) (chunk (stepHead n) (stepChunk n)).toLoadRect)).trans ?_)
  · rw [hrow, hhead]
  · rw [← hl]

/-! ### The output -/

/-- The store of half `n` over the stores `L`. -/
def halfPiece (n : Fin 4) (L : List (View.Piece (Elt Ideal) S2x1024x128 .f32)) : View.Piece (Elt Ideal) S2x1024x128 .f32 :=
  ⟨halfRect n, if (n : ℕ) < 2 then accUp (upScores i arg2 arg3 X2 X3 (stepHead (16 * n))) (fun r => mAt i arg2 arg3 arg6 X2 X3 L6 (16 * n + r))
        (upValues i arg4 X4 (stepHead (16 * n))) (arg8.view.readCov L (halfRect n).toLoadRect)
      else accLow (lowScores i arg2 arg3 X2 X3 (stepHead (16 * n))) (fun r => mAt i arg2 arg3 arg6 X2 X3 L6 (16 * n + r))
        (lowValues i arg4 X4 (stepHead (16 * n))) (arg8.view.readCov L (halfRect n).toLoadRect)⟩

/-- The stores of the halves before half `n`. -/
def halfChain : ℕ → List (View.Piece (Elt Ideal) S2x1024x128 .f32)
  | 0 => L8
  | n + 1 => halfPiece i arg2 arg3 arg4 arg6 arg8 X2 X3 X4 L6 ⟨n % 4, Nat.mod_lt _ (by omega)⟩ (halfChain n) :: halfChain n

theorem accChain_eq : accChain i arg2 arg3 arg4 arg6 arg8 X2 X3 X4 L6 L8 = halfChain i arg2 arg3 arg4 arg6 arg8 X2 X3 X4 L6 L8 4 := rfl

theorem half_hits (n : ℕ) (hn : n < 4) : ((g : ℕ) = (⟨n % 4, Nat.mod_lt _ (by omega)⟩ : Fin 4).val % 2 ∧ (row : ℕ) / 512 = (⟨n % 4, Nat.mod_lt _ (by omega)⟩ : Fin 4).val / 2)
    ↔ n = 2 * ((row : ℕ) / 512) + g := by
  show ((g : ℕ) = n % 4 % 2 ∧ (row : ℕ) / 512 = n % 4 / 2) ↔ _
  omega

theorem halfChain_later (n : ℕ) (hn : n ≤ 2 * ((row : ℕ) / 512) + g) :
    View.canon (halfChain i arg2 arg3 arg4 arg6 arg8 X2 X3 X4 L6 L8 n) (ix3 g row d) = View.canon L8 (ix3 g row d) := by
  induction n with
  | zero => rfl
  | succ n ih =>
    unfold halfChain halfPiece
    rw [half_at, if_neg, ih (by omega)]
    rw [half_hits g row n (by omega)]
    omega

theorem halfChain_done (n : ℕ) (hn : 2 * ((row : ℕ) / 512) + g < n) (h4 : n ≤ 4) :
    View.canon (halfChain i arg2 arg3 arg4 arg6 arg8 X2 X3 X4 L6 L8 n) (ix3 g row d)
      = View.canon (halfChain i arg2 arg3 arg4 arg6 arg8 X2 X3 X4 L6 L8 (2 * ((row : ℕ) / 512) + g + 1)) (ix3 g row d) := by
  induction n with
  | zero => omega
  | succ n ih =>
    rcases Nat.lt_or_eq_of_le (Nat.le_of_lt_succ hn) with h | h
    · refine Eq.trans ?_ (ih h (by omega))
      conv_lhs => unfold halfChain halfPiece
      rw [half_at, if_neg]
      rw [half_hits g row n (by omega)]
      omega
    · rw [h]

theorem acc_up (r : Fin 512) : View.canon (accChain i arg2 arg3 arg4 arg6 arg8 X2 X3 X4 L6 L8) (ix3 g (upRow r) d)
    = Ideal.exp2 (View.canon L6 (ix3 g (upRow r) d) - upMax i arg2 arg3 X2 X3 L6 g r d) * View.canon L8 (ix3 g (upRow r) d)
      + ∑ κ : Fin 512, Ideal.exp2 (upScore i arg2 arg3 X2 X3 g r κ - upMax i arg2 arg3 X2 X3 L6 g r ⟨κ % 128, Nat.mod_lt _ (by norm_num)⟩)
          * upValues i arg4 X4 g (ix2 κ d) := by
  have hz : (r : ℕ) / 512 = 0 := by omega
  have e : 2 * ((upRow r : ℕ) / 512) + (g : ℕ) = g := by show 2 * ((r : ℕ) / 512) + (g : ℕ) = g; omega
  rw [accChain_eq, halfChain_done i arg2 arg3 arg4 arg6 arg8 X2 X3 X4 L6 L8 g (upRow r) d 4 (by omega) le_rfl, e]
  have later := halfChain_later i arg2 arg3 arg4 arg6 arg8 X2 X3 X4 L6 L8 g (upRow r) d g (by omega)
  conv_lhs => unfold halfChain halfPiece
  rw [half_at, if_pos ((half_hits g (upRow r) g (by omega)).mpr e.symm)]
  have hlt : ((⟨(g : ℕ) % 4, Nat.mod_lt _ (by omega)⟩ : Fin 4) : ℕ) < 2 := by show (g : ℕ) % 4 < 2; omega
  have hhead : stepHead (16 * ((⟨(g : ℕ) % 4, Nat.mod_lt _ (by omega)⟩ : Fin 4) : ℕ)) = g := Fin.ext (by show 16 * ((g : ℕ) % 4) / 16 % 2 = g; omega)
  have hmod : ((upRow r : Fin 1024) : ℕ) % 512 = r := by show (r : ℕ) % 512 = r; omega
  rw [if_pos hlt]
  simp only [hmod]
  refine (accUp_at _ _ _ _ r d).trans ?_
  have hm (a : Fin 128) := mAt_at i arg2 arg3 arg6 X2 X3 L6 g (upRow r) a
    (16 * ((⟨(g : ℕ) % 4, Nat.mod_lt _ (by omega)⟩ : Fin 4) : ℕ) + ((⟨(r : ℕ) / 32, by omega⟩ : Fin 16) : ℕ)) (by
      unfold order
      show 16 * ((g : ℕ) % 4) + (r : ℕ) / 32 = 32 * ((r : ℕ) / 512) + 16 * (g : ℕ) + (r : ℕ) / 32 % 16
      omega)
  rw [hhead, alphaUp_at, found_half]
  simp only [probsUp_at, partUp_at, mNewUp_of_row i arg2 arg3 X2 X3 L6 g r _ hm, rowsUp_of_row]
  rw [hm]
  have hidx : (ix3 (⟨((⟨(g : ℕ) % 4, Nat.mod_lt _ (by omega)⟩ : Fin 4) : ℕ) % 2, by omega⟩ : Fin 2)
      (⟨512 * (((⟨(g : ℕ) % 4, Nat.mod_lt _ (by omega)⟩ : Fin 4) : ℕ) / 2) + r, by omega⟩ : Fin 1024) d : S2x1024x128.Idx) = ix3 g (upRow r) d :=
    congrArg₂ (fun a b => ix3 a b d) (Fin.ext (by show (g : ℕ) % 4 % 2 = g; omega)) (Fin.ext (by show 512 * ((g : ℕ) % 4 / 2) + (r : ℕ) = r; omega))
  rw [hidx, later]
  refine congrArg _ (Finset.sum_congr rfl fun κ _ => ?_)
  rw [show (⟨128 * ((⟨(κ : ℕ) / 128, by omega⟩ : Fin 4) : ℕ) + ((⟨(κ : ℕ) % 128, by omega⟩ : Fin 128) : ℕ), by omega⟩ : Fin 512) = κ from
    Fin.ext (by show 128 * ((κ : ℕ) / 128) + κ % 128 = κ; omega)]

theorem acc_low (r : Fin 512) : View.canon (accChain i arg2 arg3 arg4 arg6 arg8 X2 X3 X4 L6 L8) (ix3 g (lowRow r) d)
    = Ideal.exp2 (View.canon L6 (ix3 g (lowRow r) d) - lowMax i arg2 arg3 X2 X3 L6 g r d) * View.canon L8 (ix3 g (lowRow r) d)
      + ∑ κ : Fin 1024, Ideal.exp2 (lowScore i arg2 arg3 X2 X3 g r κ - lowMax i arg2 arg3 X2 X3 L6 g r ⟨κ % 128, Nat.mod_lt _ (by norm_num)⟩)
          * lowValues i arg4 X4 g (ix2 κ d) := by
  have e : 2 * ((lowRow r : ℕ) / 512) + (g : ℕ) = 2 + g := by show 2 * ((512 + r : ℕ) / 512) + (g : ℕ) = 2 + g; omega
  rw [accChain_eq, halfChain_done i arg2 arg3 arg4 arg6 arg8 X2 X3 X4 L6 L8 g (lowRow r) d 4 (by omega) le_rfl, e]
  have later := halfChain_later i arg2 arg3 arg4 arg6 arg8 X2 X3 X4 L6 L8 g (lowRow r) d (2 + g) (by omega)
  conv_lhs => unfold halfChain halfPiece
  rw [half_at, if_pos ((half_hits g (lowRow r) (2 + g) (by omega)).mpr e.symm)]
  have hlt : ¬ ((⟨(2 + g : ℕ) % 4, Nat.mod_lt _ (by omega)⟩ : Fin 4) : ℕ) < 2 := by show ¬ (2 + g : ℕ) % 4 < 2; omega
  have hhead : stepHead (16 * ((⟨(2 + g : ℕ) % 4, Nat.mod_lt _ (by omega)⟩ : Fin 4) : ℕ)) = g := Fin.ext (by show 16 * ((2 + g : ℕ) % 4) / 16 % 2 = g; omega)
  have hmod : ((lowRow r : Fin 1024) : ℕ) % 512 = r := by show (512 + r : ℕ) % 512 = r; omega
  have hmod' : ((lowRow r : Fin 1024) : ℕ) % 32 = (r : ℕ) % 32 := by show (512 + r : ℕ) % 32 = (r : ℕ) % 32; omega
  rw [if_neg hlt]
  simp only [hmod]
  refine (accLow_at _ _ _ _ r d).trans ?_
  have hm (a : Fin 128) := mAt_at i arg2 arg3 arg6 X2 X3 L6 g (lowRow r) a
    (16 * ((⟨(2 + g : ℕ) % 4, Nat.mod_lt _ (by omega)⟩ : Fin 4) : ℕ) + ((⟨(r : ℕ) / 32, by omega⟩ : Fin 16) : ℕ)) (by
      unfold order
      show 16 * ((2 + g : ℕ) % 4) + (r : ℕ) / 32 = 32 * ((512 + r : ℕ) / 512) + 16 * (g : ℕ) + (512 + r : ℕ) / 32 % 16
      omega)
  simp only [hmod'] at hm
  rw [hhead, alpha_at, found_half]
  simp only [probs_at, part_at, mNewLow_of_row i arg2 arg3 X2 X3 L6 g r _ hm, rowsLow_of_row]
  rw [hm]
  have hidx : (ix3 (⟨((⟨(2 + g : ℕ) % 4, Nat.mod_lt _ (by omega)⟩ : Fin 4) : ℕ) % 2, by omega⟩ : Fin 2)
      (⟨512 * (((⟨(2 + g : ℕ) % 4, Nat.mod_lt _ (by omega)⟩ : Fin 4) : ℕ) / 2) + r, by omega⟩ : Fin 1024) d : S2x1024x128.Idx) = ix3 g (lowRow r) d :=
    congrArg₂ (fun a b => ix3 a b d) (Fin.ext (by show (2 + g : ℕ) % 4 % 2 = g; omega)) (Fin.ext (by show 512 * ((2 + g : ℕ) % 4 / 2) + (r : ℕ) = 512 + r; omega))
  rw [hidx, later]
  refine congrArg _ (Finset.sum_congr rfl fun κ _ => ?_)
  rw [show (⟨128 * ((⟨(κ : ℕ) / 128, by omega⟩ : Fin 8) : ℕ) + ((⟨(κ : ℕ) % 128, by omega⟩ : Fin 128) : ℕ), by omega⟩ : Fin 1024) = κ from
    Fin.ext (by show 128 * ((κ : ℕ) / 128) + κ % 128 = κ; omega)]

end diagonal

end Cert.FlashDIdeal.Flash

end
-- ==== Proof.FlashMath.lean ====
/- The running softmax of one row of attention, on real numbers and the two infinities: a maximum, a sum per lane and an
   output, carried over blocks of keys, and that their quotient is the softmax's mean of the values. -/
module

public import Idealize.ShloMosaic.Lib.Pointwise

@[expose] public section

noncomputable section

namespace Cert.Running

open Idealize.ShloMosaic

/-- The weight of a key of score `x` against the maximum `μ`; a key left out has the score `⊥`. -/
def weight (x : EReal) (μ : ℝ) : ℝ := if x = ⊥ then 0 else (2 : ℝ) ^ (x.toReal - μ)

theorem exp2_bot : Ideal.exp2 ⊥ = 0 := rfl
theorem exp2_coe (r : ℝ) : Ideal.exp2 (r : EReal) = (((2 : ℝ) ^ r : ℝ) : EReal) := rfl
theorem exp_bot : Ideal.exp ⊥ = 0 := rfl
theorem exp_coe (r : ℝ) : Ideal.exp (r : EReal) = ((Real.exp r : ℝ) : EReal) := rfl

theorem exp2_sub (x : EReal) (hx : x ≠ ⊤) (μ : ℝ) : Ideal.exp2 (x - (μ : EReal)) = (weight x μ : EReal) := by
  induction x with
  | bot => simp [weight, exp2_bot]
  | top => exact absurd rfl hx
  | coe r =>
    rw [← EReal.coe_sub, exp2_coe]
    simp [weight]

theorem weight_nonneg (x : EReal) (μ : ℝ) : 0 ≤ weight x μ := by
  unfold weight
  split_ifs
  · exact le_rfl
  · positivity

theorem weight_pos {x : EReal} (hx : x ≠ ⊥) (μ : ℝ) : 0 < weight x μ := by
  unfold weight
  rw [if_neg hx]
  positivity

theorem weight_shift (x : EReal) (μ ν : ℝ) : weight x ν = (2 : ℝ) ^ (μ - ν) * weight x μ := by
  unfold weight
  split_ifs
  · simp
  · rw [← Real.rpow_add (by norm_num)]
    congr 1
    ring

/-- The state of one row after `n` stretches of 128 keys. -/
def Row (S : ℕ → EReal) (V : ℕ → Fin 128 → ℝ) (n : ℕ) (m l acc : Fin 128 → EReal) : Prop :=
  ∃ M : EReal, M ≠ ⊤ ∧ (∀ a, m a = M) ∧ (M = ⊥ → ∀ k < 128 * n, S k = ⊥)
    ∧ (∀ a, l a = ((∑ j ∈ Finset.range n, weight (S (128 * j + a)) M.toReal : ℝ) : EReal))
    ∧ ∀ d, acc d = ((∑ k ∈ Finset.range (128 * n), weight (S k) M.toReal * V k d : ℝ) : EReal)

theorem Row.zero (S : ℕ → EReal) (V : ℕ → Fin 128 → ℝ) : Row S V 0 (fun _ => ⊥) (fun _ => 0) fun _ => 0 :=
  ⟨⊥, by simp, fun _ => rfl, fun _ k hk => absurd hk (by simp), fun _ => by simp, fun _ => by simp⟩

theorem coe_sum {ι : Type*} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- One block of `c` stretches more. -/
theorem Row.step {S : ℕ → EReal} (hS : ∀ k, S k ≠ ⊤) {V : ℕ → Fin 128 → ℝ} {n : ℕ} {m l acc : Fin 128 → EReal}
    (h : Row S V n m l acc) (c : ℕ) (hne : ∃ k < 128 * c, S (128 * n + k) ≠ ⊥) {m' l' acc' : Fin 128 → EReal}
    (hm : ∀ a, m' a = max (m a) (Finset.univ.sup fun k : Fin (128 * c) => S (128 * n + k)))
    (hl : ∀ a, l' a = Ideal.exp2 (m a - m' a) * l a + ∑ j : Fin c, Ideal.exp2 (S (128 * n + (128 * j + a)) - m' a))
    (ha : ∀ d, acc' d = Ideal.exp2 (m d - m' d) * acc d
      + ∑ k : Fin (128 * c), Ideal.exp2 (S (128 * n + k) - m' ⟨k % 128, Nat.mod_lt _ (by norm_num)⟩) * (V (128 * n + k) d : EReal)) :
    Row S V (n + c) m' l' acc' := by
  obtain ⟨M, hM, em, eb, el, ea⟩ := h
  obtain ⟨k₀, hk₀, hb₀⟩ := hne
  set T : EReal := Finset.univ.sup fun k : Fin (128 * c) => S (128 * n + k) with hT
  have hTt : T ≠ ⊤ := by
    rw [hT, ← lt_top_iff_ne_top, Finset.sup_lt_iff (by simp)]
    exact fun k _ => lt_top_iff_ne_top.mpr (hS _)
  have hTb : T ≠ ⊥ := by
    intro e
    have : S (128 * n + k₀) ≤ T := Finset.le_sup (f := fun k : Fin (128 * c) => S (128 * n + k)) (Finset.mem_univ ⟨k₀, hk₀⟩)
    rw [e] at this
    exact hb₀ (le_bot_iff.mp this)
  have hx : max M T ≠ ⊤ := by
    rw [← lt_top_iff_ne_top]
    exact max_lt (lt_top_iff_ne_top.mpr hM) (lt_top_iff_ne_top.mpr hTt)
  have hxb : max M T ≠ ⊥ := fun e => hTb (le_bot_iff.mp (e ▸ le_max_right M T))
  obtain ⟨μ, hμ⟩ : ∃ μ : ℝ, max M T = (μ : EReal) := ⟨_, (EReal.coe_toReal hx hxb).symm⟩
  have em' : ∀ a, m' a = (μ : EReal) := fun a => by rw [hm, em, hμ]
  have carry : ∀ k < 128 * n, weight M μ * weight (S k) M.toReal = weight (S k) μ := by
    intro k hk
    by_cases hb : M = ⊥
    · simp [weight, eb hb k hk]
    · rw [weight_shift (S k) M.toReal μ]
      congr 1
      simp [weight, hb]
  refine ⟨μ, EReal.coe_ne_top μ, em', fun e => absurd e (EReal.coe_ne_bot μ), fun a => ?_, fun d => ?_⟩
  · rw [hl, em, em', exp2_sub M hM, el, Finset.sum_range_add, EReal.coe_add, ← EReal.coe_mul, Finset.mul_sum, EReal.toReal_coe]
    congr 2
    · exact Finset.sum_congr rfl fun j hj => carry _ (by have := Finset.mem_range.mp hj; have := a.isLt; omega)
    · rw [coe_sum, ← Fin.sum_univ_eq_sum_range (fun j => ((weight (S (128 * (n + j) + a)) μ : ℝ) : EReal))]
      refine Finset.sum_congr rfl fun j _ => ?_
      rw [exp2_sub _ (hS _), show 128 * n + (128 * (j : ℕ) + a) = 128 * (n + j) + a by ring]
  · rw [ha, em, em', exp2_sub M hM, ea, Nat.mul_add, Finset.sum_range_add, EReal.coe_add, ← EReal.coe_mul, Finset.mul_sum, EReal.toReal_coe]
    congr 2
    · exact Finset.sum_congr rfl fun k hk => by rw [← mul_assoc, carry k (Finset.mem_range.mp hk)]
    · rw [coe_sum, ← Fin.sum_univ_eq_sum_range (fun k => ((weight (S (128 * n + k)) μ * V (128 * n + k) d : ℝ) : EReal))]
      refine Finset.sum_congr rfl fun k _ => ?_
      rw [em', exp2_sub _ (hS _), EReal.coe_mul]

theorem sum_lanes (n : ℕ) (f : ℕ → ℝ) :
    ∑ a : Fin 128, ∑ j ∈ Finset.range n, f (128 * j + a) = ∑ k ∈ Finset.range (128 * n), f k := by
  induction n with
  | zero => simp
  | succ n ih =>
    have e (a : Fin 128) : ∑ j ∈ Finset.range (n + 1), f (128 * j + a) = ∑ j ∈ Finset.range n, f (128 * j + a) + f (128 * n + a) :=
      Finset.sum_range_succ (fun j => f (128 * j + a)) n
    rw [Finset.sum_congr rfl fun a _ => e a, Finset.sum_add_distrib, ih, Nat.mul_succ, Finset.sum_range_add,
      Fin.sum_univ_eq_sum_range (fun a => f (128 * n + a)) 128]

theorem log_two_pos : (0 : ℝ) < Real.log 2 := Real.log_pos (by norm_num)

theorem exp_sub (x : EReal) (hx : x ≠ ⊤) (μ : ℝ) :
    Ideal.exp (x * (Real.log 2 : EReal) - (μ : EReal)) = (weight x (μ / Real.log 2) : EReal) := by
  induction x with
  | bot =>
    rw [EReal.bot_mul_coe_of_pos log_two_pos]
    simp [weight, exp_bot]
  | top => exact absurd rfl hx
  | coe r =>
    rw [← EReal.coe_mul, ← EReal.coe_sub, exp_coe]
    have : Real.exp (r * Real.log 2 - μ) = (2 : ℝ) ^ (r - μ / Real.log 2) := by
      rw [Real.rpow_def_of_pos (by norm_num)]
      congr 1
      have := log_two_pos.ne'
      field_simp
    simp [weight, this]

/-- The quotient of the running output and the running sum is the softmax's mean of the values; `T` keys in all, those
    not yet seen left out. -/
theorem Row.quotient {S : ℕ → EReal} (hS : ∀ k, S k ≠ ⊤) {V : ℕ → Fin 128 → ℝ} {n : ℕ} {m l acc : Fin 128 → EReal}
    (h : Row S V n m l acc) (T : ℕ) (hn : 128 * n ≤ T) (hout : ∀ k, 128 * n ≤ k → S k = ⊥) (hne : ∃ k < 128 * n, S k ≠ ⊥)
    (d : Fin 128) (X : EReal) (hX : X = Finset.univ.sup fun k : Fin T => S k * (Real.log 2 : EReal)) :
    Ideal.div (acc d) (∑ a, l a) = ∑ k : Fin T, (V k d : EReal)
      * Ideal.div (Ideal.exp (S k * (Real.log 2 : EReal) - X)) (∑ k' : Fin T, Ideal.exp (S k' * (Real.log 2 : EReal) - X)) := by
  obtain ⟨M, hM, em, eb, el, ea⟩ := h
  obtain ⟨k₀, hk₀, hb₀⟩ := hne
  have prod_ne_top : ∀ k, S k * (Real.log 2 : EReal) ≠ ⊤ := by
    intro k
    generalize hx : S k = x
    have := hS k
    rw [hx] at this
    induction x with
    | bot => rw [EReal.bot_mul_coe_of_pos log_two_pos]; simp
    | top => exact absurd rfl this
    | coe r => rw [← EReal.coe_mul]; exact EReal.coe_ne_top _
  have prod_ne_bot : S k₀ * (Real.log 2 : EReal) ≠ ⊥ := by
    generalize hx : S k₀ = x at hb₀
    have := hS k₀
    rw [hx] at this
    induction x with
    | bot => exact absurd rfl hb₀
    | top => exact absurd rfl this
    | coe r => rw [← EReal.coe_mul]; exact EReal.coe_ne_bot _
  have hXt : X ≠ ⊤ := by
    rw [hX, ← lt_top_iff_ne_top, Finset.sup_lt_iff (by simp)]
    exact fun k _ => lt_top_iff_ne_top.mpr (prod_ne_top _)
  have hXb : X ≠ ⊥ := by
    intro e
    have : S k₀ * (Real.log 2 : EReal) ≤ X := hX ▸ Finset.le_sup (f := fun k : Fin T => S k * (Real.log 2 : EReal)) (Finset.mem_univ ⟨k₀, by omega⟩)
    rw [e] at this
    exact prod_ne_bot (le_bot_iff.mp this)
  obtain ⟨ξ, hξ⟩ : ∃ ξ : ℝ, X = (ξ : EReal) := ⟨_, (EReal.coe_toReal hXt hXb).symm⟩
  set ν := ξ / Real.log 2 with hν
  set μ := M.toReal with hμ
  have ex : ∀ k, Ideal.exp (S k * (Real.log 2 : EReal) - X) = (weight (S k) ν : EReal) := fun k => by rw [hξ, exp_sub _ (hS _)]
  have all (f : ℕ → ℝ) (ρ : ℝ) : ∑ k ∈ Finset.range (128 * n), weight (S k) ρ * f k = ∑ k : Fin T, weight (S k) ρ * f k := by
    rw [Fin.sum_univ_eq_sum_range (fun k => weight (S k) ρ * f k)]
    refine Finset.sum_subset (Finset.range_subset_range.mpr hn) fun k _ hk => ?_
    have : S k = ⊥ := hout k (by simpa using hk)
    simp [weight, this]
  have total : ∑ a, l a = ((∑ k : Fin T, weight (S k) μ : ℝ) : EReal) := by
    simp only [el]
    rw [← coe_sum, sum_lanes n fun k => weight (S k) μ]
    have := all (fun _ => 1) μ
    simp only [mul_one] at this
    rw [this]
  have pos (ρ : ℝ) : 0 < ∑ k : Fin T, weight (S k) ρ :=
    Finset.sum_pos' (fun k _ => weight_nonneg _ _) ⟨⟨k₀, by omega⟩, Finset.mem_univ _, weight_pos hb₀ ρ⟩
  have real_div (x y : ℝ) (hy : 0 < y) : Ideal.div (x : EReal) (y : EReal) = ((x / y : ℝ) : EReal) := by
    unfold Ideal.div
    rw [if_neg (by exact_mod_cast hy.ne'), ← EReal.coe_inv, ← EReal.coe_mul, div_eq_mul_inv]
  rw [total, ea, all (fun k => V k d) μ, real_div _ _ (pos μ)]
  simp only [ex]
  rw [← coe_sum]
  simp only [real_div _ _ (pos ν), ← EReal.coe_mul]
  rw [← coe_sum]
  congr 1
  have e1 : ∑ k : Fin T, weight (S k) ν = (2 : ℝ) ^ (μ - ν) * ∑ k : Fin T, weight (S k) μ := by
    rw [Finset.mul_sum]
    exact Finset.sum_congr rfl fun k _ => weight_shift _ _ _
  have hp : (0 : ℝ) < (2 : ℝ) ^ (μ - ν) := by positivity
  rw [Finset.sum_div]
  refine Finset.sum_congr rfl fun k _ => ?_
  rw [e1, weight_shift (S k) μ ν]
  have := (pos μ).ne'
  field_simp

end Cert.Running

end
-- ==== Proof.FlashDRow.lean ====
/- The attention: a row's scores and values, and the state of the row over the blocks of keys. -/
module

public import proofs.«01_k».proof.Proof.FlashDDiag
public import proofs.«01_k».proof.Proof.FlashMath

@[expose] public section

set_option maxRecDepth 65536

noncomputable section

namespace Cert.FlashDIdeal.Flash

open Cert.FlashDIdeal Cert.FlashDIdeal.Gen Idealize.ShloMosaic Idealize.ShloMosaic.TcCoe Idealize.SL.Sem
open Cert.Running

variable {sig : RefSig} [U : Stretch]

/-! ## Scores and values -/

section blocks

variable (x0 : Vec Ideal S1024x512 .bf16) (x1 : Vec Ideal S2x16x256x1024 .bf16) (x2 : Vec Ideal S16384x256 .bf16) (b : ℕ)

/-- The product of a row's query with a key. -/
def dotAt (g : Fin 2) (row : Fin 1024) (k : ℕ) : EReal :=
  ∑ e : Fin 256, x0 (ix2 row ⟨256 * (g : ℕ) + e, by omega⟩) * x1 (ix4 g ⟨k / 1024 % 16, by omega⟩ e ⟨k % 1024, by omega⟩)

/-- The score of a key for a row, a key later than the row's stretch left out. -/
def scoreAt (g : Fin 2) (row : Fin 1024) (k : ℕ) : EReal :=
  if k / unit ≤ (1024 * b + row) / unit then dotAt x0 x1 g row k else ⊥

/-- The values of a head. -/
def valueAt (g : Fin 2) (k : ℕ) (d : Fin 128) : ℝ := (x2 (ix2 ⟨k % 16384, by omega⟩ ⟨128 * (g : ℕ) + d, by omega⟩)).toReal

/-- That all entries are real numbers. -/
def Real3 : Prop := (∀ y, ∃ r : ℝ, x0 y = r) ∧ (∀ y, ∃ r : ℝ, x1 y = r) ∧ ∀ y, ∃ r : ℝ, x2 y = r

variable {x0 x1 x2}

theorem dotAt_real (h : Real3 x0 x1 x2) (g : Fin 2) (row : Fin 1024) (k : ℕ) : ∃ r : ℝ, dotAt x0 x1 g row k = r := by
  choose p hp using h.1
  choose q hq using h.2.1
  refine ⟨∑ e : Fin 256, p (ix2 row ⟨256 * (g : ℕ) + e, by omega⟩) * q (ix4 g ⟨k / 1024 % 16, by omega⟩ e ⟨k % 1024, by omega⟩), ?_⟩
  unfold dotAt
  rw [coe_sum]
  exact Finset.sum_congr rfl fun e _ => by rw [hp, hq, EReal.coe_mul]

theorem scoreAt_ne_top (h : Real3 x0 x1 x2) (g : Fin 2) (row : Fin 1024) (k : ℕ) : scoreAt x0 x1 b g row k ≠ ⊤ := by
  unfold scoreAt
  split_ifs
  · obtain ⟨r, hr⟩ := dotAt_real h g row k
    rw [hr]
    exact EReal.coe_ne_top r
  · exact bot_ne_top

theorem scoreAt_ne_bot (h : Real3 x0 x1 x2) (g : Fin 2) (row : Fin 1024) (k : ℕ) (hk : k / unit ≤ (1024 * b + row) / unit) :
    scoreAt x0 x1 b g row k ≠ ⊥ := by
  unfold scoreAt
  rw [if_pos hk]
  obtain ⟨r, hr⟩ := dotAt_real h g row k
  rw [hr]
  exact EReal.coe_ne_bot r

theorem valueAt_coe (h : Real3 x0 x1 x2) (g : Fin 2) (k : Fin 16384) (d : Fin 128) :
    (valueAt x2 g k d : EReal) = x2 (ix2 k ⟨128 * (g : ℕ) + d, by omega⟩) := by
  unfold valueAt
  have e : (⟨(k : ℕ) % 16384, by omega⟩ : Fin 16384) = k := Fin.ext (Nat.mod_eq_of_lt k.isLt)
  rw [e]
  obtain ⟨r, hr⟩ := h.2.2 (ix2 k ⟨128 * (g : ℕ) + d, by omega⟩)
  rw [hr]
  rfl

end blocks

/-! ## Loads of the staged blocks -/

section loads

variable (arg2 : Memref sig .tc .vmem S1024x512 .bf16) (harg2 : arg2.IsWhole) (arg3 : Memref sig .tc .vmem S2x16x256x1024 .bf16) (harg3 : arg3.IsWhole)
  (arg4 : Memref sig .tc .vmem S16384x256 .bf16) (harg4 : arg4.IsWhole)
  (x0 : Vec Ideal S1024x512 .bf16) (x1 : Vec Ideal S2x16x256x1024 .bf16) (x2 : Vec Ideal S16384x256 .bf16)

theorem load_query (off size : Fin 2 → ℕ) (inb) (x : (Rect.unit (s := S1024x512) off size inb).shape.Idx) (i : S1024x512.Idx)
    (h : ∀ a, (i a : ℕ) = off a + x a) :
    View.readAt (Elt Ideal) arg2.view (Rect.unit (s := S1024x512) off size inb).toLoadRect (harg2.unread x0) x = x0 i :=
  (View.ld_unit_apply_of (arg2.view.read (Elt Ideal) (harg2.unread x0)) off size inb x i h).trans (congrFun (harg2.read_unread x0) i)

theorem load_key (off size : Fin 4 → ℕ) (inb) (x : (Rect.unit (s := S2x16x256x1024) off size inb).shape.Idx) (i : S2x16x256x1024.Idx)
    (h : ∀ a, (i a : ℕ) = off a + x a) :
    View.readAt (Elt Ideal) arg3.view (Rect.unit (s := S2x16x256x1024) off size inb).toLoadRect (harg3.unread x1) x = x1 i :=
  (View.ld_unit_apply_of (arg3.view.read (Elt Ideal) (harg3.unread x1)) off size inb x i h).trans (congrFun (harg3.read_unread x1) i)

theorem load_value (off size : Fin 2 → ℕ) (inb) (x : (Rect.unit (s := S16384x256) off size inb).shape.Idx) (i : S16384x256.Idx)
    (h : ∀ a, (i a : ℕ) = off a + x a) :
    View.readAt (Elt Ideal) arg4.view (Rect.unit (s := S16384x256) off size inb).toLoadRect (harg4.unread x2) x = x2 i :=
  (View.ld_unit_apply_of (arg4.view.read (Elt Ideal) (harg4.unread x2)) off size inb x i h).trans (congrFun (harg4.read_unread x2) i)

variable (i : grid0.Coords)

theorem block_lt : ((i 1 : Fin _) : ℕ) < 16 := (i 1).isLt

theorem trip_lt (k : Fin (k0_t1_loop i).trips) : (k : ℕ) < 15 := Nat.lt_of_lt_of_le k.isLt (k0_t1_abs i).2.1

/-- The four coordinates of a key, in a trip or on the diagonal. -/
theorem key_coord {g q κ : ℕ} (hq : q < 16) (hκ : κ < 1024) (off : Fin 4 → ℕ) (ho : off = ![g, q, 0, 0]) (hg : g < 2) (e : Fin 256) (N : ℕ)
    (x : Fin 4 → ℕ) (hx : x = ![0, 0, (e : ℕ), κ]) (a : Fin 4) :
    ((ix4 (⟨g, hg⟩ : Fin 2) (⟨(1024 * q + κ) / 1024 % 16, by omega⟩ : Fin 16) e (⟨(1024 * q + κ) % 1024, by omega⟩ : Fin 1024) : S2x16x256x1024.Idx) a : ℕ)
      = off a + x a := by
  subst ho hx
  fin_cases a
  · show g = g + 0; omega
  · show (1024 * q + κ) / 1024 % 16 = q + 0; omega
  · show (e : ℕ) = 0 + e; omega
  · show (1024 * q + κ) % 1024 = 0 + κ; omega

theorem tripScores_at (k : Fin (k0_t1_loop i).trips) (g : Fin 2) (row κ : Fin 1024) :
    tripScores i arg2 arg3 (harg2.unread x0) (harg3.unread x1) k g (ix2 row κ) = dotAt x0 x1 g row (1024 * k + κ) := by
  have hk := trip_lt i k
  unfold dotAt
  fin_cases g
  · refine (scores_at _ _ row κ).trans (Finset.sum_congr rfl fun e _ => congrArg₂ (· * ·) ?_ ?_)
    · refine load_query arg2 harg2 x0 _ _ _ (ix2 row e) _ fun a => ?_
      fin_cases a
      · show (row : ℕ) = 0 + row; omega
      · show 256 * 0 + (e : ℕ) = 0 + e; omega
    · exact load_key arg3 harg3 x1 _ _ _ (ix4 (0 : Fin 1) (0 : Fin 1) e κ) _
        (key_coord (by omega) κ.isLt _ (k0_off1_eq i k) (by omega) e 0 _ (by funext a; fin_cases a <;> rfl))
  · refine (scores_at _ _ row κ).trans (Finset.sum_congr rfl fun e _ => congrArg₂ (· * ·) ?_ ?_)
    · refine load_query arg2 harg2 x0 _ _ _ (ix2 row e) _ fun a => ?_
      fin_cases a
      · show (row : ℕ) = 0 + row; omega
      · show 256 * 1 + (e : ℕ) = 256 + e; omega
    · exact load_key arg3 harg3 x1 _ _ _ (ix4 (0 : Fin 1) (0 : Fin 1) e κ) _
        (key_coord (by omega) κ.isLt _ (k0_off3_eq i k) (by omega) e 0 _ (by funext a; fin_cases a <;> rfl))

theorem upScores_at (g : Fin 2) (r κ : Fin 512) :
    upScores i arg2 arg3 (harg2.unread x0) (harg3.unread x1) g (ix2 r κ) = dotAt x0 x1 g (upRow r) (1024 * ((i 1 : Fin _) : ℕ) + κ) := by
  have hb := block_lt i
  unfold dotAt
  fin_cases g
  · refine (scoresUp_at _ _ r κ).trans (Finset.sum_congr rfl fun e _ => congrArg₂ (· * ·) ?_ ?_)
    · refine load_query arg2 harg2 x0 _ _ _ (ix2 r e) _ fun a => ?_
      fin_cases a
      · show (r : ℕ) = 0 + r; omega
      · show 256 * 0 + (e : ℕ) = 0 + e; omega
    · exact load_key arg3 harg3 x1 _ _ _ (ix4 (0 : Fin 1) (0 : Fin 1) e κ) _
        (key_coord hb (by omega) _ (k0_off9_eq i) (by omega) e 0 _ (by funext a; fin_cases a <;> rfl))
  · refine (scoresUp_at _ _ r κ).trans (Finset.sum_congr rfl fun e _ => congrArg₂ (· * ·) ?_ ?_)
    · refine load_query arg2 harg2 x0 _ _ _ (ix2 r e) _ fun a => ?_
      fin_cases a
      · show (r : ℕ) = 0 + r; omega
      · show 256 * 1 + (e : ℕ) = 256 + e; omega
    · exact load_key arg3 harg3 x1 _ _ _ (ix4 (0 : Fin 1) (0 : Fin 1) e κ) _
        (key_coord hb (by omega) _ (k0_off11_eq i) (by omega) e 0 _ (by funext a; fin_cases a <;> rfl))

theorem lowScores_at (g : Fin 2) (r : Fin 512) (κ : Fin 1024) :
    lowScores i arg2 arg3 (harg2.unread x0) (harg3.unread x1) g (ix2 r κ) = dotAt x0 x1 g (lowRow r) (1024 * ((i 1 : Fin _) : ℕ) + κ) := by
  have hb := block_lt i
  unfold dotAt
  fin_cases g
  · refine (scoresLow_at _ _ r κ).trans (Finset.sum_congr rfl fun e _ => congrArg₂ (· * ·) ?_ ?_)
    · refine load_query arg2 harg2 x0 _ _ _ (ix2 r e) _ fun a => ?_
      fin_cases a
      · rfl
      · show 256 * 0 + (e : ℕ) = 0 + e; omega
    · exact load_key arg3 harg3 x1 _ _ _ (ix4 (0 : Fin 1) (0 : Fin 1) e κ) _
        (key_coord hb κ.isLt _ (k0_off13_eq i) (by omega) e 0 _ (by funext a; fin_cases a <;> rfl))
  · refine (scoresLow_at _ _ r κ).trans (Finset.sum_congr rfl fun e _ => congrArg₂ (· * ·) ?_ ?_)
    · refine load_query arg2 harg2 x0 _ _ _ (ix2 r e) _ fun a => ?_
      fin_cases a
      · rfl
      · show 256 * 1 + (e : ℕ) = 256 + e; omega
    · exact load_key arg3 harg3 x1 _ _ _ (ix4 (0 : Fin 1) (0 : Fin 1) e κ) _
        (key_coord hb κ.isLt _ (k0_off15_eq i) (by omega) e 0 _ (by funext a; fin_cases a <;> rfl))

/-- The coordinates of a value. -/
theorem value_coord {g q κ : ℕ} (hq : q < 16) (hκ : κ < 1024) (hg : g < 2) (d : Fin 128) (off : Fin 2 → ℕ) (ho : off = ![1024 * q, 128 * g])
    (x : Fin 2 → ℕ) (hx : x = ![κ, (d : ℕ)]) (a : Fin 2) :
    ((ix2 (⟨(1024 * q + κ) % 16384, by omega⟩ : Fin 16384) (⟨128 * g + d, by omega⟩ : Fin 256) : S16384x256.Idx) a : ℕ) = off a + x a := by
  subst ho hx
  fin_cases a
  · show (1024 * q + κ) % 16384 = 1024 * q + κ; omega
  · rfl

/-- The entry of the values that is a head's value of a key. -/
def valueEntry (g : Fin 2) (k : ℕ) (d : Fin 128) : EReal := x2 (ix2 ⟨k % 16384, by omega⟩ ⟨128 * (g : ℕ) + d, by omega⟩)

theorem valueEntry_coe {x0 : Vec Ideal S1024x512 .bf16} {x1 : Vec Ideal S2x16x256x1024 .bf16} (h : Real3 x0 x1 x2) (g : Fin 2) (k : ℕ) (d : Fin 128) :
    valueEntry x2 g k d = (valueAt x2 g k d : EReal) := by
  unfold valueEntry valueAt
  obtain ⟨r, hr⟩ := h.2.2 (ix2 ⟨k % 16384, by omega⟩ ⟨128 * (g : ℕ) + d, by omega⟩)
  rw [hr]
  rfl

theorem tripValues_at (k : Fin (k0_t1_loop i).trips) (g : Fin 2) (κ : Fin 1024) (d : Fin 128) :
    tripValues i arg4 (harg4.unread x2) k g (ix2 κ d) = valueEntry x2 g (1024 * k + κ) d := by
  have hk := trip_lt i k
  fin_cases g
  · exact load_value arg4 harg4 x2 _ _ _ (ix2 κ d) _ (value_coord (g := 0) (by omega) κ.isLt (by omega) d _ (k0_off2_eq i k) _ (by funext a; fin_cases a <;> rfl))
  · exact load_value arg4 harg4 x2 _ _ _ (ix2 κ d) _ (value_coord (g := 1) (by omega) κ.isLt (by omega) d _ (k0_off4_eq i k) _ (by funext a; fin_cases a <;> rfl))

theorem upValues_at (g : Fin 2) (κ : Fin 512) (d : Fin 128) :
    upValues i arg4 (harg4.unread x2) g (ix2 κ d) = valueEntry x2 g (1024 * ((i 1 : Fin _) : ℕ) + κ) d := by
  have hb := block_lt i
  fin_cases g
  · exact load_value arg4 harg4 x2 _ _ _ (ix2 κ d) _ (value_coord (g := 0) hb (by omega) (by omega) d _ (k0_off10_eq i) _ (by funext a; fin_cases a <;> rfl))
  · exact load_value arg4 harg4 x2 _ _ _ (ix2 κ d) _ (value_coord (g := 1) hb (by omega) (by omega) d _ (k0_off12_eq i) _ (by funext a; fin_cases a <;> rfl))

theorem lowValues_at (g : Fin 2) (κ : Fin 1024) (d : Fin 128) :
    lowValues i arg4 (harg4.unread x2) g (ix2 κ d) = valueEntry x2 g (1024 * ((i 1 : Fin _) : ℕ) + κ) d := by
  have hb := block_lt i
  fin_cases g
  · exact load_value arg4 harg4 x2 _ _ _ (ix2 κ d) _ (value_coord (g := 0) hb κ.isLt (by omega) d _ (k0_off14_eq i) _ (by funext a; fin_cases a <;> rfl))
  · exact load_value arg4 harg4 x2 _ _ _ (ix2 κ d) _ (value_coord (g := 1) hb κ.isLt (by omega) d _ (k0_off16_eq i) _ (by funext a; fin_cases a <;> rfl))

end loads

/-! ## The fills -/

theorem trips_eq : ∀ i : grid0.Coords, (k0_t1_loop i).trips = ((i 1 : Fin _) : ℕ) := by decide +kernel

theorem fill_at (w : FVec Ideal S2x1024x128 .f32) (y : S2x1024x128.Idx) :
    View.canon [(⟨Rect.unit ![0, 0, 0] S2x1024x128.size inb_S2x1024x128_S2x1024x128_0_0_0, w⟩ : View.Piece (Elt Ideal) S2x1024x128 .f32)] y = w y := by
  refine canon_hit (s := S2x1024x128) (e := .f32) ![0, 0, 0] S2x1024x128.size _ w [] y y fun a => ?_
  fin_cases a
  · exact (Nat.zero_add _).symm
  · exact (Nat.zero_add _).symm
  · exact (Nat.zero_add _).symm

theorem fill6_at (y : S2x1024x128.Idx) : View.canon (fill6 (F := Ideal)) y = ⊥ := by
  refine (fill_at _ y).trans ?_
  unfold k0_pay2009
  pointwise [mask_value]

theorem fill7_at (y : S2x1024x128.Idx) : View.canon (fill7 (F := Ideal)) y = 0 := by
  refine (fill_at _ y).trans ?_
  unfold k0_pay2010
  pointwise

theorem fill8_at (y : S2x1024x128.Idx) : View.canon (fill8 (F := Ideal)) y = 0 := by
  refine (fill_at _ y).trans ?_
  unfold k0_pay2011
  pointwise

end Cert.FlashDIdeal.Flash

end
-- ==== Proof.FlashDState.lean ====
/- The attention: what a grid point stores, entry by entry. -/
module

public import proofs.«01_k».proof.Proof.FlashDRow

@[expose] public section

set_option maxRecDepth 65536

noncomputable section

namespace Cert.FlashDIdeal.Flash

open Cert.FlashDIdeal Cert.FlashDIdeal.Gen Idealize.ShloMosaic Idealize.ShloMosaic.TcCoe Idealize.SL.Sem
open Cert.Running

variable {sig : RefSig} [U : Stretch]

section run

variable (i : grid0.Coords) (arg2 : Memref sig .tc .vmem S1024x512 .bf16) (harg2 : arg2.IsWhole)
  (arg3 : Memref sig .tc .vmem S2x16x256x1024 .bf16) (harg3 : arg3.IsWhole) (arg4 : Memref sig .tc .vmem S16384x256 .bf16) (harg4 : arg4.IsWhole)
  (arg6 arg7 arg8 : Memref sig .tc .vmem S2x1024x128 .f32)
  (x0 : Vec Ideal S1024x512 .bf16) (x1 : Vec Ideal S2x16x256x1024 .bf16) (x2 : Vec Ideal S16384x256 .bf16)

/-- The state of a row, read off the stores into the three scratches. -/
def RowAt (g : Fin 2) (row : Fin 1024) (n : ℕ) (L6 L7 L8 : List (View.Piece (Elt Ideal) S2x1024x128 .f32)) : Prop :=
  Row (scoreAt x0 x1 ((i 1 : Fin _) : ℕ) g row) (valueAt x2 g) n (fun a => View.canon L6 (ix3 g row a)) (fun a => View.canon L7 (ix3 g row a))
    fun d => View.canon L8 (ix3 g row d)

theorem row_fills (g : Fin 2) (row : Fin 1024) : RowAt i x0 x1 x2 g row 0 fill6 fill7 fill8 := by
  unfold RowAt
  simp only [fill6_at, fill7_at, fill8_at]
  exact Row.zero _ _

/-- One trip. -/
theorem row_trip (hr : Real3 x0 x1 x2) (g : Fin 2) (row : Fin 1024) (k : Fin (k0_t1_loop i).trips)
    (L6 L7 L8 : List (View.Piece (Elt Ideal) S2x1024x128 .f32)) (h : RowAt i x0 x1 x2 g row (8 * (k : ℕ)) L6 L7 L8)
    (f6 : BufTy.Contents (Elt Ideal) arg6.view.ty) (f7 : BufTy.Contents (Elt Ideal) arg7.view.ty) (f8 : BufTy.Contents (Elt Ideal) arg8.view.ty)
    (h6 : ∀ y, arg6.view.read (Elt Ideal) f6 y = View.canon L6 y) (h7 : ∀ y, arg7.view.read (Elt Ideal) f7 y = View.canon L7 y)
    (h8 : ∀ y, arg8.view.read (Elt Ideal) f8 y = View.canon L8 y) :
    RowAt i x0 x1 x2 g row (8 * ((k : ℕ) + 1))
      (mPieces i arg2 arg3 arg6 (harg2.unread x0) (harg3.unread x1) k f6 ++ L6)
      (lPieces i arg2 arg3 arg6 arg7 (harg2.unread x0) (harg3.unread x1) k f6 f7 ++ L7)
      (accPieces i arg2 arg3 arg4 arg6 arg8 (harg2.unread x0) (harg3.unread x1) (harg4.unread x2) k f6 f8 ++ L8) := by
  have hk : (k : ℕ) < ((i 1 : Fin _) : ℕ) := Nat.lt_of_lt_of_eq k.isLt (trips_eq i)
  have seen (κ : ℕ) (hκ : κ < 1024) : (128 * (8 * (k : ℕ)) + κ) / unit ≤ (1024 * ((i 1 : Fin _) : ℕ) + row) / unit := by
    refine Nat.div_le_div_right ?_
    omega
  have hs (κ : Fin 1024) : tripScores i arg2 arg3 (harg2.unread x0) (harg3.unread x1) k g (ix2 row κ)
      = scoreAt x0 x1 ((i 1 : Fin _) : ℕ) g row (128 * (8 * (k : ℕ)) + κ) := by
    rw [tripScores_at, scoreAt, if_pos (seen κ κ.isLt), show 128 * (8 * (k : ℕ)) = 1024 * k by ring]
  have hM (a : Fin 128) : tripMax i arg2 arg3 arg6 (harg2.unread x0) (harg3.unread x1) k f6 g row a
      = max (View.canon L6 (ix3 g row a)) (Finset.univ.sup fun κ : Fin (128 * 8) => scoreAt x0 x1 ((i 1 : Fin _) : ℕ) g row (128 * (8 * (k : ℕ)) + κ)) := by
    unfold tripMax
    rw [h6]
    simp only [hs]
  unfold RowAt at h ⊢
  refine h.step (scoreAt_ne_top _ hr g row) 8 ⟨0, by omega, scoreAt_ne_bot _ hr g row _ (seen 0 (by omega))⟩ (fun a => ?_) (fun a => ?_) fun d => ?_
  · rw [trip_m_at, hM]
  · rw [trip_m_at, trip_l_at, h6, h7]
    simp only [hs]
  · rw [trip_m_at, trip_acc_at, h6, h8]
    simp only [hs, trip_m_at, tripValues_at, valueEntry_coe x2 hr]
    rw [show 1024 * (k : ℕ) = 128 * (8 * (k : ℕ)) by ring]

/-- The row's state after the trips. -/
theorem row_trips (hr : Real3 x0 x1 x2) (g : Fin 2) (row : Fin 1024) (n : ℕ) (hn : n ≤ (k0_t1_loop i).trips) :
    RowAt i x0 x1 x2 g row (8 * n) (carried i arg2 arg3 arg4 arg6 arg7 arg8 (harg2.unread x0) (harg3.unread x1) (harg4.unread x2) n).1 (carried i arg2 arg3 arg4 arg6 arg7 arg8 (harg2.unread x0) (harg3.unread x1) (harg4.unread x2) n).2.1 (carried i arg2 arg3 arg4 arg6 arg7 arg8 (harg2.unread x0) (harg3.unread x1) (harg4.unread x2) n).2.2 := by
  induction n with
  | zero => exact row_fills i x0 x1 x2 g row
  | succ n ih =>
    unfold carried
    rw [dif_pos (show n < (k0_t1_loop i).trips from hn)]
    exact row_trip i arg2 harg2 arg3 harg3 arg4 harg4 arg6 arg7 arg8 x0 x1 x2 hr g row ⟨n, hn⟩ _ _ _ (ih (by omega)) _ _ _
      (fun y => congrFun (View.read_writes_junk_eq_canon _ _) y) (fun y => congrFun (View.read_writes_junk_eq_canon _ _) y)
      (fun y => congrFun (View.read_writes_junk_eq_canon _ _) y)

section diagonal

variable (L6 L7 L8 : List (View.Piece (Elt Ideal) S2x1024x128 .f32))

/-- The diagonal, for a row of the upper half: 512 keys. -/
theorem row_up (hr : Real3 x0 x1 x2) (g : Fin 2) (r : Fin 512) (h : RowAt i x0 x1 x2 g (upRow r) (8 * ((i 1 : Fin _) : ℕ)) L6 L7 L8) :
    Row (scoreAt x0 x1 ((i 1 : Fin _) : ℕ) g (upRow r)) (valueAt x2 g) (8 * ((i 1 : Fin _) : ℕ) + 4)
      (fun a => upMax i arg2 arg3 (harg2.unread x0) (harg3.unread x1) L6 g r a)
      (fun a => View.canon (lChain i arg2 arg3 arg6 arg7 (harg2.unread x0) (harg3.unread x1) L6 L7 64) (ix3 g (upRow r) a))
      (fun d => View.canon (accChain i arg2 arg3 arg4 arg6 arg8 (harg2.unread x0) (harg3.unread x1) (harg4.unread x2) L6 L8) (ix3 g (upRow r) d)) := by
  have hs (κ : Fin 512) : upScore i arg2 arg3 (harg2.unread x0) (harg3.unread x1) g r κ
      = scoreAt x0 x1 ((i 1 : Fin _) : ℕ) g (upRow r) (128 * (8 * ((i 1 : Fin _) : ℕ)) + κ) := by
    unfold upScore scoreAt
    rw [upScores_at, show 128 * (8 * ((i 1 : Fin _) : ℕ)) = 1024 * ((i 1 : Fin _) : ℕ) by ring]
    refine if_congr ?_ rfl rfl
    exact unit_shift _ _ _
  unfold RowAt at h
  refine h.step (scoreAt_ne_top _ hr g _) 4 ⟨0, by omega, scoreAt_ne_bot _ hr g _ _ (Nat.div_le_div_right ?_)⟩ (fun a => ?_) (fun a => ?_) fun d => ?_
  · omega
  · unfold upMax
    simp only [hs]
  · rw [l_up]
    simp only [hs]
  · rw [acc_up]
    simp only [hs, upValues_at, valueEntry_coe x2 hr]
    rw [show 1024 * ((i 1 : Fin _) : ℕ) = 128 * (8 * ((i 1 : Fin _) : ℕ)) by ring]

/-- The diagonal, for a row of the lower half: all 1024 keys. -/
theorem row_low (hr : Real3 x0 x1 x2) (g : Fin 2) (r : Fin 512) (h : RowAt i x0 x1 x2 g (lowRow r) (8 * ((i 1 : Fin _) : ℕ)) L6 L7 L8) :
    Row (scoreAt x0 x1 ((i 1 : Fin _) : ℕ) g (lowRow r)) (valueAt x2 g) (8 * ((i 1 : Fin _) : ℕ) + 8)
      (fun a => lowMax i arg2 arg3 (harg2.unread x0) (harg3.unread x1) L6 g r a)
      (fun a => View.canon (lChain i arg2 arg3 arg6 arg7 (harg2.unread x0) (harg3.unread x1) L6 L7 64) (ix3 g (lowRow r) a))
      (fun d => View.canon (accChain i arg2 arg3 arg4 arg6 arg8 (harg2.unread x0) (harg3.unread x1) (harg4.unread x2) L6 L8) (ix3 g (lowRow r) d)) := by
  have hs (κ : Fin 1024) : lowScore i arg2 arg3 (harg2.unread x0) (harg3.unread x1) g r κ
      = scoreAt x0 x1 ((i 1 : Fin _) : ℕ) g (lowRow r) (128 * (8 * ((i 1 : Fin _) : ℕ)) + κ) := by
    unfold lowScore scoreAt
    rw [lowScores_at, show 128 * (8 * ((i 1 : Fin _) : ℕ)) = 1024 * ((i 1 : Fin _) : ℕ) by ring]
    refine if_congr ?_ rfl rfl
    exact unit_shift _ _ _
  unfold RowAt at h
  refine h.step (scoreAt_ne_top _ hr g _) 8 ⟨0, by omega, scoreAt_ne_bot _ hr g _ _ (Nat.div_le_div_right ?_)⟩ (fun a => ?_) (fun a => ?_) fun d => ?_
  · omega
  · unfold lowMax
    simp only [hs]
  · rw [l_low]
    simp only [hs]
  · rw [acc_low]
    simp only [hs, lowValues_at, valueEntry_coe x2 hr]
    rw [show 1024 * ((i 1 : Fin _) : ℕ) = 128 * (8 * ((i 1 : Fin _) : ℕ)) by ring]

end diagonal

/-- The softmax's mean of a head's values, for a row. -/
def meanAt (g : Fin 2) (row : Fin 1024) (d : Fin 128) : EReal :=
  let S := scoreAt x0 x1 ((i 1 : Fin _) : ℕ) g row
  let X := Finset.univ.sup fun k : Fin 16384 => S k * (Real.log 2 : EReal)
  ∑ k : Fin 16384, x2 (ix2 k ⟨128 * (g : ℕ) + d, by omega⟩)
    * Ideal.div (Ideal.exp (S k * (Real.log 2 : EReal) - X)) (∑ k' : Fin 16384, Ideal.exp (S k' * (Real.log 2 : EReal) - X))

theorem later_left_out (g : Fin 2) (row : Fin 1024) (k : ℕ) (hk : (1024 * ((i 1 : Fin _) : ℕ) + row) / unit < k / unit) :
    scoreAt x0 x1 ((i 1 : Fin _) : ℕ) g row k = ⊥ := by
  unfold scoreAt
  rw [if_neg (Nat.not_le.mpr hk)]

/-- A quotient of a row's state is the mean, once the keys left are left out. -/
theorem mean_of_row (hr : Real3 x0 x1 x2) (g : Fin 2) (row : Fin 1024) (n : ℕ) {m l acc : Fin 128 → EReal}
    (h : Row (scoreAt x0 x1 ((i 1 : Fin _) : ℕ) g row) (valueAt x2 g) n m l acc) (h0 : 0 < n) (hn : 128 * n ≤ 16384)
    (hlast : ∀ k, 128 * n ≤ k → (1024 * ((i 1 : Fin _) : ℕ) + row) / unit < k / unit) (d : Fin 128) :
    Ideal.div (acc d) (∑ a, l a) = meanAt i x0 x1 x2 g row d := by
  refine (h.quotient (scoreAt_ne_top _ hr g row) 16384 hn (fun k hk => later_left_out i x0 x1 g row k (hlast k hk))
    ⟨0, by omega, scoreAt_ne_bot _ hr g row 0 (by simp)⟩ d _ rfl).trans ?_
  unfold meanAt
  exact Finset.sum_congr rfl fun k _ => by rw [valueAt_coe hr]

theorem canon_out (w1 w0 : S1024x128.Idx → EReal) (g : Fin 2) (row : Fin 1024) (d : Fin 128) :
    View.canon [(⟨Rect.unit ![0, 128] S1024x128.size inb_S1024x256_S1024x128_0_128, w1⟩ : View.Piece (Elt Ideal) S1024x256 .bf16),
      ⟨Rect.unit ![0, 0] S1024x128.size inb_S1024x256_S1024x128_0_0, w0⟩] (ix2 row ⟨128 * (g : ℕ) + d, by omega⟩) = (![w0, w1] : Fin 2 → _) g (ix2 row d) := by
  fin_cases g
  · refine (canon_miss (s := S1024x256) (e := .bf16) ![0, 128] S1024x128.size _ w1 _ _ (1 : Fin 2) (Or.inl ?_)).trans ?_
    · show 128 * 0 + (d : ℕ) < 128; omega
    · refine canon_hit (s := S1024x256) (e := .bf16) ![0, 0] S1024x128.size _ w0 _ _ (ix2 row d) fun a => ?_
      fin_cases a
      · exact (Nat.zero_add _).symm
      · show 128 * 0 + (d : ℕ) = 0 + d; omega
  · refine canon_hit (s := S1024x256) (e := .bf16) ![0, 128] S1024x128.size _ w1 _ _ (ix2 row d) fun a => ?_
    fin_cases a
    · exact (Nat.zero_add _).symm
    · rfl

/-- What a grid point stores, entry by entry. -/
theorem out_at (hr : Real3 x0 x1 x2) (g : Fin 2) (row : Fin 1024) (d : Fin 128) :
    View.canon (outPieces i arg2 arg3 arg4 arg6 arg7 arg8 (harg2.unread x0) (harg3.unread x1) (harg4.unread x2)
        (carried i arg2 arg3 arg4 arg6 arg7 arg8 (harg2.unread x0) (harg3.unread x1) (harg4.unread x2) (k0_t1_loop i).trips).1
        (carried i arg2 arg3 arg4 arg6 arg7 arg8 (harg2.unread x0) (harg3.unread x1) (harg4.unread x2) (k0_t1_loop i).trips).2.1
        (carried i arg2 arg3 arg4 arg6 arg7 arg8 (harg2.unread x0) (harg3.unread x1) (harg4.unread x2) (k0_t1_loop i).trips).2.2) (ix2 row ⟨128 * (g : ℕ) + d, by omega⟩)
      = meanAt i x0 x1 x2 g row d := by
  have hb := block_lt i
  have hrow := row_trips i arg2 harg2 arg3 harg3 arg4 harg4 arg6 arg7 arg8 x0 x1 x2 hr g row _ le_rfl
  unfold outPieces
  generalize (carried i arg2 arg3 arg4 arg6 arg7 arg8 (harg2.unread x0) (harg3.unread x1) (harg4.unread x2) (k0_t1_loop i).trips).1 = L6 at hrow ⊢
  generalize (carried i arg2 arg3 arg4 arg6 arg7 arg8 (harg2.unread x0) (harg3.unread x1) (harg4.unread x2) (k0_t1_loop i).trips).2.1 = L7 at hrow ⊢
  generalize (carried i arg2 arg3 arg4 arg6 arg7 arg8 (harg2.unread x0) (harg3.unread x1) (harg4.unread x2) (k0_t1_loop i).trips).2.2 = L8 at hrow ⊢
  rw [trips_eq i] at hrow
  have hq : ∀ g' : Fin 2, quotient (arg7.view.readCov (lChain i arg2 arg3 arg6 arg7 (harg2.unread x0) (harg3.unread x1) L6 L7 64) (headRect g').toLoadRect)
      (arg8.view.readCov (accChain i arg2 arg3 arg4 arg6 arg8 (harg2.unread x0) (harg3.unread x1) (harg4.unread x2) L6 L8) (headRect g').toLoadRect) (ix2 row d)
      = Ideal.div (View.canon (accChain i arg2 arg3 arg4 arg6 arg8 (harg2.unread x0) (harg3.unread x1) (harg4.unread x2) L6 L8) (ix3 g' row d))
        (∑ a : Fin 128, View.canon (lChain i arg2 arg3 arg6 arg7 (harg2.unread x0) (harg3.unread x1) L6 L7 64) (ix3 g' row a)) := by
    intro g'
    refine (quotient_at _ _ row d).trans (congrArg₂ Ideal.div (found_head arg8.view _ g' row d) ?_)
    exact Finset.sum_congr rfl fun a _ => found_head arg7.view _ g' row a
  refine (canon_out _ _ g row d).trans (Eq.trans (b := Ideal.div (View.canon (accChain i arg2 arg3 arg4 arg6 arg8 (harg2.unread x0) (harg3.unread x1) (harg4.unread x2) L6 L8) (ix3 g row d))
        (∑ a : Fin 128, View.canon (lChain i arg2 arg3 arg6 arg7 (harg2.unread x0) (harg3.unread x1) L6 L7 64) (ix3 g row a))) ?_ ?_)
  · fin_cases g
    · exact hq 0
    · exact hq 1
  · rcases Nat.lt_or_ge (row : ℕ) 512 with hlt | hge
    · obtain ⟨r, rfl⟩ : ∃ r : Fin 512, row = upRow r := ⟨⟨row, hlt⟩, rfl⟩
      refine mean_of_row i x0 x1 x2 hr g (upRow r) _ (row_up i arg2 harg2 arg3 harg3 arg4 harg4 arg6 arg7 arg8 x0 x1 x2 L6 L7 L8 hr g r hrow) (by omega) (by omega) (fun k hk => unit_later ?_ hk) d
      show 1024 * ((i 1 : Fin _) : ℕ) + (r : ℕ) < _
      omega
    · obtain ⟨r, rfl⟩ : ∃ r : Fin 512, row = lowRow r := ⟨⟨row - 512, by omega⟩, Fin.ext (by show (row : ℕ) = 512 + (row - 512); omega)⟩
      refine mean_of_row i x0 x1 x2 hr g (lowRow r) _ (row_low i arg2 harg2 arg3 harg3 arg4 harg4 arg6 arg7 arg8 x0 x1 x2 L6 L7 L8 hr g r hrow) (by omega) (by omega) (fun k hk => unit_later ?_ hk) d
      show 1024 * ((i 1 : Fin _) : ℕ) + (512 + (r : ℕ)) < _
      omega

end run

end Cert.FlashDIdeal.Flash

end
-- ==== Proof.FlashDRef.lean ====
/- The attention, plainly: its entries, and the reference's result of the last branch. -/
module

public import proofs.«01_k».proof.Proof.FlashStretch
public import proofs.«01_k».proof.Proof.Gen.FlashDRefIdeal.Run
public import Idealize.ShloMosaic.Lib.Pointwise
public import Idealize.ShloMosaic.Lib.Tactic
public import Idealize.ShloMosaic.Lib.WordCmp
public import Idealize.ShloMosaic.Lib.Routing.Words

@[expose] public section

set_option maxRecDepth 65536

noncomputable section

namespace Cert.FlashDRefIdeal.Attn

open Cert.FlashDRefIdeal Cert.FlashDRefIdeal.Gen Idealize.ShloMosaic
open Cert.Running

variable [U : Stretch]

/-- The stretch of each position. -/
abbrev stretch : IVec S16384 32 := Routing.pyDiv bcast_S_S16384 (iotaInDim S16384 32 0) (constantI S_ 32 (BitVec.ofNat 32 unit))

/-- The logits, those of later stretches left out. -/
def logits (q : FVec Ideal S16384x2048 .bf16) (kt : FVec Ideal S8x16x256x1024 .bf16) : FVec Ideal S8x16384x16384 .f32 :=
  select (broadcastInDim S8x16384x16384 ![0, 1, 2] bcast_S1x16384x16384_S8x16384x16384_0_1_2
      (broadcastInDim S1x16384x16384 ![1, 2] bcast_S16384x16384_S1x16384x16384_1_2
        (cmpi .sle (broadcastInDim S16384x16384 ![0, 1] bcast_S1x16384_S16384x16384_0_1 (broadcastInDim S1x16384 ![1] bcast_S16384_S1x16384_1 stretch))
          (broadcastInDim S16384x16384 ![0, 1] bcast_S16384x1_S16384x16384_0_1 (broadcastInDim S16384x1 ![0] bcast_S16384_S16384x1_0 stretch)))))
    (mulf (Host.dotGeneral dot_S16384x8x256_S8x16384x256_S8x16384x16384_2_2_0_1_1_0 none
        (shapeCast _ (extf .f32 q bitsLt_bf16_f32) shapeCasts_S16384x2048_S16384x8x256)
        (shapeCast _ (transpose S8x16x1024x256 [0, 1, 3, 2] (extf .f32 kt bitsLt_bf16_f32) transposes_S8x16x256x1024_S8x16x1024x256_0_1_3_2)
          shapeCasts_S8x16x1024x256_S8x16384x256))
      (broadcastInDim S8x16384x16384 ![] bcast_S_S8x16384x16384 (Host.log (constant S_ .f32 0x40000000#32))))
    (broadcastInDim S8x16384x16384 ![] bcast_S_S8x16384x16384 (id (constant S_ .f32 0xFF800000#32)))

/-- A row's number for each of its columns. -/
def across (X : FVec Ideal S8x16384 .f32) : FVec Ideal S8x16384x16384 .f32 :=
  broadcastInDim S8x16384x16384 ![0, 1, 2] bcast_S8x16384x1_S8x16384x16384_0_1_2 (broadcastInDim S8x16384x1 ![0, 1] bcast_S8x16384_S8x16384x1_0_1 X)

/-- A row's maximum. -/
def rowMax (M : FVec Ideal S8x16384x16384 .f32) : FVec Ideal S8x16384 .f32 :=
  Host.reduce FloatOps.maximumf M (constant S_ .f32 0xFF800000#32) reducesTo_S8x16384x16384_S8x16384_d2 h_S_

/-- The same, not below the least number. -/
def above (X : FVec Ideal S8x16384 .f32) : FVec Ideal S8x16384 .f32 :=
  maximumf (broadcastInDim S8x16384 ![] bcast_S_S8x16384 (constant S_ .f32 0xFF800000#32)) X

/-- The exponentials of the logits less their row's maximum. -/
def exps (M : FVec Ideal S8x16384x16384 .f32) : FVec Ideal S8x16384x16384 .f32 :=
  Host.exp (subf M (across (above (rowMax M))))

/-- The mean of the values under the softmax. -/
def mean (v : FVec Ideal S16384x1024 .bf16) (E : FVec Ideal S8x16384x16384 .f32) : FVec Ideal S16384x1024 .bf16 :=
  truncf .bf16 (shapeCast _ (transpose S16384x8x128 [2, 0, 1] (Host.dotGeneral dot_S16384x8x128_S8x16384x16384_S8x128x16384_0_2_2_1_1_0 none
    (shapeCast _ (extf .f32 v bitsLt_bf16_f32) shapeCasts_S16384x1024_S16384x8x128)
    (Host.divf E (across (Host.reduceAdd E (constant S_ .f32 0x00000000#32) reducesTo_S8x16384x16384_S8x16384_d2 h_S_))))
    transposes_S8x128x16384_S16384x8x128_2_0_1) shapeCasts_S16384x8x128_S16384x1024) bitsLt_bf16_f32

def plain (q : FVec Ideal S16384x2048 .bf16) (kt : FVec Ideal S8x16x256x1024 .bf16) (v : FVec Ideal S16384x1024 .bf16) : FVec Ideal S16384x1024 .bf16 :=
  mean v (exps (logits q kt))

omit U in
theorem result (m : (ℓ : Loc nD τ sig) → Buf (Elt Ideal) ℓ) (c : Dev nD) :
    Value.res_out0 m c = plain (U := byStretch) (m ((c.tc : Thread nD τ).loc main_arg0)) (m ((c.tc : Thread nD τ).loc main_arg1)) (m ((c.tc : Thread nD τ).loc main_arg2)) := by
  sl_kernel_rfl

theorem stretch_at (k : Fin 16384) : stretch (ix1 k) = BitVec.ofNat 32 ((k : ℕ) / unit) := by
  have h1 := unit_pos
  have h2 := unit_le
  exact Routing.pyDiv_ap _ _ _ (ix1 k) (a := k) (b := unit) rfl rfl (by omega) (by omega) (by omega)

theorem two : Ideal.ofBits .f32 0x40000000#32 = ((2 : ℝ) : EReal) := by
  have h1 : BitVec.extractLsb' 31 1 1073741824#32 = 0#1 := by decide
  have h2 : (1073741824 >>> 23 % 256 : ℕ) = 128 := by decide
  norm_num [Ideal.ofBits, Ideal.ieee, h1, h2]

theorem log_two : Ideal.log (Ideal.ofBits .f32 0x40000000#32) = (Real.log 2 : EReal) := by
  rw [two]
  show (if (2 : ℝ) ≤ 0 then ⊥ else ((Real.log 2 : ℝ) : EReal)) = _
  rw [if_neg (by norm_num)]

theorem neg_inf : Ideal.ofBits .f32 0xFF800000#32 = ⊥ := by
  simp [Ideal.ofBits, Ideal.ieee]

theorem logits_at (q : FVec Ideal S16384x2048 .bf16) (kt : FVec Ideal S8x16x256x1024 .bf16) (h : Fin 8) (r k : Fin 16384) :
    logits q kt (ix3 h r k) = if (k : ℕ) / unit ≤ (r : ℕ) / unit
      then (∑ e : Fin 256, q (ix2 r ⟨256 * (h : ℕ) + e, by omega⟩) * kt (ix4 h ⟨k / 1024, by omega⟩ e ⟨k % 1024, by omega⟩)) * (Real.log 2 : EReal) else ⊥ := by
  unfold logits
  pointwise [stretch_at, log_two, neg_inf]
  rw [WordCmp.cmpi_sle_ofNat (lt_of_le_of_lt (Nat.div_le_self _ _) (by omega)) (lt_of_le_of_lt (Nat.div_le_self _ _) (by omega)), show id (constant (F := Ideal) S_ .f32 0xFF800000#32) ix0 = (⊥ : EReal) from neg_inf]
  simp only [Nat.mul_comm (h : ℕ) 256]
  by_cases hk : (k : ℕ) / unit ≤ (r : ℕ) / unit <;> simp [hk, Scalar.select]

theorem across_at (X : FVec Ideal S8x16384 .f32) (h : Fin 8) (r k : Fin 16384) : across X (ix3 h r k) = X (ix2 h r) := by
  unfold across
  pointwise

theorem above_at (X : FVec Ideal S8x16384 .f32) (y : S8x16384.Idx) : above X y = X y := by
  show max (Ideal.ofBits .f32 0xFF800000#32) (X y) = X y
  rw [neg_inf]
  exact max_eq_right bot_le

theorem fold_max {n : ℕ} (f : Fin n → EReal) : Finset.fold max (⊥ : EReal) f Finset.univ = Finset.univ.sup f := rfl

theorem rowMax_at (M : FVec Ideal S8x16384x16384 .f32) (h : Fin 8) (r : Fin 16384) :
    rowMax M (ix2 h r) = Finset.univ.sup fun k : Fin 16384 => M (ix3 h r k) := by
  unfold rowMax
  rw [Host.reduce_eq_fold, Shape.ReducesTo.fold_fiber_r3_a2]
  refine Eq.trans ?_ (fold_max fun k : Fin 16384 => M (ix3 h r k))
  rw [← neg_inf]
  rfl

theorem exps_at (M : FVec Ideal S8x16384x16384 .f32) (h : Fin 8) (r k : Fin 16384) :
    exps M (ix3 h r k) = Ideal.exp (M (ix3 h r k) - Finset.univ.sup fun k' : Fin 16384 => M (ix3 h r k')) := by
  rw [← rowMax_at, ← above_at (rowMax M), ← across_at (above (rowMax M)) h r k]
  rfl

theorem mean_at (v : FVec Ideal S16384x1024 .bf16) (E : FVec Ideal S8x16384x16384 .f32) (r : Fin 16384) (h : Fin 8) (d : Fin 128) :
    mean v E (ix2 r ⟨128 * (h : ℕ) + d, by omega⟩)
      = ∑ k : Fin 16384, v (ix2 k ⟨128 * (h : ℕ) + d, by omega⟩) * Ideal.div (E (ix3 h r k)) (∑ k' : Fin 16384, E (ix3 h r k')) := by
  unfold mean
  pointwise [across_at]
  refine Finset.sum_congr rfl fun k _ => ?_
  simp only [Nat.mul_comm]

end Cert.FlashDRefIdeal.Attn

end
-- ==== Proof.FlashBlocks.lean ====
/- The attention: what a grid point stores, where its blocks are those of the arrays. -/
module

public import proofs.«01_k».proof.Proof.FlashDState
public import proofs.«01_k».proof.Proof.FlashDRef

@[expose] public section

set_option maxRecDepth 65536

noncomputable section

namespace Cert.FlashDIdeal.Flash

open Cert.FlashDIdeal Cert.FlashDIdeal.Gen Idealize.ShloMosaic Idealize.ShloMosaic.TcCoe Idealize.SL.Sem
open Cert.Running
open Cert.FlashDRefIdeal.Attn (plain logits exps mean logits_at exps_at mean_at)

variable [U : Stretch]

/-- A row's mean over a grid point's blocks is the plain attention, where the blocks are those of the arrays. -/
theorem meanAt_eq (i : grid0.Coords) (x0 : Vec Ideal S1024x512 .bf16) (x1 : Vec Ideal S2x16x256x1024 .bf16) (x2 : Vec Ideal S16384x256 .bf16)
    (q : FVec Ideal S16384x2048 .bf16) (kt : FVec Ideal S8x16x256x1024 .bf16) (v : FVec Ideal S16384x1024 .bf16)
    (g : Fin 2) (row : Fin 1024) (d : Fin 128) (r : Fin 16384) (H : Fin 8) (hr : (r : ℕ) = 1024 * ((i 1 : Fin _) : ℕ) + row)
    (hq : ∀ e : Fin 256, x0 (ix2 row ⟨256 * (g : ℕ) + e, by omega⟩) = q (ix2 r ⟨256 * (H : ℕ) + e, by omega⟩))
    (hk : ∀ (j : Fin 16) (e : Fin 256) (l : Fin 1024), x1 (ix4 g j e l) = kt (ix4 H j e l))
    (hv : ∀ k : Fin 16384, x2 (ix2 k ⟨128 * (g : ℕ) + d, by omega⟩) = v (ix2 k ⟨128 * (H : ℕ) + d, by omega⟩)) :
    meanAt i x0 x1 x2 g row d = plain q kt v (ix2 r ⟨128 * (H : ℕ) + d, by omega⟩) := by
  have hl : ∀ k : Fin 16384, scoreAt x0 x1 ((i 1 : Fin _) : ℕ) g row k * (Real.log 2 : EReal) = logits q kt (ix3 H r k) := by
    intro k
    rw [logits_at, hr]
    unfold scoreAt
    split_ifs
    · refine congrArg (· * (Real.log 2 : EReal)) ?_
      unfold dotAt
      refine Finset.sum_congr rfl fun e _ => ?_
      rw [hq, hk]
      have e1 : (⟨(k : ℕ) / 1024 % 16, by omega⟩ : Fin 16) = ⟨(k : ℕ) / 1024, by omega⟩ := Fin.ext (Nat.mod_eq_of_lt (by omega))
      rw [e1]
    · exact EReal.bot_mul_coe_of_pos log_two_pos
  unfold plain
  rw [mean_at]
  unfold meanAt
  simp only [hl, hv, exps_at]

/-- An index of the output block: a row, one of the two heads, and a column of the head. -/
theorem split_block (y : S1024x256.Idx) : ∃ (row : Fin 1024) (g : Fin 2) (d : Fin 128), y = ix2 row ⟨128 * (g : ℕ) + d, by omega⟩ := by
  have hy : (y 1 : ℕ) < 256 := (y 1).isLt
  exact ⟨y 0, ⟨(y 1 : ℕ) / 128, by omega⟩, ⟨(y 1 : ℕ) % 128, by omega⟩, (eq_ix2 y).trans (congrArg (ix2 (y 0))
    (Fin.ext (by show (y 1 : ℕ) = 128 * ((y 1 : ℕ) / 128) + (y 1 : ℕ) % 128; omega)))⟩

section arrays

variable (q : FVec Ideal S16384x2048 .bf16) (kt : FVec Ideal S8x16x256x1024 .bf16) (v : FVec Ideal S16384x1024 .bf16)

/-- That the arrays hold real numbers. -/
def Reals : Prop := (∀ y, ∃ r : ℝ, q y = (r : EReal)) ∧ (∀ y, ∃ r : ℝ, kt y = (r : EReal)) ∧ ∀ y, ∃ r : ℝ, v y = (r : EReal)

/-- That the blocks are those of rows' block `n` and of pair `j` of heads. -/
structure Blocks (n j : ℕ) (hn : n < 16) (hj : j < 4) (x0 : Vec Ideal S1024x512 .bf16) (x1 : Vec Ideal S2x16x256x1024 .bf16)
    (x2 : Vec Ideal S16384x256 .bf16) : Prop where
  query : ∀ (a : Fin 1024) (b : Fin 512), x0 (ix2 a b) = q (ix2 ⟨1024 * n + a, by omega⟩ ⟨512 * j + b, by omega⟩)
  key : ∀ (g : Fin 2) (p : Fin 16) (e : Fin 256) (l : Fin 1024), x1 (ix4 g p e l) = kt (ix4 ⟨2 * j + g, by omega⟩ p e l)
  value : ∀ (k : Fin 16384) (b : Fin 256), x2 (ix2 k b) = v (ix2 k ⟨256 * j + b, by omega⟩)

variable {q kt v} {n j : ℕ} {hn : n < 16} {hj : j < 4} {x0 : Vec Ideal S1024x512 .bf16} {x1 : Vec Ideal S2x16x256x1024 .bf16}
  {x2 : Vec Ideal S16384x256 .bf16}

omit U in
theorem Blocks.real (B : Blocks q kt v n j hn hj x0 x1 x2) (h : Reals q kt v) : Real3 x0 x1 x2 :=
  ⟨fun y => by obtain ⟨r, hr⟩ := h.1 _; exact ⟨r, ((congrArg x0 (eq_ix2 y)).trans (B.query (y 0) (y 1))).trans hr⟩,
    fun y => by obtain ⟨r, hr⟩ := h.2.1 _; exact ⟨r, ((congrArg x1 (eq_ix4 y)).trans (B.key (y 0) (y 1) (y 2) (y 3))).trans hr⟩,
    fun y => by obtain ⟨r, hr⟩ := h.2.2 _; exact ⟨r, ((congrArg x2 (eq_ix2 y)).trans (B.value (y 0) (y 1))).trans hr⟩⟩

theorem Blocks.mean (B : Blocks q kt v n j hn hj x0 x1 x2) (i : grid0.Coords) (hi : ((i 1 : Fin _) : ℕ) = n) (g : Fin 2) (row : Fin 1024) (d : Fin 128) :
    meanAt i x0 x1 x2 g row d = plain q kt v (ix2 ⟨1024 * n + row, by omega⟩ ⟨256 * j + (128 * (g : ℕ) + d), by omega⟩) := by
  refine (meanAt_eq i x0 x1 x2 q kt v g row d ⟨1024 * n + row, by omega⟩ ⟨2 * j + g, by omega⟩ ?_ (fun e => ?_) (fun p e l => ?_) fun k => ?_).trans ?_
  · show 1024 * n + (row : ℕ) = _
    rw [hi]
  · refine (B.query row _).trans (congrArg _ (congrArg (ix2 _) (Fin.ext ?_)))
    show 512 * j + (256 * (g : ℕ) + e) = 256 * (2 * j + g) + e
    omega
  · exact B.key g p e l
  · refine (B.value k _).trans (congrArg _ (congrArg (ix2 _) (Fin.ext ?_)))
    show 256 * j + (128 * (g : ℕ) + d) = 128 * (2 * j + g) + d
    omega
  · refine congrArg (plain q kt v) (congrArg (ix2 _) (Fin.ext ?_))
    show 128 * (2 * j + (g : ℕ)) + (d : ℕ) = 256 * j + (128 * g + d)
    omega

end arrays

end Cert.FlashDIdeal.Flash

end
-- ==== Proof.FlashDValue.lean ====
/- The attention of the last branch: the array after the run is the plain attention, for finite queries, keys and values. -/
module

public import proofs.«01_k».proof.Proof.FinitePre
public import proofs.«01_k».proof.Proof.FlashBlocks
public import proofs.«01_k».proof.Proof.FlashDStores
public import proofs.«01_k».proof.Proof.Gen.FlashDIdeal.Value
public import Idealize.ShloMosaic.Lib.Pipeline.ValueKit

@[expose] public section

set_option maxRecDepth 65536

noncomputable section

namespace Cert.FlashDIdeal.Flash

open Cert.FlashDIdeal Cert.FlashDIdeal.Gen Idealize.ShloMosaic Idealize.ShloMosaic.TcCoe Idealize.SL.Sem
open Idealize.ShloMosaic.Pipeline (Dat)
open Cert.Running
open Cert.FlashDRefIdeal.Attn (plain)

attribute [local instance] byStretch

variable (m : (ℓ : Loc nD τ sig) → Buf (Elt Ideal) ℓ)

/-- Where each window's block lies at grid point `t`. -/
theorem place : ∀ t : Fin cfg0.N, win0_0.index t = ![t.val % 16, t.val / 16] ∧ win0_1.index t = ![t.val / 16, 0, 0, 0]
    ∧ win0_2.index t = ![0, t.val / 16] ∧ win0_3.index t = ![t.val % 16, t.val / 16] :=
  (by decide +kernel : ∀ t : Fin grid0.N, _)

theorem row_block : ∀ t : Fin cfg0.N, ((grid0.coords t 1 : Fin _) : ℕ) = t.val % 16 :=
  (by decide +kernel : ∀ t : Fin grid0.N, _)

theorem points (t : Fin cfg0.N) : t.val < 64 := lt_of_lt_of_eq t.isLt (by decide)

/-- The blocks at a grid point are those of the arrays. -/
theorem blocks (c : Dev nD) (t : Fin cfg0.N) :
    Blocks (m ((c : Thread nD τ).loc main_arg0)) (m ((c : Thread nD τ).loc main_arg1)) (m ((c : Thread nD τ).loc main_arg2))
      (t.val % 16) (t.val / 16) (by omega) (by have := points t; omega) (iblk m c 0 t) (iblk m c 1 t) (iblk m c 2 t) := by
  have := points t
  refine ⟨fun a b => ?_, fun g p e l => ?_, fun k b => ?_⟩
  · show V m c main_arg0 (((cfg0.win 0).blk t).view.emb (ix2 a b)) = _
    refine congrArg (V m c main_arg0) ?_
    blk_ext [place t]
  · show V m c main_arg1 (((cfg0.win 1).blk t).view.emb (ix4 g p e l)) = _
    refine congrArg (V m c main_arg1) ?_
    blk_ext [place t]
  · show V m c main_arg2 (((cfg0.win 2).blk t).view.emb (ix2 k b)) = _
    refine congrArg (V m c main_arg2) ?_
    blk_ext [place t]

/-- What grid point `t` leaves in the output block is the plain attention at the array index it covers. -/
theorem at_point (c : Dev nD) (h : Reals (m ((c : Thread nD τ).loc main_arg0)) (m ((c : Thread nD τ).loc main_arg1)) (m ((c : Thread nD τ).loc main_arg2)))
    (t : Fin cfg0.N) (y : S1024x256.Idx) :
    outsAt0 m c t y = plain (m ((c : Thread nD τ).loc main_arg0)) (m ((c : Thread nD τ).loc main_arg1))
        (m ((c : Thread nD τ).loc main_arg2)) (((cfg0.win 3).blk t).view.emb y) := by
  have ht := points t
  obtain ⟨row, g, d, rfl⟩ := split_block y
  unfold outsAt0 out0_A_3
  rw [View.read_writes_junk_eq_canon, run_eq]
  refine ((out_at _ _ _ _ _ _ _ _ _ _ _ _ _ ((blocks m c t).real h) g row d).trans ((blocks m c t).mean _ (row_block t) g row d)).trans ?_
  refine congrArg (plain _ _ _) ?_
  blk_ext [place t]

/-- The array after the run is the plain attention. -/
theorem array (c : Dev nD) (h : Reals (m ((c : Thread nD τ).loc main_arg0)) (m ((c : Thread nD τ).loc main_arg1)) (m ((c : Thread nD τ).loc main_arg2))) :
    (dats m 0 c).arrAt 3 (cfgs 0).N
      = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact at_point m c h t y

end Cert.FlashDIdeal.Flash

end
-- ==== Proof.FlashCStores.lean ====
/- The forgetting attention: what its program stores are the stores of the chunks, position by position. -/
module

public import proofs.«01_k».proof.Proof.FlashDParts
public import proofs.«01_k».proof.Proof.Gen.FlashCIdeal.Frame

@[expose] public section

set_option maxRecDepth 65536

noncomputable section

namespace Cert.FlashCIdeal.Flash

open Cert.FlashCIdeal Cert.FlashCIdeal.Gen Idealize.ShloMosaic Idealize.ShloMosaic.TcCoe Idealize.SL.Sem
open Cert.Running
open Cert.FlashDIdeal.Flash (fill6 fill7 fill8 mPieces lPieces accPieces carried carried_of outPieces)

attribute [local instance] byPosition

variable {F : FTy → Type} [FloatOps F] [Named F]

section trip

variable (i : grid0.Coords) (arg2 : Memref sig .tc .vmem S1024x512 .bf16) (arg3 : Memref sig .tc .vmem S2x16x256x1024 .bf16)
  (arg4 : Memref sig .tc .vmem S16384x256 .bf16) (arg6 arg7 arg8 : Memref sig .tc .vmem S2x1024x128 .f32)
  (X2 : BufTy.Contents (Elt F) arg2.view.ty) (X3 : BufTy.Contents (Elt F) arg3.view.ty) (X4 : BufTy.Contents (Elt F) arg4.view.ty)
  (k : Fin (k0_t1_loop i).trips)
  (f6 : BufTy.Contents (Elt F) arg6.view.ty) (f7 : BufTy.Contents (Elt F) arg7.view.ty) (f8 : BufTy.Contents (Elt F) arg8.view.ty)

theorem trip_m (𝒱 : Variants) (c : Dev nD) (bd : Option 𝒱.V) (harg2 : arg2.IsWhole) (harg3 : arg3.IsWhole) (harg4 : arg4.IsWhole)
    (arg5 : Memref sig .tc .vmem S1024x256 .bf16) (harg5 : arg5.IsWhole) (harg6 : arg6.IsWhole) (harg7 : arg7.IsWhole) (harg8 : arg8.IsWhole) :
    (trip_k0_t1 (F := F) 𝒱 c bd i arg2 harg2 arg3 harg3 arg4 harg4 arg5 harg5 arg6 harg6 arg7 harg7 arg8 harg8 X2 X3 X4 k).1 f6 f7 f8
      = mPieces i arg2 arg3 arg6 X2 X3 k f6 := by
  unfold trip_k0_t1
  sl_kernel_rfl

theorem trip_l (𝒱 : Variants) (c : Dev nD) (bd : Option 𝒱.V) (harg2 : arg2.IsWhole) (harg3 : arg3.IsWhole) (harg4 : arg4.IsWhole)
    (arg5 : Memref sig .tc .vmem S1024x256 .bf16) (harg5 : arg5.IsWhole) (harg6 : arg6.IsWhole) (harg7 : arg7.IsWhole) (harg8 : arg8.IsWhole) :
    (trip_k0_t1 (F := F) 𝒱 c bd i arg2 harg2 arg3 harg3 arg4 harg4 arg5 harg5 arg6 harg6 arg7 harg7 arg8 harg8 X2 X3 X4 k).2.1 f6 f7 f8
      = lPieces i arg2 arg3 arg6 arg7 X2 X3 k f6 f7 := by
  unfold trip_k0_t1
  sl_kernel_rfl

theorem trip_acc (𝒱 : Variants) (c : Dev nD) (bd : Option 𝒱.V) (harg2 : arg2.IsWhole) (harg3 : arg3.IsWhole) (harg4 : arg4.IsWhole)
    (arg5 : Memref sig .tc .vmem S1024x256 .bf16) (harg5 : arg5.IsWhole) (harg6 : arg6.IsWhole) (harg7 : arg7.IsWhole) (harg8 : arg8.IsWhole) :
    (trip_k0_t1 (F := F) 𝒱 c bd i arg2 harg2 arg3 harg3 arg4 harg4 arg5 harg5 arg6 harg6 arg7 harg7 arg8 harg8 X2 X3 X4 k).2.2.1 f6 f7 f8
      = accPieces i arg2 arg3 arg4 arg6 arg8 X2 X3 X4 k f6 f8 := by
  unfold trip_k0_t1
  sl_kernel_rfl

end trip

section run

variable (c : Dev nD) (i : grid0.Coords) (arg2 : Memref sig .tc .vmem S1024x512 .bf16) (harg2 : arg2.IsWhole)
  (arg3 : Memref sig .tc .vmem S2x16x256x1024 .bf16) (harg3 : arg3.IsWhole) (arg4 : Memref sig .tc .vmem S16384x256 .bf16) (harg4 : arg4.IsWhole)
  (arg5 : Memref sig .tc .vmem S1024x256 .bf16) (harg5 : arg5.IsWhole)
  (arg6 : Memref sig .tc .vmem S2x1024x128 .f32) (harg6 : arg6.IsWhole) (arg7 : Memref sig .tc .vmem S2x1024x128 .f32) (harg7 : arg7.IsWhole)
  (arg8 : Memref sig .tc .vmem S2x1024x128 .f32) (harg8 : arg8.IsWhole)
  (x0 : Vec F S1024x512 .bf16) (x1 : Vec F S2x16x256x1024 .bf16) (x2 : Vec F S16384x256 .bf16)

/-- The stores of the first `n` trips. -/
def trips1 (n : ℕ) :=
  pb_k0_t1 (F := F) Variants.none c none i arg2 harg2 arg3 harg3 arg4 harg4 arg5 harg5 arg6 harg6 arg7 harg7 arg8 harg8
    (harg2.unread x0) (harg3.unread x1) (harg4.unread x2)
    (arg6.view.writes (Elt F) arg6.view.junk fill6) (arg7.view.writes (Elt F) arg7.view.junk fill7) (arg8.view.writes (Elt F) arg8.view.junk fill8) n

/-- The stores of the second loop, which makes no trip. -/
def trips2 :=
  let P := trips1 c i arg2 harg2 arg3 harg3 arg4 harg4 arg5 harg5 arg6 harg6 arg7 harg7 arg8 harg8 x0 x1 x2 (k0_t1_loop i).trips
  pb_k0_t2 (F := F) Variants.none c none i arg2 harg2 arg3 harg3 arg4 harg4 arg5 harg5 arg6 harg6 arg7 harg7 arg8 harg8
    (kernelRun0_A.sl.v16 i) (harg2.unread x0) (harg3.unread x1) (harg4.unread x2)
    (arg6.view.writes (Elt F) arg6.view.junk (P.1 ++ fill6)) (arg7.view.writes (Elt F) arg7.view.junk (P.2.1 ++ fill7))
    (arg8.view.writes (Elt F) arg8.view.junk (P.2.2 ++ fill8)) (k0_t2_loop i).trips

theorem run_pieces :
    (kernelRun0_A (F := F) c i arg2 harg2 arg3 harg3 arg4 harg4 arg5 harg5 arg6 harg6 arg7 harg7 arg8 harg8 x0 x1 x2).1
      = (let P := trips1 c i arg2 harg2 arg3 harg3 arg4 harg4 arg5 harg5 arg6 harg6 arg7 harg7 arg8 harg8 x0 x1 x2 (k0_t1_loop i).trips
        let Q := trips2 c i arg2 harg2 arg3 harg3 arg4 harg4 arg5 harg5 arg6 harg6 arg7 harg7 arg8 harg8 x0 x1 x2
        outPieces i arg2 arg3 arg4 arg6 arg7 arg8 (harg2.unread x0) (harg3.unread x1) (harg4.unread x2)
          (Q.1 ++ (P.1 ++ fill6)) (Q.2.1 ++ (P.2.1 ++ fill7)) (Q.2.2 ++ (P.2.2 ++ fill8))) := by
  sl_kernel_rfl

/-- The second loop makes no trip. -/
theorem trips2_eq : trips2 c i arg2 harg2 arg3 harg3 arg4 harg4 arg5 harg5 arg6 harg6 arg7 harg7 arg8 harg8 x0 x1 x2 = ([], [], []) := by
  have h0 : (k0_t2_loop i).trips = 0 := Nat.le_zero.mp (k0_t2_abs i).2.1
  unfold trips2
  rw [h0]
  rfl

theorem trips1_succ (k : Fin (k0_t1_loop i).trips) :
    trips1 c i arg2 harg2 arg3 harg3 arg4 harg4 arg5 harg5 arg6 harg6 arg7 harg7 arg8 harg8 x0 x1 x2 (k + 1)
      = (let P := trips1 c i arg2 harg2 arg3 harg3 arg4 harg4 arg5 harg5 arg6 harg6 arg7 harg7 arg8 harg8 x0 x1 x2 k
        let f6 := arg6.view.writes (Elt F) (arg6.view.writes (Elt F) arg6.view.junk fill6) P.1
        let f7 := arg7.view.writes (Elt F) (arg7.view.writes (Elt F) arg7.view.junk fill7) P.2.1
        let f8 := arg8.view.writes (Elt F) (arg8.view.writes (Elt F) arg8.view.junk fill8) P.2.2
        (mPieces i arg2 arg3 arg6 (harg2.unread x0) (harg3.unread x1) k f6 ++ P.1,
          lPieces i arg2 arg3 arg6 arg7 (harg2.unread x0) (harg3.unread x1) k f6 f7 ++ P.2.1,
          accPieces i arg2 arg3 arg4 arg6 arg8 (harg2.unread x0) (harg3.unread x1) (harg4.unread x2) k f6 f8 ++ P.2.2)) := by
  refine (pb_k0_t1_succ (F := F) Variants.none c none i arg2 harg2 arg3 harg3 arg4 harg4 arg5 harg5 arg6 harg6 arg7 harg7 arg8 harg8
    (harg2.unread x0) (harg3.unread x1) (harg4.unread x2)
    (arg6.view.writes (Elt F) arg6.view.junk fill6) (arg7.view.writes (Elt F) arg7.view.junk fill7) (arg8.view.writes (Elt F) arg8.view.junk fill8) k).trans ?_
  simp only [trip_m, trip_l, trip_acc]
  rfl

theorem run_eq :
    (kernelRun0_A (F := F) c i arg2 harg2 arg3 harg3 arg4 harg4 arg5 harg5 arg6 harg6 arg7 harg7 arg8 harg8 x0 x1 x2).1
      = (let L := carried i arg2 arg3 arg4 arg6 arg7 arg8 (harg2.unread x0) (harg3.unread x1) (harg4.unread x2) (k0_t1_loop i).trips
        outPieces i arg2 arg3 arg4 arg6 arg7 arg8 (harg2.unread x0) (harg3.unread x1) (harg4.unread x2) L.1 L.2.1 L.2.2) := by
  rw [carried_of i arg2 arg3 arg4 arg6 arg7 arg8 (harg2.unread x0) (harg3.unread x1) (harg4.unread x2)
    (trips1 c i arg2 harg2 arg3 harg3 arg4 harg4 arg5 harg5 arg6 harg6 arg7 harg7 arg8 harg8 x0 x1 x2) rfl
    (trips1_succ c i arg2 harg2 arg3 harg3 arg4 harg4 arg5 harg5 arg6 harg6 arg7 harg7 arg8 harg8 x0 x1 x2) _ le_rfl, run_pieces, trips2_eq]
  rfl

end run

end Cert.FlashCIdeal.Flash

end
-- ==== Proof.FlashCRef.lean ====
/- The forgetting attention's reference is the same plain attention, position by position. -/
module

public import proofs.«01_k».proof.Proof.FlashDRef
public import proofs.«01_k».proof.Proof.Gen.FlashCRefIdeal.Run

@[expose] public section

set_option maxRecDepth 65536

noncomputable section

namespace Cert.FlashCRefIdeal.Attn

open Cert.FlashCRefIdeal Cert.FlashCRefIdeal.Gen Idealize.ShloMosaic
open Cert.Running

theorem result (m : (ℓ : Loc nD τ sig) → Buf (Elt Ideal) ℓ) (c : Dev nD) :
    Value.res_out0 m c = Cert.FlashDRefIdeal.Attn.plain (U := byPosition) (m ((c.tc : Thread nD τ).loc main_arg0))
      (m ((c.tc : Thread nD τ).loc main_arg1)) (m ((c.tc : Thread nD τ).loc main_arg2)) := by
  sl_kernel_rfl

end Cert.FlashCRefIdeal.Attn

end
-- ==== Proof.FlashCValue.lean ====
/- The forgetting attention: the array after the run is the plain attention, for finite queries, keys and values. -/
module

public import proofs.«01_k».proof.Proof.FinitePre
public import proofs.«01_k».proof.Proof.FlashBlocks
public import proofs.«01_k».proof.Proof.FlashCStores
public import proofs.«01_k».proof.Proof.FlashCRef
public import proofs.«01_k».proof.Proof.Gen.FlashCIdeal.Value
public import Idealize.ShloMosaic.Lib.Pipeline.ValueKit

@[expose] public section

set_option maxRecDepth 65536

noncomputable section

namespace Cert.FlashCIdeal.Flash

open Cert.FlashCIdeal Cert.FlashCIdeal.Gen Idealize.ShloMosaic Idealize.ShloMosaic.TcCoe Idealize.SL.Sem
open Idealize.ShloMosaic.Pipeline (Dat)
open Cert.Running
open Cert.FlashDIdeal.Flash (Blocks Reals split_block out_at)
open Cert.FlashDRefIdeal.Attn (plain)

attribute [local instance] byPosition

variable (m : (ℓ : Loc nD τ sig) → Buf (Elt Ideal) ℓ)

/-- Where each window's block lies at grid point `t`. -/
theorem place : ∀ t : Fin cfg0.N, win0_0.index t = ![t.val % 16, t.val / 16] ∧ win0_1.index t = ![t.val / 16, 0, 0, 0]
    ∧ win0_2.index t = ![0, t.val / 16] ∧ win0_3.index t = ![t.val % 16, t.val / 16] :=
  (by decide +kernel : ∀ t : Fin grid0.N, _)

theorem row_block : ∀ t : Fin cfg0.N, ((grid0.coords t 1 : Fin _) : ℕ) = t.val % 16 :=
  (by decide +kernel : ∀ t : Fin grid0.N, _)

theorem points (t : Fin cfg0.N) : t.val < 64 := lt_of_lt_of_eq t.isLt (by decide)

/-- The blocks at a grid point are those of the arrays. -/
theorem blocks (c : Dev nD) (t : Fin cfg0.N) :
    Blocks (m ((c : Thread nD τ).loc main_arg0)) (m ((c : Thread nD τ).loc main_arg1)) (m ((c : Thread nD τ).loc main_arg2))
      (t.val % 16) (t.val / 16) (by omega) (by have := points t; omega) (iblk m c 0 t) (iblk m c 1 t) (iblk m c 2 t) := by
  have := points t
  refine ⟨fun a b => ?_, fun g p e l => ?_, fun k b => ?_⟩
  · show V m c main_arg0 (((cfg0.win 0).blk t).view.emb (ix2 a b)) = _
    refine congrArg (V m c main_arg0) ?_
    blk_ext [place t]
  · show V m c main_arg1 (((cfg0.win 1).blk t).view.emb (ix4 g p e l)) = _
    refine congrArg (V m c main_arg1) ?_
    blk_ext [place t]
  · show V m c main_arg2 (((cfg0.win 2).blk t).view.emb (ix2 k b)) = _
    refine congrArg (V m c main_arg2) ?_
    blk_ext [place t]

/-- What grid point `t` leaves in the output block is the plain attention at the array index it covers. -/
theorem at_point (c : Dev nD) (h : Reals (m ((c : Thread nD τ).loc main_arg0)) (m ((c : Thread nD τ).loc main_arg1)) (m ((c : Thread nD τ).loc main_arg2)))
    (t : Fin cfg0.N) (y : S1024x256.Idx) :
    outsAt0 m c t y = plain (m ((c : Thread nD τ).loc main_arg0)) (m ((c : Thread nD τ).loc main_arg1))
        (m ((c : Thread nD τ).loc main_arg2)) (((cfg0.win 3).blk t).view.emb y) := by
  have ht := points t
  obtain ⟨row, g, d, rfl⟩ := split_block y
  unfold outsAt0 out0_A_3
  rw [View.read_writes_junk_eq_canon, run_eq]
  refine ((out_at _ _ _ _ _ _ _ _ _ _ _ _ _ ((blocks m c t).real h) g row d).trans ((blocks m c t).mean _ (row_block t) g row d)).trans ?_
  refine congrArg (plain _ _ _) ?_
  blk_ext [place t]

/-- The array after the run is the plain attention. -/
theorem array (c : Dev nD) (h : Reals (m ((c : Thread nD τ).loc main_arg0)) (m ((c : Thread nD τ).loc main_arg1)) (m ((c : Thread nD τ).loc main_arg2))) :
    (dats m 0 c).arrAt 3 (cfgs 0).N
      = plain (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact at_point m c h t y

end Cert.FlashCIdeal.Flash

end
-- ==== Proof.lean ====
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.MergeValue
public import proofs.«01_k».proof.Proof.Gen.Resid.Frame
public import proofs.«01_k».proof.Proof.Gen.ResidIdeal.Value
public import proofs.«01_k».proof.Proof.Gen.ResidRefIdeal.Run
public import proofs.«01_k».proof.Proof.ResidValue
public import proofs.«01_k».proof.Proof.Gen.MoeUp.Frame
public import proofs.«01_k».proof.Proof.Gen.MoeUpIdeal.Value
public import proofs.«01_k».proof.Proof.Gen.MoeUpRefIdeal.Run
public import proofs.«01_k».proof.Proof.MoeUpValue
public import proofs.«01_k».proof.Proof.Gen.MoeDown.Frame
public import proofs.«01_k».proof.Proof.Gen.MoeDownIdeal.Value
public import proofs.«01_k».proof.Proof.Gen.MoeDownRefIdeal.Run
public import proofs.«01_k».proof.Proof.MoeDownValue
public import proofs.«01_k».proof.Proof.Gen.InProj.Frame
public import proofs.«01_k».proof.Proof.Gen.InProjIdeal.Value
public import proofs.«01_k».proof.Proof.Gen.InProjRefIdeal.Run
public import proofs.«01_k».proof.Proof.InProjValue
public import proofs.«01_k».proof.Proof.Gen.Ada.Frame
public import proofs.«01_k».proof.Proof.Gen.AdaIdeal.Value
public import proofs.«01_k».proof.Proof.Gen.AdaRefIdeal.Run
public import proofs.«01_k».proof.Proof.AdaValue
public import proofs.«01_k».proof.Proof.Gen.Norm.Frame
public import proofs.«01_k».proof.Proof.Gen.NormIdeal.Value
public import proofs.«01_k».proof.Proof.Gen.NormRefIdeal.Run
public import proofs.«01_k».proof.Proof.NormValue
public import proofs.«01_k».proof.Proof.Gen.PrepD.Frame
public import proofs.«01_k».proof.Proof.Gen.PrepDIdeal.Value
public import proofs.«01_k».proof.Proof.Gen.PrepDRefIdeal.Run
public import proofs.«01_k».proof.Proof.PrepDValue
public import proofs.«01_k».proof.Proof.Gen.FlashD.Frame
public import proofs.«01_k».proof.Proof.FlashDValue
public import proofs.«01_k».proof.Proof.Gen.FlashC.Frame
public import proofs.«01_k».proof.Proof.FlashCValue
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

theorem frame_MergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic_Merge : Cert.algebraic_MergeIdeal_MergeRefIdeal := by
  pair_intro
  · run_from Cert.MergeIdeal.Value.run_blocks m g
  · refine (θ_run _ _ _).mono (fun r h c => ⟨?_, (h c).2⟩) (Cert.MergeRefIdeal.Value.run m' g')
    obtain ⟨h0, h1, h2, h3, h4, h5, h6, h7⟩ := hagree c
    refine ((h c).1.trans (Cert.MergeRefIdeal.Sum.result m' c)).trans ?_
    rw [h0, h1, h2, h3, h4, h5, h6, h7]
    exact (Cert.MergeIdeal.Sum.array m c).symm

theorem frame_ResidRef : Cert.quiescent_ResidRefIdeal := fun m ρ _ =>
  (θ_run Cert.ResidRefIdeal.defs _ _).mono (fun r h => ⟨fun c => (h c).2, sem_eq_zero_of_no_sems (by decide) r.2⟩)
    (Cert.ResidRefIdeal.Value.run (F := Ideal) m ρ)

theorem algebraic_Resid : Cert.algebraic_ResidIdeal_ResidRefIdeal := by
  pair_intro
  · run_from Cert.ResidIdeal.Value.run_blocks m g
  · run_from Cert.ResidRefIdeal.Value.run m' g'
    exact (Cert.ResidIdeal.Proj.array m c).symm

theorem frame_MoeUpRef : Cert.quiescent_MoeUpRefIdeal := fun m ρ _ =>
  (θ_run Cert.MoeUpRefIdeal.defs _ _).mono (fun r h => ⟨fun c => (h c).2, sem_eq_zero_of_no_sems (by decide) r.2⟩)
    (Cert.MoeUpRefIdeal.Value.run (F := Ideal) m ρ)

theorem algebraic_MoeUp : Cert.algebraic_MoeUpIdeal_MoeUpRefIdeal := by
  pair_intro
  · run_from Cert.MoeUpIdeal.Value.run_blocks m g
  · run_from Cert.MoeUpRefIdeal.Value.run m' g'
    exact (Cert.MoeUpIdeal.Act.array m c).symm

theorem frame_MoeDownRef : Cert.quiescent_MoeDownRefIdeal := fun m ρ _ =>
  (θ_run Cert.MoeDownRefIdeal.defs _ _).mono (fun r h => ⟨fun c => (h c).2, sem_eq_zero_of_no_sems (by decide) r.2⟩)
    (Cert.MoeDownRefIdeal.Value.run (F := Ideal) m ρ)

theorem algebraic_MoeDown : Cert.algebraic_MoeDownIdeal_MoeDownRefIdeal := by
  pair_intro
  · run_from Cert.MoeDownIdeal.Value.run_blocks m g
  · run_from Cert.MoeDownRefIdeal.Value.run m' g'
    exact (Cert.MoeDownIdeal.Mix.array m c).symm

theorem frame_InProjRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem algebraic_InProj : Cert.algebraic_InProjIdeal_InProjRefIdeal := by
  pair_intro
  · run_from Cert.InProjIdeal.Value.run_blocks m g
  · run_from Cert.InProjRefIdeal.Value.run m' g'
    exact (Cert.InProjIdeal.In.array m c).symm

theorem frame_AdaRef : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic_Ada : Cert.algebraic_AdaIdeal_AdaRefIdeal := by
  pair_intro
  · run_from Cert.AdaIdeal.Value.run_blocks m g
  · run_from Cert.AdaRefIdeal.Value.run m' g'
    exact (Cert.AdaIdeal.Shared.array m c).symm

theorem frame_NormRef : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

theorem algebraic_Norm : Cert.algebraic_NormIdeal_NormRefIdeal := by
  pair_intro
  · run_from Cert.NormIdeal.Value.run_blocks m g
  · run_from Cert.NormRefIdeal.Value.run m' g'
    exact (Cert.NormIdeal.Scaled.array m c).symm

theorem frame_PrepDRef : Cert.quiescent_PrepDRefIdeal := fun m ρ _ =>
  (θ_run Cert.PrepDRefIdeal.defs _ _).mono (fun r h => ⟨fun c => (h c).2.2.2, sem_eq_zero_of_no_sems (by decide) r.2⟩)
    (Cert.PrepDRefIdeal.Value.run (F := Ideal) m ρ)

theorem algebraic_PrepD : Cert.algebraic_PrepDIdeal_PrepDRefIdeal_pre_tables (hPre_tables := Cert.Pre_tables.facts) := by
  haveI := Cert.Pre_tables.facts
  pair_intro
  · run_from Cert.PrepDIdeal.Value.run_blocks m g
  · refine (θ_run _ _ _).mono (fun r h c => ?_) (Cert.PrepDRefIdeal.Value.run m' g')
    obtain ⟨h0, h1, h2, h3, h4, h5, h6, h7, h8⟩ := hagree c
    have ht := Cert.PrepDIdeal.Prep.tables_of m c (hpre c)
    refine ⟨((h c).1.trans (Cert.PrepDRefIdeal.Prep.result_queries m' c)).trans ?_,
      ((h c).2.1.trans (Cert.PrepDRefIdeal.Prep.result_keys m' c)).trans ?_, (h c).2.2.1.trans ?_, (h c).2.2.2⟩
    · rw [h0, h3, h5, h7, h8]
      exact (Cert.PrepDIdeal.Prep.array_queries m c ht).symm
    · rw [h1, h2, h4, h6, h7, h8]
      exact (Cert.PrepDIdeal.Prep.array_keys m c ht).symm
    · rw [h1, h4]
      exact (Cert.PrepDIdeal.Prep.array_values m c).symm

theorem frame_FlashDRef : Cert.quiescent_FlashDRefIdeal := fun m ρ _ =>
  (θ_run Cert.FlashDRefIdeal.defs _ _).mono (fun r h => ⟨fun c => (h c).2, sem_eq_zero_of_no_sems (by decide) r.2⟩)
    (Cert.FlashDRefIdeal.Value.run (F := Ideal) m ρ)

theorem algebraic_FlashD : Cert.algebraic_FlashDIdeal_FlashDRefIdeal_pre_finite (hPre_finite := Cert.Pre_finite.facts) := by
  haveI := Cert.Pre_finite.facts
  pair_intro
  · run_from Cert.FlashDIdeal.Value.run_blocks m g
  · refine (θ_run _ _ _).mono (fun r h c => ⟨?_, (h c).2⟩) (Cert.FlashDRefIdeal.Value.run m' g')
    obtain ⟨h0, h1, h2⟩ := hagree c
    refine ((h c).1.trans (Cert.FlashDRefIdeal.Attn.result m' c)).trans ?_
    rw [h0, h1, h2]
    exact (Cert.FlashDIdeal.Flash.array m c (Cert.Pre_finite.reals _ _ _ (hpre c))).symm

theorem frame_FlashCRef : Cert.quiescent_FlashCRefIdeal := fun m ρ _ =>
  (θ_run Cert.FlashCRefIdeal.defs _ _).mono (fun r h => ⟨fun c => (h c).2, sem_eq_zero_of_no_sems (by decide) r.2⟩)
    (Cert.FlashCRefIdeal.Value.run (F := Ideal) m ρ)

theorem algebraic_FlashC : Cert.algebraic_FlashCIdeal_FlashCRefIdeal_pre_finite (hPre_finite := Cert.Pre_finite.facts) := by
  haveI := Cert.Pre_finite.facts
  pair_intro
  · run_from Cert.FlashCIdeal.Value.run_blocks m g
  · refine (θ_run _ _ _).mono (fun r h c => ⟨?_, (h c).2⟩) (Cert.FlashCRefIdeal.Value.run m' g')
    obtain ⟨h0, h1, h2⟩ := hagree c
    refine ((h c).1.trans (Cert.FlashCRefIdeal.Attn.result m' c)).trans ?_
    rw [h0, h1, h2]
    exact (Cert.FlashCIdeal.Flash.array m c (Cert.Pre_finite.reals _ _ _ (hpre c))).symm

theorem claim : Cert.Claim :=
  ⟨Cert.Merge.Gen.facts, Cert.MergeIdeal.Gen.facts, Cert.MergeRefIdeal.Gen.facts,
    Cert.Resid.Gen.facts, Cert.ResidIdeal.Gen.facts, Cert.ResidRefIdeal.Gen.facts,
    Cert.MoeUp.Gen.facts, Cert.MoeUpIdeal.Gen.facts, Cert.MoeUpRefIdeal.Gen.facts,
    Cert.MoeDown.Gen.facts, Cert.MoeDownIdeal.Gen.facts, Cert.MoeDownRefIdeal.Gen.facts,
    Cert.InProj.Gen.facts, Cert.InProjIdeal.Gen.facts, Cert.InProjRefIdeal.Gen.facts,
    Cert.Ada.Gen.facts, Cert.AdaIdeal.Gen.facts, Cert.AdaRefIdeal.Gen.facts,
    Cert.Norm.Gen.facts, Cert.NormIdeal.Gen.facts, Cert.NormRefIdeal.Gen.facts,
    Cert.PrepD.Gen.facts, Cert.PrepDIdeal.Gen.facts, Cert.PrepDRefIdeal.Gen.facts,
    Cert.FlashD.Gen.facts, Cert.FlashDIdeal.Gen.facts, Cert.FlashDRefIdeal.Gen.facts,
    Cert.FlashC.Gen.facts, Cert.FlashCIdeal.Gen.facts, Cert.FlashCRefIdeal.Gen.facts,
    Cert.Pre_tables.facts, Cert.Pre_finite.facts,
    fun m ρ _ => Cert.Merge.Gen.frame m ρ, fun m ρ _ => Cert.MergeIdeal.Gen.frame m ρ,
    frame_MergeRef,
    fun m ρ _ => Cert.Resid.Gen.frame m ρ, fun m ρ _ => Cert.ResidIdeal.Gen.frame m ρ,
    frame_ResidRef,
    fun m ρ _ => Cert.MoeUp.Gen.frame m ρ, fun m ρ _ => Cert.MoeUpIdeal.Gen.frame m ρ,
    frame_MoeUpRef,
    fun m ρ _ => Cert.MoeDown.Gen.frame m ρ, fun m ρ _ => Cert.MoeDownIdeal.Gen.frame m ρ,
    frame_MoeDownRef,
    fun m ρ _ => Cert.InProj.Gen.frame m ρ, fun m ρ _ => Cert.InProjIdeal.Gen.frame m ρ,
    frame_InProjRef,
    fun m ρ _ => Cert.Ada.Gen.frame m ρ, fun m ρ _ => Cert.AdaIdeal.Gen.frame m ρ,
    frame_AdaRef,
    fun m ρ _ => Cert.Norm.Gen.frame m ρ, fun m ρ _ => Cert.NormIdeal.Gen.frame m ρ,
    frame_NormRef,
    fun m ρ _ => Cert.PrepD.Gen.frame m ρ, fun m ρ _ => Cert.PrepDIdeal.Gen.frame m ρ, fun m ρ _ => Cert.PrepDIdeal.Gen.frame m ρ,
    frame_PrepDRef, fun m ρ _ => frame_PrepDRef m ρ trivial,
    fun m ρ _ => Cert.FlashD.Gen.frame m ρ, fun m ρ _ => Cert.FlashDIdeal.Gen.frame m ρ, fun m ρ _ => Cert.FlashDIdeal.Gen.frame m ρ,
    frame_FlashDRef, fun m ρ _ => frame_FlashDRef m ρ trivial,
    fun m ρ _ => Cert.FlashC.Gen.frame m ρ, fun m ρ _ => Cert.FlashCIdeal.Gen.frame m ρ, fun m ρ _ => Cert.FlashCIdeal.Gen.frame m ρ,
    frame_FlashCRef, fun m ρ _ => frame_FlashCRef m ρ trivial,
    trivial, algebraic_Merge, trivial, algebraic_Resid, trivial, algebraic_MoeUp, trivial, algebraic_MoeDown, trivial, algebraic_InProj,
    trivial, algebraic_Ada, trivial, algebraic_Norm,
    IdealRules.named_const.statement Cert.PrepDIdeal.κ "part" .f32 0x3BAAAAAB#32 ((1 / 192 : ℝ) : EReal) rfl, algebraic_PrepD,
    IdealRules.named_const.statement Cert.FlashDIdeal.κ "mask" .f32 0xF149F2CA#32 ⊥ rfl, algebraic_FlashD,
    IdealRules.named_const.statement Cert.FlashCIdeal.κ "mask" .f32 0xF149F2CA#32 ⊥ rfl, algebraic_FlashC⟩

end Cert.Proof

end
